-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3)
      ∧ r.2.mem ((c.tc : Thread Cert.OutS.nD Cert.OutS.τ).loc Cert.OutS.main_arg4) = m ((c.tc : Thread Cert.OutS.nD Cert.OutS.τ).loc Cert.OutS.main_arg4)
      ∧ r.2.mem ((c.tc : Thread Cert.OutS.nD Cert.OutS.τ).loc Cert.OutS.main_arg5) = m ((c.tc : Thread Cert.OutS.nD Cert.OutS.τ).loc Cert.OutS.main_arg5)
      ∧ r.2.mem ((c.tc : Thread Cert.OutS.nD Cert.OutS.τ).loc Cert.OutS.main_arg6) = m ((c.tc : Thread Cert.OutS.nD Cert.OutS.τ).loc Cert.OutS.main_arg6))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
      ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
      ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5)
      ∧ r.2.mem ((c.tc : Thread Cert.OutSIdeal.nD Cert.OutSIdeal.τ).loc Cert.OutSIdeal.main_arg6) = m ((c.tc : Thread Cert.OutSIdeal.nD Cert.OutSIdeal.τ).loc Cert.OutSIdeal.main_arg6))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3)
      ∧ r.2.mem ((c.tc : Thread Cert.OutSRefIdeal.nD Cert.OutSRefIdeal.τ).loc Cert.OutSRefIdeal.main_arg4) = m ((c.tc : Thread Cert.OutSRefIdeal.nD Cert.OutSRefIdeal.τ).loc Cert.OutSRefIdeal.main_arg4)
      ∧ r.2.mem ((c.tc : Thread Cert.OutSRefIdeal.nD Cert.OutSRefIdeal.τ).loc Cert.OutSRefIdeal.main_arg5) = m ((c.tc : Thread Cert.OutSRefIdeal.nD Cert.OutSRefIdeal.τ).loc Cert.OutSRefIdeal.main_arg5)
      ∧ r.2.mem ((c.tc : Thread Cert.OutSRefIdeal.nD Cert.OutSRefIdeal.τ).loc Cert.OutSRefIdeal.main_arg6) = m ((c.tc : Thread Cert.OutSRefIdeal.nD Cert.OutSRefIdeal.τ).loc Cert.OutSRefIdeal.main_arg6))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def preserves_Ret_RetIdeal : Prop :=
  IdealRules.named_const.Statement Cert.RetIdeal.κ "gamma0" .f32 0x3E063AE5#32 ((279993793990258235750468749959300213014699042596341116563305503247751586492770004816505534904321 / 2135987035920910082395021706169552114602704522356652769947041607822219725780640550022962086936576 : ℝ) : EReal)
  ∧ IdealRules.named_const.Statement Cert.RetIdeal.κ "gamma1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.RetIdeal.κ "gamma2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.RetIdeal.κ "gamma3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v44_0)) (v1 : (c : Dev Cert.RetIdeal.nD) → Buf (Elt Ideal) ((c.tc : Thread Cert.RetIdeal.nD Cert.RetIdeal.τ).loc Cert.RetIdeal.main_v44_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v44_0) = v0 c
          ∧ r.2.mem ((c.tc : Thread Cert.RetIdeal.nD Cert.RetIdeal.τ).loc Cert.RetIdeal.main_v44_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v88) = v0 c
          ∧ r.2.mem ((c.tc : Thread Cert.RetRefIdeal.nD Cert.RetRefIdeal.τ).loc Cert.RetRefIdeal.main_v61_8) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v31_0)) (v1 : (c : Dev Cert.ProjIdeal.nD) → Buf (Elt Ideal) ((c.tc : Thread Cert.ProjIdeal.nD Cert.ProjIdeal.τ).loc Cert.ProjIdeal.main_v31_1)) (v2 : (c : Dev Cert.ProjIdeal.nD) → Buf (Elt Ideal) ((c.tc : Thread Cert.ProjIdeal.nD Cert.ProjIdeal.τ).loc Cert.ProjIdeal.main_v31_2)) (v3 : (c : Dev Cert.ProjIdeal.nD) → Buf (Elt Ideal) ((c.tc : Thread Cert.ProjIdeal.nD Cert.ProjIdeal.τ).loc Cert.ProjIdeal.main_v31_3)) (v4 : (c : Dev Cert.ProjIdeal.nD) → Buf (Elt Ideal) ((c.tc : Thread Cert.ProjIdeal.nD Cert.ProjIdeal.τ).loc Cert.ProjIdeal.main_v31_4)) (v5 : (c : Dev Cert.ProjIdeal.nD) → Buf (Elt Ideal) ((c.tc : Thread Cert.ProjIdeal.nD Cert.ProjIdeal.τ).loc Cert.ProjIdeal.main_v31_5)) (v6 : (c : Dev Cert.ProjIdeal.nD) → Buf (Elt Ideal) ((c.tc : Thread Cert.ProjIdeal.nD Cert.ProjIdeal.τ).loc Cert.ProjIdeal.main_v31_6)) (v7 : (c : Dev Cert.ProjIdeal.nD) → Buf (Elt Ideal) ((c.tc : Thread Cert.ProjIdeal.nD Cert.ProjIdeal.τ).loc Cert.ProjIdeal.main_v31_7)) (v8 : (c : Dev Cert.ProjIdeal.nD) → Buf (Elt Ideal) ((c.tc : Thread Cert.ProjIdeal.nD Cert.ProjIdeal.τ).loc Cert.ProjIdeal.main_v31_8)) (v9 : (c : Dev Cert.ProjIdeal.nD) → Buf (Elt Ideal) ((c.tc : Thread Cert.ProjIdeal.nD Cert.ProjIdeal.τ).loc Cert.ProjIdeal.main_v31_9)) (v10 : (c : Dev Cert.ProjIdeal.nD) → Buf (Elt Ideal) ((c.tc : Thread Cert.ProjIdeal.nD Cert.ProjIdeal.τ).loc Cert.ProjIdeal.main_v31_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v31_0) = v0 c
          ∧ r.2.mem ((c.tc : Thread Cert.ProjIdeal.nD Cert.ProjIdeal.τ).loc Cert.ProjIdeal.main_v31_1) = v1 c
          ∧ r.2.mem ((c.tc : Thread Cert.ProjIdeal.nD Cert.ProjIdeal.τ).loc Cert.ProjIdeal.main_v31_2) = v2 c
          ∧ r.2.mem ((c.tc : Thread Cert.ProjIdeal.nD Cert.ProjIdeal.τ).loc Cert.ProjIdeal.main_v31_3) = v3 c
          ∧ r.2.mem ((c.tc : Thread Cert.ProjIdeal.nD Cert.ProjIdeal.τ).loc Cert.ProjIdeal.main_v31_4) = v4 c
          ∧ r.2.mem ((c.tc : Thread Cert.ProjIdeal.nD Cert.ProjIdeal.τ).loc Cert.ProjIdeal.main_v31_5) = v5 c
          ∧ r.2.mem ((c.tc : Thread Cert.ProjIdeal.nD Cert.ProjIdeal.τ).loc Cert.ProjIdeal.main_v31_6) = v6 c
          ∧ r.2.mem ((c.tc : Thread Cert.ProjIdeal.nD Cert.ProjIdeal.τ).loc Cert.ProjIdeal.main_v31_7) = v7 c
          ∧ r.2.mem ((c.tc : Thread Cert.ProjIdeal.nD Cert.ProjIdeal.τ).loc Cert.ProjIdeal.main_v31_8) = v8 c
          ∧ r.2.mem ((c.tc : Thread Cert.ProjIdeal.nD Cert.ProjIdeal.τ).loc Cert.ProjIdeal.main_v31_9) = v9 c
          ∧ r.2.mem ((c.tc : Thread Cert.ProjIdeal.nD Cert.ProjIdeal.τ).loc Cert.ProjIdeal.main_v31_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v91) = v0 c
          ∧ r.2.mem ((c.tc : Thread Cert.ProjRefIdeal.nD Cert.ProjRefIdeal.τ).loc Cert.ProjRefIdeal.main_v195) = v1 c
          ∧ r.2.mem ((c.tc : Thread Cert.ProjRefIdeal.nD Cert.ProjRefIdeal.τ).loc Cert.ProjRefIdeal.main_v229) = v2 c
          ∧ r.2.mem ((c.tc : Thread Cert.ProjRefIdeal.nD Cert.ProjRefIdeal.τ).loc Cert.ProjRefIdeal.main_v230) = v3 c
          ∧ r.2.mem ((c.tc : Thread Cert.ProjRefIdeal.nD Cert.ProjRefIdeal.τ).loc Cert.ProjRefIdeal.main_v231) = v4 c
          ∧ r.2.mem ((c.tc : Thread Cert.ProjRefIdeal.nD Cert.ProjRefIdeal.τ).loc Cert.ProjRefIdeal.main_v233) = v5 c
          ∧ r.2.mem ((c.tc : Thread Cert.ProjRefIdeal.nD Cert.ProjRefIdeal.τ).loc Cert.ProjRefIdeal.main_v235) = v6 c
          ∧ r.2.mem ((c.tc : Thread Cert.ProjRefIdeal.nD Cert.ProjRefIdeal.τ).loc Cert.ProjRefIdeal.main_v237) = v7 c
          ∧ r.2.mem ((c.tc : Thread Cert.ProjRefIdeal.nD Cert.ProjRefIdeal.τ).loc Cert.ProjRefIdeal.main_v238) = v8 c
          ∧ r.2.mem ((c.tc : Thread Cert.ProjRefIdeal.nD Cert.ProjRefIdeal.τ).loc Cert.ProjRefIdeal.main_v190) = v9 c
          ∧ r.2.mem ((c.tc : Thread Cert.ProjRefIdeal.nD Cert.ProjRefIdeal.τ).loc Cert.ProjRefIdeal.main_v194) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v19) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)
      ∧ m' ((c.tc : Thread Cert.OutSRefIdeal.nD Cert.OutSRefIdeal.τ).loc Cert.OutSRefIdeal.main_arg4) = m ((c.tc : Thread Cert.OutSIdeal.nD Cert.OutSIdeal.τ).loc Cert.OutSIdeal.main_arg4)
      ∧ m' ((c.tc : Thread Cert.OutSRefIdeal.nD Cert.OutSRefIdeal.τ).loc Cert.OutSRefIdeal.main_arg5) = m ((c.tc : Thread Cert.OutSIdeal.nD Cert.OutSIdeal.τ).loc Cert.OutSIdeal.main_arg5)
      ∧ m' ((c.tc : Thread Cert.OutSRefIdeal.nD Cert.OutSRefIdeal.τ).loc Cert.OutSRefIdeal.main_arg6) = m ((c.tc : Thread Cert.OutSIdeal.nD Cert.OutSIdeal.τ).loc Cert.OutSIdeal.main_arg6)) →
    ∃ (v0 : (c : Dev Cert.OutSIdeal.nD) → Buf (Elt Ideal) ((c.tc : Thread Cert.OutSIdeal.nD Cert.OutSIdeal.τ).loc Cert.OutSIdeal.main_v5)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v5) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
          ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
          ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5)
          ∧ r.2.mem ((c.tc : Thread Cert.OutSIdeal.nD Cert.OutSIdeal.τ).loc Cert.OutSIdeal.main_arg6) = m ((c.tc : Thread Cert.OutSIdeal.nD Cert.OutSIdeal.τ).loc Cert.OutSIdeal.main_arg6))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v19) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3)
          ∧ r.2.mem ((c.tc : Thread Cert.OutSRefIdeal.nD Cert.OutSRefIdeal.τ).loc Cert.OutSRefIdeal.main_arg4) = m' ((c.tc : Thread Cert.OutSRefIdeal.nD Cert.OutSRefIdeal.τ).loc Cert.OutSRefIdeal.main_arg4)
          ∧ r.2.mem ((c.tc : Thread Cert.OutSRefIdeal.nD Cert.OutSRefIdeal.τ).loc Cert.OutSRefIdeal.main_arg5) = m' ((c.tc : Thread Cert.OutSRefIdeal.nD Cert.OutSRefIdeal.τ).loc Cert.OutSRefIdeal.main_arg5)
          ∧ r.2.mem ((c.tc : Thread Cert.OutSRefIdeal.nD Cert.OutSRefIdeal.τ).loc Cert.OutSRefIdeal.main_arg6) = m' ((c.tc : Thread Cert.OutSRefIdeal.nD Cert.OutSRefIdeal.τ).loc Cert.OutSRefIdeal.main_arg6))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v39_0)) (v1 : (c : Dev Cert.ProjSIdeal.nD) → Buf (Elt Ideal) ((c.tc : Thread Cert.ProjSIdeal.nD Cert.ProjSIdeal.τ).loc Cert.ProjSIdeal.main_v39_1)) (v2 : (c : Dev Cert.ProjSIdeal.nD) → Buf (Elt Ideal) ((c.tc : Thread Cert.ProjSIdeal.nD Cert.ProjSIdeal.τ).loc Cert.ProjSIdeal.main_v39_2)) (v3 : (c : Dev Cert.ProjSIdeal.nD) → Buf (Elt Ideal) ((c.tc : Thread Cert.ProjSIdeal.nD Cert.ProjSIdeal.τ).loc Cert.ProjSIdeal.main_v39_3)) (v4 : (c : Dev Cert.ProjSIdeal.nD) → Buf (Elt Ideal) ((c.tc : Thread Cert.ProjSIdeal.nD Cert.ProjSIdeal.τ).loc Cert.ProjSIdeal.main_v39_4)) (v5 : (c : Dev Cert.ProjSIdeal.nD) → Buf (Elt Ideal) ((c.tc : Thread Cert.ProjSIdeal.nD Cert.ProjSIdeal.τ).loc Cert.ProjSIdeal.main_v39_5)) (v6 : (c : Dev Cert.ProjSIdeal.nD) → Buf (Elt Ideal) ((c.tc : Thread Cert.ProjSIdeal.nD Cert.ProjSIdeal.τ).loc Cert.ProjSIdeal.main_v39_6)) (v7 : (c : Dev Cert.ProjSIdeal.nD) → Buf (Elt Ideal) ((c.tc : Thread Cert.ProjSIdeal.nD Cert.ProjSIdeal.τ).loc Cert.ProjSIdeal.main_v39_7)) (v8 : (c : Dev Cert.ProjSIdeal.nD) → Buf (Elt Ideal) ((c.tc : Thread Cert.ProjSIdeal.nD Cert.ProjSIdeal.τ).loc Cert.ProjSIdeal.main_v39_8)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v39_0) = v0 c
          ∧ r.2.mem ((c.tc : Thread Cert.ProjSIdeal.nD Cert.ProjSIdeal.τ).loc Cert.ProjSIdeal.main_v39_1) = v1 c
          ∧ r.2.mem ((c.tc : Thread Cert.ProjSIdeal.nD Cert.ProjSIdeal.τ).loc Cert.ProjSIdeal.main_v39_2) = v2 c
          ∧ r.2.mem ((c.tc : Thread Cert.ProjSIdeal.nD Cert.ProjSIdeal.τ).loc Cert.ProjSIdeal.main_v39_3) = v3 c
          ∧ r.2.mem ((c.tc : Thread Cert.ProjSIdeal.nD Cert.ProjSIdeal.τ).loc Cert.ProjSIdeal.main_v39_4) = v4 c
          ∧ r.2.mem ((c.tc : Thread Cert.ProjSIdeal.nD Cert.ProjSIdeal.τ).loc Cert.ProjSIdeal.main_v39_5) = v5 c
          ∧ r.2.mem ((c.tc : Thread Cert.ProjSIdeal.nD Cert.ProjSIdeal.τ).loc Cert.ProjSIdeal.main_v39_6) = v6 c
          ∧ r.2.mem ((c.tc : Thread Cert.ProjSIdeal.nD Cert.ProjSIdeal.τ).loc Cert.ProjSIdeal.main_v39_7) = v7 c
          ∧ r.2.mem ((c.tc : Thread Cert.ProjSIdeal.nD Cert.ProjSIdeal.τ).loc Cert.ProjSIdeal.main_v39_8) = v8 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v93) = v0 c
          ∧ r.2.mem ((c.tc : Thread Cert.ProjSRefIdeal.nD Cert.ProjSRefIdeal.τ).loc Cert.ProjSRefIdeal.main_v188) = v1 c
          ∧ r.2.mem ((c.tc : Thread Cert.ProjSRefIdeal.nD Cert.ProjSRefIdeal.τ).loc Cert.ProjSRefIdeal.main_v222) = v2 c
          ∧ r.2.mem ((c.tc : Thread Cert.ProjSRefIdeal.nD Cert.ProjSRefIdeal.τ).loc Cert.ProjSRefIdeal.main_v223) = v3 c
          ∧ r.2.mem ((c.tc : Thread Cert.ProjSRefIdeal.nD Cert.ProjSRefIdeal.τ).loc Cert.ProjSRefIdeal.main_v224) = v4 c
          ∧ r.2.mem ((c.tc : Thread Cert.ProjSRefIdeal.nD Cert.ProjSRefIdeal.τ).loc Cert.ProjSRefIdeal.main_v226) = v5 c
          ∧ r.2.mem ((c.tc : Thread Cert.ProjSRefIdeal.nD Cert.ProjSRefIdeal.τ).loc Cert.ProjSRefIdeal.main_v228) = v6 c
          ∧ r.2.mem ((c.tc : Thread Cert.ProjSRefIdeal.nD Cert.ProjSRefIdeal.τ).loc Cert.ProjSRefIdeal.main_v230) = v7 c
          ∧ r.2.mem ((c.tc : Thread Cert.ProjSRefIdeal.nD Cert.ProjSRefIdeal.τ).loc Cert.ProjSRefIdeal.main_v231) = v8 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def Claim : Prop :=
  ∃ (hRet : Cert.Ret.Facts) (hRetIdeal : Cert.RetIdeal.Facts) (hRetRefIdeal : Cert.RetRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hOutS : Cert.OutS.Facts) (hOutSIdeal : Cert.OutSIdeal.Facts) (hOutSRefIdeal : Cert.OutSRefIdeal.Facts) (hProjS : Cert.ProjS.Facts) (hProjSIdeal : Cert.ProjSIdeal.Facts) (hProjSRefIdeal : Cert.ProjSRefIdeal.Facts),
    quiescent_Ret (hRet := hRet)
    ∧ quiescent_RetIdeal (hRetIdeal := hRetIdeal)
    ∧ quiescent_RetRefIdeal (hRetRefIdeal := hRetRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_OutS (hOutS := hOutS)
    ∧ quiescent_OutSIdeal (hOutSIdeal := hOutSIdeal)
    ∧ quiescent_OutSRefIdeal (hOutSRefIdeal := hOutSRefIdeal)
    ∧ quiescent_ProjS (hProjS := hProjS)
    ∧ quiescent_ProjSIdeal (hProjSIdeal := hProjSIdeal)
    ∧ quiescent_ProjSRefIdeal (hProjSRefIdeal := hProjSRefIdeal)
    ∧ preserves_Ret_RetIdeal
    ∧ algebraic_RetIdeal_RetRefIdeal (hRetIdeal := hRetIdeal) (hRetRefIdeal := hRetRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_OutS_OutSIdeal
    ∧ algebraic_OutSIdeal_OutSRefIdeal (hOutSIdeal := hOutSIdeal) (hOutSRefIdeal := hOutSRefIdeal)
    ∧ preserves_ProjS_ProjSIdeal
    ∧ algebraic_ProjSIdeal_ProjSRefIdeal (hProjSIdeal := hProjSIdeal) (hProjSRefIdeal := hProjSRefIdeal)
-- ==== Ret.lean ====
abbrev S16x2048x1024 : Shape := ⟨3, ![16, 2048, 1024]⟩
abbrev S16x4x64x64 : Shape := ⟨4, ![16, 4, 64, 64]⟩
abbrev S1x256 : Shape := ⟨2, ![1, 256]⟩
abbrev S4 : Shape := ⟨1, ![4]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S1x4 : Shape := ⟨2, ![1, 4]⟩
abbrev S64x4 : Shape := ⟨2, ![64, 4]⟩
abbrev S64x4x64 : Shape := ⟨3, ![64, 4, 64]⟩
abbrev S64x256 : Shape := ⟨2, ![64, 256]⟩
abbrev S16x2048x256 : Shape := ⟨3, ![16, 2048, 256]⟩
abbrev S1x256x1024 : Shape := ⟨3, ![1, 256, 1024]⟩
abbrev S1x4x64x64 : Shape := ⟨4, ![1, 4, 64, 64]⟩
abbrev S1x256x256 : Shape := ⟨3, ![1, 256, 256]⟩
abbrev S1x1x64x64 : Shape := ⟨4, ![1, 1, 64, 64]⟩
abbrev S1x64x1024 : Shape := ⟨3, ![1, 64, 1024]⟩
abbrev S64x1024 : Shape := ⟨2, ![64, 1024]⟩
abbrev S1x64x256 : Shape := ⟨3, ![1, 64, 256]⟩

abbrev nBuf : Space → Nat
  | .hbm => 58
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x4x64x64, .f32⟩
  | .hbm, ⟨2, _⟩ => ⟨S1x256, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S64, .f32⟩
  | .hbm, ⟨14, _⟩ => ⟨S64x1, .f32⟩
  | .hbm, ⟨15, _⟩ => ⟨S1x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S1x64x64, .f32⟩
  | .hbm, ⟨20, _⟩ => ⟨S_, .f32⟩
  | .hbm, ⟨21, _⟩ => ⟨S1x64x64, .f32⟩
  | .hbm, ⟨22, _⟩ => ⟨S1x64x64, .i1⟩
  | .hbm, ⟨23, _⟩ => ⟨S1x64x64, .f32⟩
  | .hbm, ⟨24, _⟩ => ⟨S4x1x1, .f32⟩
  | .hbm, ⟨25, _⟩ => ⟨S4x64x64, .f32⟩
  | .hbm, ⟨26, _⟩ => ⟨S4x64x64, .f32⟩
  | .hbm, ⟨27, _⟩ => ⟨S4x64x64, .f32⟩
  | .hbm, ⟨28, _⟩ => ⟨S_, .f32⟩
  | .hbm, ⟨29, _⟩ => ⟨S_, .f32⟩
  | .hbm, ⟨30, _⟩ => ⟨S4x64x64, .i1⟩
  | .hbm, ⟨31, _⟩ => ⟨S4x64x64, .f32⟩
  | .hbm, ⟨32, _⟩ => ⟨S4x64x64, .f32⟩
  | .hbm, ⟨33, _⟩ => ⟨S4x64x64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64x1, .f32⟩
  | .hbm, ⟨38, _⟩ => ⟨S1x4, .f32⟩
  | .hbm, ⟨39, _⟩ => ⟨S64x4, .f32⟩
  | .hbm, ⟨40, _⟩ => ⟨S64x4, .f32⟩
  | .hbm, ⟨41, _⟩ => ⟨S64x4, .f32⟩
  | .hbm, ⟨42, _⟩ => ⟨S64x4, .f32⟩
  | .hbm, ⟨43, _⟩ => ⟨S64x4x64, .f32⟩
  | .hbm, ⟨44, _⟩ => ⟨S64x256, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64x1, .f32⟩
  | .hbm, ⟨49, _⟩ => ⟨S1x4, .f32⟩
  | .hbm, ⟨50, _⟩ => ⟨S64x4, .f32⟩
  | .hbm, ⟨51, _⟩ => ⟨S64x4, .f32⟩
  | .hbm, ⟨52, _⟩ => ⟨S64x4, .f32⟩
  | .hbm, ⟨53, _⟩ => ⟨S64x4, .f32⟩
  | .hbm, ⟨54, _⟩ => ⟨S64x4x64, .f32⟩
  | .hbm, ⟨55, _⟩ => ⟨S64x256, .f32⟩
  | .hbm, ⟨56, _⟩ => ⟨S16x2048x256, .f32⟩
  | .hbm, ⟨57, _⟩ => ⟨S16x4x64x64, .f32⟩
  | .local _ .vmem, ⟨0, _⟩ => ⟨S1x256x1024, .f32⟩
  | .local _ .vmem, ⟨1, _⟩ => ⟨S1x256x1024, .f32⟩
  | .local _ .vmem, ⟨2, _⟩ => ⟨S4x64x64, .f32⟩
  | .local _ .vmem, ⟨3, _⟩ => ⟨S64x256, .f32⟩
  | .local _ .vmem, ⟨4, _⟩ => ⟨S64x256, .f32⟩
  | .local _ .vmem, ⟨5, _⟩ => ⟨S1x256, .f32⟩
  | .local _ .vmem, ⟨6, _⟩ => ⟨S1x4x64x64, .f32⟩
  | .local _ .vmem, ⟨7, _⟩ => ⟨S1x4x64x64, .f32⟩
  | .local _ .vmem, ⟨8, _⟩ => ⟨S1x256x256, .f32⟩
  | .local _ .vmem, ⟨9, _⟩ => ⟨S1x256x256, .f32⟩
  | .local _ .vmem, ⟨10, _⟩ => ⟨S1x4x64x64, .f32⟩
  | .local _ .vmem, ⟨11, _⟩ => ⟨S1x4x64x64, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RetIdeal.lean ====
variable {F : FTy → Type} [FloatOps F] [Named F]
def κ : String → Option EReal := fun
  | "gamma0" => some ((279993793990258235750468749959300213014699042596341116563305503247751586492770004816505534904321 / 2135987035920910082395021706169552114602704522356652769947041607822219725780640550022962086936576 : ℝ) : EReal)
  | "gamma1" => some ((14381201289858923833733732277241427911251598557516928831287151963615866190845260542210496569296551598609485715599361 / 39402006196394479212279040100143613805079739270465446667948293404245721771497210611414266254884915640806627990306816 : ℝ) : EReal)
  | "gamma2" => some ((439985273984774139364885786774155225074372621425249766976946157772109425125407741241214744259687760072793219732307971501512893104906241 / 726838724295606890549323807888004534353641360687318060281490199180639288113397923326191050713763565560762521606266177933534601628614656 : ℝ) : EReal)
  | "gamma3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | _ => none
-- ==== RetRefIdeal.lean ====
abbrev S16x2048x1024 : Shape := ⟨3, ![16, 2048, 1024]⟩
abbrev S16x4x64x64 : Shape := ⟨4, ![16, 4, 64, 64]⟩
abbrev S1x256 : Shape := ⟨2, ![1, 256]⟩
abbrev S16x2048x256 : Shape := ⟨3, ![16, 2048, 256]⟩
abbrev S4 : Shape := ⟨1, ![4]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S1x4 : Shape := ⟨2, ![1, 4]⟩
abbrev S64x4 : Shape := ⟨2, ![64, 4]⟩
abbrev S16x2048x4x64 : Shape := ⟨4, ![16, 2048, 4, 64]⟩
abbrev S16x32x64x4x64 : Shape := ⟨5, ![16, 32, 64, 4, 64]⟩
abbrev S32x16x64x4x64 : Shape := ⟨5, ![32, 16, 64, 4, 64]⟩
abbrev S1x16x64x4x64 : Shape := ⟨5, ![1, 16, 64, 4, 64]⟩
abbrev S16x64x4x64 : Shape := ⟨4, ![16, 64, 4, 64]⟩
abbrev S1x4x64x64 : Shape := ⟨4, ![1, 4, 64, 64]⟩
abbrev S1x64x4x1 : Shape := ⟨4, ![1, 64, 4, 1]⟩
abbrev S1x4x1x1 : Shape := ⟨4, ![1, 4, 1, 1]⟩
abbrev S16x2048x4 : Shape := ⟨3, ![16, 2048, 4]⟩
abbrev S16x2048x4x1 : Shape := ⟨4, ![16, 2048, 4, 1]⟩
abbrev S1x1x256 : Shape := ⟨3, ![1, 1, 256]⟩

abbrev nBuf : Space → Nat
  | .hbm => 177
  | .vmem => 0
  | .smem => 0
  | _ => 0

abbrev hbmTy0_0 (i : Nat) : BufTy := match i % 128 with
  | 0 => ⟨S16x2048x1024, .f32⟩
  | 1 => ⟨S16x4x64x64, .f32⟩
  | 2 => ⟨S1x256, .f32⟩
  | 3 => ⟨S16x2048x256, .f32⟩
  | 4 => ⟨S16x2048x256, .f32⟩
  | 5 => ⟨S16x2048x256, .f32⟩
  | 6 => ⟨S4, .f32⟩
  | 7 => ⟨S_, .f32⟩
  | 8 => ⟨S4, .f32⟩
  | 9 => ⟨S4, .f32⟩
  | 10 => ⟨S_, .f32⟩
  | 11 => ⟨S4, .f32⟩
  | 12 => ⟨S4, .f32⟩
  | 13 => ⟨S4, .f32⟩
  | 14 => ⟨S4, .f32⟩
  | 15 => ⟨S4, .f32⟩
  | 16 => ⟨S64, .f32⟩
  | 17 => ⟨S64x1, .f32⟩
  | 18 => ⟨S1x64, .f32⟩
  | 19 => ⟨S64x64, .f32⟩
  | 20 => ⟨S64x64, .f32⟩
  | 21 => ⟨S64x64, .f32⟩
  | 22 => ⟨S1x64x64, .f32⟩
  | 23 => ⟨S_, .f32⟩
  | 24 => ⟨S1x64x64, .f32⟩
  | 25 => ⟨S1x64x64, .i1⟩
  | 26 => ⟨S1x64x64, .f32⟩
  | 27 => ⟨S4x1x1, .f32⟩
  | 28 => ⟨S4x64x64, .f32⟩
  | 29 => ⟨S4x64x64, .f32⟩
  | 30 => ⟨S4x64x64, .f32⟩
  | 31 => ⟨S_, .f32⟩
  | 32 => ⟨S_, .f32⟩
  | 33 => ⟨S4x64x64, .i1⟩
  | 34 => ⟨S4x64x64, .f32⟩
  | 35 => ⟨S4x64x64, .f32⟩
  | 36 => ⟨S4x64x64, .f32⟩
  | 37 => ⟨S_, .f32⟩
  | 38 => ⟨S64, .f32⟩
  | 39 => ⟨S64, .f32⟩
  | 40 => ⟨S64x1, .f32⟩
  | 41 => ⟨S1x4, .f32⟩
  | 42 => ⟨S64x4, .f32⟩
  | 43 => ⟨S64x4, .f32⟩
  | 44 => ⟨S64x4, .f32⟩
  | 45 => ⟨S64x4, .f32⟩
  | 46 => ⟨S_, .f32⟩
  | 47 => ⟨S64, .f32⟩
  | 48 => ⟨S64, .f32⟩
  | 49 => ⟨S64x1, .f32⟩
  | 50 => ⟨S1x4, .f32⟩
  | 51 => ⟨S64x4, .f32⟩
  | 52 => ⟨S64x4, .f32⟩
  | 53 => ⟨S64x4, .f32⟩
  | 54 => ⟨S64x4, .f32⟩
  | 55 => ⟨S_, .f32⟩
  | 56 => ⟨S4, .f32⟩
  | 57 => ⟨S_, .f32⟩
  | 58 => ⟨S4, .f32⟩
  | 59 => ⟨S4, .f32⟩
  | 60 => ⟨S4, .f32⟩
  | 61 => ⟨S_, .f32⟩
  | 62 => ⟨S4, .f32⟩
  | 63 => ⟨S4, .f32⟩
  | 64 => ⟨S_, .f32⟩
  | 65 => ⟨S4, .f32⟩
  | 66 => ⟨S4, .f32⟩
  | 67 => ⟨S16x2048x4x64, .f32⟩
  | 68 => ⟨S16x32x64x4x64, .f32⟩
  | 69 => ⟨S32x16x64x4x64, .f32⟩
  | 70 => ⟨S16x2048x4x64, .f32⟩
  | 71 => ⟨S16x32x64x4x64, .f32⟩
  | 72 => ⟨S32x16x64x4x64, .f32⟩
  | 73 => ⟨S16x2048x4x64, .f32⟩
  | 74 => ⟨S16x32x64x4x64, .f32⟩
  | 75 => ⟨S32x16x64x4x64, .f32⟩
  | 76 => ⟨S_, .f32⟩
  | 77 => ⟨S32x16x64x4x64, .f32⟩
  | 78 => ⟨S_, .i32⟩
  | 79 => ⟨S32x16x64x4x64, .f32⟩
  | 80 => ⟨S32x16x64x4x64, .f32⟩
  | 81 => ⟨S32x16x64x4x64, .f32⟩
  | 82 => ⟨S4x64x64, .f32⟩
  | 83 => ⟨S64x4, .f32⟩
  | 84 => ⟨S4, .f32⟩
  | 85 => ⟨S64x4, .f32⟩
  | 86 => ⟨S_, .i32⟩
  | 87 => ⟨S16x4x64x64, .f32⟩
  | 88 => ⟨S32x16x64x4x64, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x16x64x4x64, .f32⟩
  | 96 => ⟨S16x64x4x64, .f32⟩
  | 97 => ⟨S_, .i32⟩
  | 98 => ⟨S_, .i32⟩
  | 99 => ⟨S_, .i32⟩
  | 100 => ⟨S_, .i32⟩
  | 101 => ⟨S1x16x64x4x64, .f32⟩
  | 102 => ⟨S16x64x4x64, .f32⟩
  | 103 => ⟨S_, .i32⟩
  | 104 => ⟨S_, .i32⟩
  | 105 => ⟨S_, .i32⟩
  | 106 => ⟨S_, .i32⟩
  | 107 => ⟨S1x16x64x4x64, .f32⟩
  | 108 => ⟨S16x64x4x64, .f32⟩
  | 109 => ⟨S16x4x64x64, .f32⟩
  | 110 => ⟨S1x4x64x64, .f32⟩
  | 111 => ⟨S16x4x64x64, .f32⟩
  | 112 => ⟨S16x4x64x64, .f32⟩
  | 113 => ⟨S16x4x64x64, .f32⟩
  | 114 => ⟨S16x64x4x64, .f32⟩
  | 115 => ⟨S16x4x64x64, .f32⟩
  | 116 => ⟨S16x64x4x64, .f32⟩
  | 117 => ⟨S1x64x4x1, .f32⟩
  | 118 => ⟨S16x64x4x64, .f32⟩
  | 119 => ⟨S16x64x4x64, .f32⟩
  | 120 => ⟨S16x64x4x64, .f32⟩
  | 121 => ⟨S1x4x1x1, .f32⟩
  | 122 => ⟨S16x4x64x64, .f32⟩
  | 123 => ⟨S16x4x64x64, .f32⟩
  | 124 => ⟨S1x64x4x1, .f32⟩
  | 125 => ⟨S16x64x4x64, .f32⟩
  | 126 => ⟨S16x64x4x64, .f32⟩
  | 127 => ⟨S16x4x64x64, .f32⟩
  | _ => ⟨S16x2048x1024, .f32⟩

abbrev hbmTy0_1 (i : Nat) : BufTy := match i % 128 with
  | 0 => ⟨S16x4x64x64, .f32⟩
  | 1 => ⟨S1x16x64x4x64, .f32⟩
  | 2 => ⟨S_, .i32⟩
  | 3 => ⟨S_, .i32⟩
  | 4 => ⟨S_, .i32⟩
  | 5 => ⟨S_, .i32⟩
  | 6 => ⟨S32x16x64x4x64, .f32⟩
  | 7 => ⟨S_, .i32⟩
  | 8 => ⟨S_, .i32⟩
  | 9 => ⟨S16x32x64x4x64, .f32⟩
  | 10 => ⟨S16x2048x4x64, .f32⟩
  | 11 => ⟨S_, .f32⟩
  | 12 => ⟨S16x2048x4, .f32⟩
  | 13 => ⟨S16x2048x4x1, .f32⟩
  | 14 => ⟨S_, .f32⟩
  | 15 => ⟨S16x2048x4x1, .f32⟩
  | 16 => ⟨S16x2048x4x1, .f32⟩
  | 17 => ⟨S16x2048x4x64, .f32⟩
  | 18 => ⟨S16x2048x4x64, .f32⟩
  | 19 => ⟨S16x2048x4x64, .f32⟩
  | 20 => ⟨S_, .f32⟩
  | 21 => ⟨S16x2048x4, .f32⟩
  | 22 => ⟨S16x2048x4x1, .f32⟩
  | 23 => ⟨S_, .f32⟩
  | 24 => ⟨S16x2048x4x1, .f32⟩
  | 25 => ⟨S16x2048x4x1, .f32⟩
  | 26 => ⟨S16x2048x4x64, .f32⟩
  | 27 => ⟨S16x2048x4x64, .f32⟩
  | 28 => ⟨S_, .f32⟩
  | 29 => ⟨S16x2048x4x1, .f32⟩
  | 30 => ⟨S16x2048x4x1, .f32⟩
  | 31 => ⟨S16x2048x4x1, .f32⟩
  | 32 => ⟨S16x2048x4x64, .f32⟩
  | 33 => ⟨S16x2048x4x64, .f32⟩
  | 34 => ⟨S16x2048x256, .f32⟩
  | 35 => ⟨S1x1x256, .f32⟩
  | 36 => ⟨S16x2048x256, .f32⟩
  | 37 => ⟨S16x2048x256, .f32⟩
  | 38 => ⟨S16x2048x256, .f32⟩
  | 39 => ⟨S16x2048x256, .f32⟩
  | 40 => ⟨S16x2048x256, .f32⟩
  | 41 => ⟨S_, .f32⟩
  | 42 => ⟨S16x2048x256, .f32⟩
  | 43 => ⟨S16x2048x256, .f32⟩
  | 44 => ⟨S_, .f32⟩
  | 45 => ⟨S16x2048x256, .f32⟩
  | 46 => ⟨S16x2048x256, .f32⟩
  | 47 => ⟨S16x2048x256, .f32⟩
  | 48 => ⟨S16x2048x256, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_c : Ref sig .tc := ⟨.hbm, 78, rfl⟩
abbrev main_v61_0 : Ref sig .tc := ⟨.hbm, 79, rfl⟩
abbrev main_v61_1 : Ref sig .tc := ⟨.hbm, 80, rfl⟩
abbrev main_v61_2 : Ref sig .tc := ⟨.hbm, 81, rfl⟩
abbrev main_v61_3 : Ref sig .tc := ⟨.hbm, 82, rfl⟩
abbrev main_v61_4 : Ref sig .tc := ⟨.hbm, 83, rfl⟩
abbrev main_v61_5 : Ref sig .tc := ⟨.hbm, 84, rfl⟩
abbrev main_v61_6 : Ref sig .tc := ⟨.hbm, 85, rfl⟩
abbrev main_v61_7 : Ref sig .tc := ⟨.hbm, 86, rfl⟩
abbrev main_v61_8 : Ref sig .tc := ⟨.hbm, 87, rfl⟩
abbrev main_v61_9 : Ref sig .tc := ⟨.hbm, 88, rfl⟩
abbrev main_while0c_c_24 : Ref sig .tc := ⟨.hbm, 89, rfl⟩
abbrev main_while0c_v89 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_v0 : Ref sig .tc := ⟨.hbm, 95, rfl⟩
abbrev main_while0b_v89 : Ref sig .tc := ⟨.hbm, 96, rfl⟩
abbrev main_while0b_call2_c : Ref sig .tc := ⟨.hbm, 97, rfl⟩
abbrev main_while0b_call2_c_0 : Ref sig .tc := ⟨.hbm, 98, rfl⟩
abbrev main_while0b_call2_c_1 : Ref sig .tc := ⟨.hbm, 99, rfl⟩
abbrev main_while0b_call2_c_2 : Ref sig .tc := ⟨.hbm, 100, rfl⟩
abbrev main_while0b_call2_v0 : Ref sig .tc := ⟨.hbm, 101, rfl⟩
abbrev main_while0b_v90 : Ref sig .tc := ⟨.hbm, 102, rfl⟩
abbrev main_while0b_call3_c : Ref sig .tc := ⟨.hbm, 103, rfl⟩
abbrev main_while0b_call3_c_0 : Ref sig .tc := ⟨.hbm, 104, rfl⟩
abbrev main_while0b_call3_c_1 : Ref sig .tc := ⟨.hbm, 105, rfl⟩
abbrev main_while0b_call3_c_2 : Ref sig .tc := ⟨.hbm, 106, rfl⟩
abbrev main_while0b_call3_v0 : Ref sig .tc := ⟨.hbm, 107, rfl⟩
abbrev main_while0b_v91 : Ref sig .tc := ⟨.hbm, 108, rfl⟩
abbrev main_while0b_v92 : Ref sig .tc := ⟨.hbm, 109, rfl⟩
abbrev main_while0b_v93 : Ref sig .tc := ⟨.hbm, 110, rfl⟩
abbrev main_while0b_v94 : Ref sig .tc := ⟨.hbm, 111, rfl⟩
abbrev main_while0b_v95 : Ref sig .tc := ⟨.hbm, 112, rfl⟩
abbrev main_while0b_v96 : Ref sig .tc := ⟨.hbm, 113, rfl⟩
abbrev main_while0b_v97 : Ref sig .tc := ⟨.hbm, 114, rfl⟩
abbrev main_while0b_v98 : Ref sig .tc := ⟨.hbm, 115, rfl⟩
abbrev main_while0b_v99 : Ref sig .tc := ⟨.hbm, 116, rfl⟩
abbrev main_while0b_v100 : Ref sig .tc := ⟨.hbm, 117, rfl⟩
abbrev main_while0b_v101 : Ref sig .tc := ⟨.hbm, 118, rfl⟩
abbrev main_while0b_v102 : Ref sig .tc := ⟨.hbm, 119, rfl⟩
abbrev main_while0b_v103 : Ref sig .tc := ⟨.hbm, 120, rfl⟩
abbrev main_while0b_v104 : Ref sig .tc := ⟨.hbm, 121, rfl⟩
abbrev main_while0b_v105 : Ref sig .tc := ⟨.hbm, 122, rfl⟩
abbrev main_while0b_v106 : Ref sig .tc := ⟨.hbm, 123, rfl⟩
abbrev main_while0b_v107 : Ref sig .tc := ⟨.hbm, 124, rfl⟩
abbrev main_while0b_v108 : Ref sig .tc := ⟨.hbm, 125, rfl⟩
abbrev main_while0b_v109 : Ref sig .tc := ⟨.hbm, 126, rfl⟩
abbrev main_while0b_v110 : Ref sig .tc := ⟨.hbm, 127, rfl⟩
abbrev main_while0b_v111 : Ref sig .tc := ⟨.hbm, 128, rfl⟩
abbrev main_while0b_call4_v0 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_call4_c_1 : Ref sig .tc := ⟨.hbm, 132, rfl⟩
abbrev main_while0b_call4_c_2 : Ref sig .tc := ⟨.hbm, 133, rfl⟩
abbrev main_while0b_v112 : Ref sig .tc := ⟨.hbm, 134, rfl⟩
abbrev main_while0b_c_24 : Ref sig .tc := ⟨.hbm, 135, rfl⟩
abbrev main_while0b_v113 : Ref sig .tc := ⟨.hbm, 136, rfl⟩
abbrev main_v62 : Ref sig .tc := ⟨.hbm, 137, rfl⟩
abbrev main_v63 : Ref sig .tc := ⟨.hbm, 138, rfl⟩
abbrev main_cst_10 : Ref sig .tc := ⟨.hbm, 139, rfl⟩
abbrev main_v64 : Ref sig .tc := ⟨.hbm, 140, rfl⟩
abbrev main_v65 : Ref sig .tc := ⟨.hbm, 141, rfl⟩
abbrev main_cst_11 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_cst_12 : Ref sig .tc := ⟨.hbm, 148, rfl⟩
abbrev main_v71 : Ref sig .tc := ⟨.hbm, 149, rfl⟩
abbrev main_v72 : Ref sig .tc := ⟨.hbm, 150, rfl⟩
abbrev main_cst_13 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_cst_14 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_call5_v0 : Ref sig .tc := ⟨.hbm, 167, rfl⟩
abbrev main_call5_v1 : Ref sig .tc := ⟨.hbm, 168, rfl⟩
abbrev main_call5_cst : Ref sig .tc := ⟨.hbm, 169, rfl⟩
abbrev main_call5_v2 : Ref sig .tc := ⟨.hbm, 170, rfl⟩
abbrev main_call5_v3 : Ref sig .tc := ⟨.hbm, 171, rfl⟩
abbrev main_call5_cst_0 : Ref sig .tc := ⟨.hbm, 172, rfl⟩
abbrev main_call5_v4 : Ref sig .tc := ⟨.hbm, 173, rfl⟩
abbrev main_call5_v5 : Ref sig .tc := ⟨.hbm, 174, rfl⟩
abbrev main_v87 : Ref sig .tc := ⟨.hbm, 175, rfl⟩
abbrev main_v88 : Ref sig .tc := ⟨.hbm, 176, rfl⟩

abbrev nD : Nat := 1
abbrev τ : Topo := Topo.v7x

variable {F : FTy → Type} [FloatOps F]

abbrev main_while0_count : Scf.Loop 32 := ⟨0#32, 32#32, 1#32⟩
-- ==== Proj.lean ====
abbrev S16x2048x1024 : Shape := ⟨3, ![16, 2048, 1024]⟩
abbrev S1x1024 : Shape := ⟨2, ![1, 1024]⟩
abbrev S1024x3872 : Shape := ⟨2, ![1024, 3872]⟩
abbrev S2x16x512x2048 : Shape := ⟨4, ![2, 16, 512, 2048]⟩
abbrev S2x16x256x512 : Shape := ⟨4, ![2, 16, 256, 512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S32768x1024 : Shape := ⟨2, ![32768, 1024]⟩
abbrev S1024x1024 : Shape := ⟨2, ![1024, 1024]⟩
abbrev S1024x512 : Shape := ⟨2, ![1024, 512]⟩
abbrev S1024x768 : Shape := ⟨2, ![1024, 768]⟩
abbrev S1024x256 : Shape := ⟨2, ![1024, 256]⟩
abbrev S1024x24 : Shape := ⟨2, ![1024, 24]⟩
abbrev S1024x8 : Shape := ⟨2, ![1024, 8]⟩
abbrev S1024x96 : Shape := ⟨2, ![1024, 96]⟩
abbrev S1024x3968 : Shape := ⟨2, ![1024, 3968]⟩
abbrev S32768x512 : Shape := ⟨2, ![32768, 512]⟩
abbrev S32768x256 : Shape := ⟨2, ![32768, 256]⟩
abbrev S32768x768 : Shape := ⟨2, ![32768, 768]⟩
abbrev S32768x128 : Shape := ⟨2, ![32768, 128]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512x768 : Shape := ⟨2, ![512, 768]⟩
abbrev S1x1x512x512 : Shape := ⟨4, ![1, 1, 512, 512]⟩
abbrev S1x1x256x512 : Shape := ⟨4, ![1, 1, 256, 512]⟩
abbrev S512 : Shape := ⟨1, ![512]⟩
abbrev S512x1 : Shape := ⟨2, ![512, 1]⟩
abbrev S1024x128 : Shape := ⟨2, ![1024, 128]⟩
abbrev S256x512 : Shape := ⟨2, ![256, 512]⟩

abbrev nBuf : Space → Nat
  | .hbm => 50
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1024x3872, .f32⟩
  | .hbm, ⟨3, _⟩ => ⟨S2x16x512x2048, .f32⟩
  | .hbm, ⟨4, _⟩ => ⟨S2x16x256x512, .f32⟩
  | .hbm, ⟨5, _⟩ => ⟨S2048, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x128, .f32⟩
  | .hbm, ⟨23, _⟩ => ⟨S2048x32, .f32⟩
  | .hbm, ⟨24, _⟩ => ⟨S2048x32, .f32⟩
  | .hbm, ⟨25, _⟩ => ⟨S2048x128, .f32⟩
  | .hbm, ⟨26, _⟩ => ⟨S32768x1024, .f32⟩
  | .hbm, ⟨27, _⟩ => ⟨S1024x1024, .f32⟩
  | .hbm, ⟨28, _⟩ => ⟨S1024x512, .f32⟩
  | .hbm, ⟨29, _⟩ => ⟨S1024x768, .f32⟩
  | .hbm, ⟨30, _⟩ => ⟨S1024x512, .f32⟩
  | .hbm, ⟨31, _⟩ => ⟨S1024x768, .f32⟩
  | .hbm, ⟨32, _⟩ => ⟨S1024x256, .f32⟩
  | .hbm, ⟨33, _⟩ => ⟨S1024x24, .f32⟩
  | .hbm, ⟨34, _⟩ => ⟨S1024x8, .f32⟩
  | .hbm, ⟨35, _⟩ => ⟨S_, .f32⟩
  | .hbm, ⟨36, _⟩ => ⟨S1024x96, .f32⟩
  | .hbm, ⟨37, _⟩ => ⟨S1024x3968, .f32⟩
  | .hbm, ⟨38, _⟩ => ⟨S1024x3968, .bf16⟩
  | .hbm, ⟨39, _⟩ => ⟨S32768x1024, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x256, .f32⟩
  | .hbm, ⟨44, _⟩ => ⟨S32768x512, .f32⟩
  | .hbm, ⟨45, _⟩ => ⟨S32768x768, .f32⟩
  | .hbm, ⟨46, _⟩ => ⟨S32768x256, .f32⟩
  | .hbm, ⟨47, _⟩ => ⟨S32768x128, .f32⟩
  | .hbm, ⟨48, _⟩ => ⟨S2x16x512x2048, .f32⟩
  | .hbm, ⟨49, _⟩ => ⟨S2x16x256x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3968, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x256, .f32⟩
  | .local _ .vmem, ⟨17, _⟩ => ⟨S512x256, .f32⟩
  | .local _ .vmem, ⟨18, _⟩ => ⟨S512x512, .f32⟩
  | .local _ .vmem, ⟨19, _⟩ => ⟨S512x512, .f32⟩
  | .local _ .vmem, ⟨20, _⟩ => ⟨S512x768, .f32⟩
  | .local _ .vmem, ⟨21, _⟩ => ⟨S512x768, .f32⟩
  | .local _ .vmem, ⟨22, _⟩ => ⟨S512x256, .f32⟩
  | .local _ .vmem, ⟨23, _⟩ => ⟨S512x256, .f32⟩
  | .local _ .vmem, ⟨24, _⟩ => ⟨S512x128, .f32⟩
  | .local _ .vmem, ⟨25, _⟩ => ⟨S512x128, .f32⟩
  | .local _ .vmem, ⟨26, _⟩ => ⟨S1x1x512x512, .f32⟩
  | .local _ .vmem, ⟨27, _⟩ => ⟨S1x1x512x512, .f32⟩
  | .local _ .vmem, ⟨28, _⟩ => ⟨S1x1x256x512, .f32⟩
  | .local _ .vmem, ⟨29, _⟩ => ⟨S1x1x256x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev main_v31_2 : Ref sig .tc := ⟨.hbm, 41, rfl⟩
abbrev main_v31_3 : Ref sig .tc := ⟨.hbm, 42, rfl⟩
abbrev main_v31_4 : Ref sig .tc := ⟨.hbm, 43, rfl⟩
abbrev main_v31_5 : Ref sig .tc := ⟨.hbm, 44, rfl⟩
abbrev main_v31_6 : Ref sig .tc := ⟨.hbm, 45, rfl⟩
abbrev main_v31_7 : Ref sig .tc := ⟨.hbm, 46, rfl⟩
abbrev main_v31_8 : Ref sig .tc := ⟨.hbm, 47, rfl⟩
abbrev main_v31_9 : Ref sig .tc := ⟨.hbm, 48, rfl⟩
abbrev main_v31_10 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c4_i32 : BitVec 32 := 4#32
  let c0_i32_88 : BitVec 32 := 0#32
  let v163 : BitVec 1 := Scalar.cmpi .eq c4_i32 c0_i32_88
  let c1_i32_89 : BitVec 32 := 1#32
  let v164 : BitVec 32 := Scalar.select v163 c1_i32_89 c4_i32
  let v165 : BitVec 32 := Scalar.remsi arg0 v164
  let c0_i32_91 : BitVec 32 := 0#32
  let v167 : BitVec 1 := Scalar.cmpi .slt v165 c0_i32_91
  let c0_i32_92 : BitVec 32 := 0#32
  let v168 : BitVec 1 := Scalar.cmpi .slt v164 c0_i32_92
  let v169 : BitVec 1 := Scalar.xori v167 v168
  let c0_i32_90 : BitVec 32 := 0#32
  let v166 : BitVec 1 := Scalar.cmpi .ne v165 c0_i32_90
  let v170 : BitVec 1 := Scalar.andi v169 v166
  let v171 : BitVec 32 := Scalar.addi v165 v164
  let v172 : BitVec 32 := Scalar.select v170 v171 v165
  let c3_i32 : BitVec 32 := 3#32
  let v173 : BitVec 1 := Scalar.cmpi .eq v172 c3_i32
  let v174 : BitVec 32 := Scalar.extui v173
  let c0_i32_93 : BitVec 32 := 0#32
  let v175 : BitVec 1 := Scalar.cmpi .ne v174 c0_i32_93
  v175

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_17 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S16x2048x1024 : Shape := ⟨3, ![16, 2048, 1024]⟩
abbrev S1x1024 : Shape := ⟨2, ![1, 1024]⟩
abbrev S1024x3872 : Shape := ⟨2, ![1024, 3872]⟩
abbrev S2x16x512x2048 : Shape := ⟨4, ![2, 16, 512, 2048]⟩
abbrev S2x16x256x512 : Shape := ⟨4, ![2, 16, 256, 512]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3872 : Shape := ⟨3, ![16, 2048, 3872]⟩
abbrev S16x2048x256 : Shape := ⟨3, ![16, 2048, 256]⟩
abbrev S16x2048x4x64 : Shape := ⟨4, ![16, 2048, 4, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x4x32 : Shape := ⟨4, ![16, 2048, 4, 32]⟩
abbrev S1x2048x1x32 : Shape := ⟨4, ![1, 2048, 1, 32]⟩
abbrev S32768x256 : Shape := ⟨2, ![32768, 256]⟩
abbrev S16x2048x512 : Shape := ⟨3, ![16, 2048, 512]⟩
abbrev S32768x512 : Shape := ⟨2, ![32768, 512]⟩
abbrev S32768x1024 : Shape := ⟨2, ![32768, 1024]⟩
abbrev S16x2048x8x64 : Shape := ⟨4, ![16, 2048, 8, 64]⟩
abbrev S16x2048x768 : Shape := ⟨3, ![16, 2048, 768]⟩
abbrev S16x2048x6x2x64 : Shape := ⟨5, ![16, 2048, 6, 2, 64]⟩
abbrev S16x2048x1x2x64 : Shape := ⟨5, ![16, 2048, 1, 2, 64]⟩
abbrev S16x2048x2x64 : Shape := ⟨4, ![16, 2048, 2, 64]⟩
abbrev S16x2048x2x32 : Shape := ⟨4, ![16, 2048, 2, 32]⟩
abbrev S16x2048x4x2x64 : Shape := ⟨5, ![16, 2048, 4, 2, 64]⟩
abbrev S16x2048x2x2x64 : Shape := ⟨5, ![16, 2048, 2, 2, 64]⟩
abbrev S16x2048x24 : Shape := ⟨3, ![16, 2048, 24]⟩
abbrev S16x2048x8 : Shape := ⟨3, ![16, 2048, 8]⟩
abbrev S16x2048x32 : Shape := ⟨3, ![16, 2048, 32]⟩
abbrev S16x2048x128 : Shape := ⟨3, ![16, 2048, 128]⟩
abbrev S16x512x2x2x64 : Shape := ⟨5, ![16, 512, 2, 2, 64]⟩
abbrev S1x16x512x2048 : Shape := ⟨4, ![1, 16, 512, 2048]⟩
abbrev S1x16x2048x512 : Shape := ⟨4, ![1, 16, 2048, 512]⟩
abbrev S1x16x256x512 : Shape := ⟨4, ![1, 16, 256, 512]⟩
abbrev S1x16x512x256 : Shape := ⟨4, ![1, 16, 512, 256]⟩
abbrev S16x2048x8x32 : Shape := ⟨4, ![16, 2048, 8, 32]⟩
abbrev S32768x768 : Shape := ⟨2, ![32768, 768]⟩
abbrev S32768x128 : Shape := ⟨2, ![32768, 128]⟩

abbrev nBuf : Space → Nat
  | .hbm => 260
  | .vmem => 0
  | .smem => 0
  | _ => 0

abbrev hbmTy0_0 (i : Nat) : BufTy := match i % 128 with
  | 0 => ⟨S16x2048x1024, .f32⟩
  | 1 => ⟨S1x1024, .f32⟩
  | 2 => ⟨S1024x3872, .f32⟩
  | 3 => ⟨S2x16x512x2048, .f32⟩
  | 4 => ⟨S2x16x256x512, .f32⟩
  | 5 => ⟨S2048, .i32⟩
  | 6 => ⟨S16x2048x1024, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S_, .f32⟩
  | 14 => ⟨S16x2048x1, .f32⟩
  | 15 => ⟨S16x2048x1, .f32⟩
  | 16 => ⟨S16x2048x1, .f32⟩
  | 17 => ⟨S16x2048x1024, .f32⟩
  | 18 => ⟨S16x2048x1024, .f32⟩
  | 19 => ⟨S1x1x1024, .f32⟩
  | 20 => ⟨S16x2048x1024, .f32⟩
  | 21 => ⟨S16x2048x1024, .f32⟩
  | 22 => ⟨S16x2048x3872, .f32⟩
  | 23 => ⟨S16x2048x256, .f32⟩
  | 24 => ⟨S16x2048x4x64, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S2048, .f32⟩
  | 34 => ⟨S2048x1, .f32⟩
  | 35 => ⟨S1x32, .f32⟩
  | 36 => ⟨S2048x32, .f32⟩
  | 37 => ⟨S2048x32, .f32⟩
  | 38 => ⟨S2048x32, .f32⟩
  | 39 => ⟨S2048x32, .f32⟩
  | 40 => ⟨S2048x1x32, .f32⟩
  | 41 => ⟨S2048x32, .f32⟩
  | 42 => ⟨S2048x1x32, .f32⟩
  | 43 => ⟨S16x2048x4x32, .f32⟩
  | 44 => ⟨S16x2048x4x32, .f32⟩
  | 45 => ⟨S1x2048x1x32, .f32⟩
  | 46 => ⟨S16x2048x4x32, .f32⟩
  | 47 => ⟨S16x2048x4x32, .f32⟩
  | 48 => ⟨S1x2048x1x32, .f32⟩
  | 49 => ⟨S16x2048x4x32, .f32⟩
  | 50 => ⟨S16x2048x4x32, .f32⟩
  | 51 => ⟨S16x2048x4x32, .f32⟩
  | 52 => ⟨S1x2048x1x32, .f32⟩
  | 53 => ⟨S16x2048x4x32, .f32⟩
  | 54 => ⟨S16x2048x4x32, .f32⟩
  | 55 => ⟨S1x2048x1x32, .f32⟩
  | 56 => ⟨S16x2048x4x32, .f32⟩
  | 57 => ⟨S16x2048x4x32, .f32⟩
  | 58 => ⟨S16x2048x4x32, .f32⟩
  | 59 => ⟨S16x2048x4x64, .f32⟩
  | 60 => ⟨S16x2048x256, .f32⟩
  | 61 => ⟨S16x2048x4x64, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S2048, .f32⟩
  | 71 => ⟨S2048x1, .f32⟩
  | 72 => ⟨S1x32, .f32⟩
  | 73 => ⟨S2048x32, .f32⟩
  | 74 => ⟨S2048x32, .f32⟩
  | 75 => ⟨S2048x32, .f32⟩
  | 76 => ⟨S2048x32, .f32⟩
  | 77 => ⟨S2048x1x32, .f32⟩
  | 78 => ⟨S2048x32, .f32⟩
  | 79 => ⟨S2048x1x32, .f32⟩
  | 80 => ⟨S16x2048x4x32, .f32⟩
  | 81 => ⟨S16x2048x4x32, .f32⟩
  | 82 => ⟨S1x2048x1x32, .f32⟩
  | 83 => ⟨S16x2048x4x32, .f32⟩
  | 84 => ⟨S16x2048x4x32, .f32⟩
  | 85 => ⟨S1x2048x1x32, .f32⟩
  | 86 => ⟨S16x2048x4x32, .f32⟩
  | 87 => ⟨S16x2048x4x32, .f32⟩
  | 88 => ⟨S16x2048x4x32, .f32⟩
  | 89 => ⟨S1x2048x1x32, .f32⟩
  | 90 => ⟨S16x2048x4x32, .f32⟩
  | 91 => ⟨S16x2048x4x32, .f32⟩
  | 92 => ⟨S1x2048x1x32, .f32⟩
  | 93 => ⟨S16x2048x4x32, .f32⟩
  | 94 => ⟨S16x2048x4x32, .f32⟩
  | 95 => ⟨S16x2048x4x32, .f32⟩
  | 96 => ⟨S16x2048x4x64, .f32⟩
  | 97 => ⟨S_, .f32⟩
  | 98 => ⟨S16x2048x4x64, .f32⟩
  | 99 => ⟨S16x2048x4x64, .f32⟩
  | 100 => ⟨S32768x256, .f32⟩
  | 101 => ⟨S32768x256, .f32⟩
  | 102 => ⟨S16x2048x512, .f32⟩
  | 103 => ⟨S32768x512, .f32⟩
  | 104 => ⟨S32768x1024, .f32⟩
  | 105 => ⟨S16x2048x512, .f32⟩
  | 106 => ⟨S16x2048x8x64, .f32⟩
  | 107 => ⟨S16x2048x768, .f32⟩
  | 108 => ⟨S16x2048x6x2x64, .f32⟩
  | 109 => ⟨S16x2048x1x2x64, .f32⟩
  | 110 => ⟨S16x2048x2x64, .f32⟩
  | 111 => ⟨S16x2048x1x2x64, .f32⟩
  | 112 => ⟨S16x2048x2x64, .f32⟩
  | 113 => ⟨S16x2048x1x2x64, .f32⟩
  | 114 => ⟨S16x2048x2x64, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S2048, .f32⟩
  | 124 => ⟨S2048x1, .f32⟩
  | 125 => ⟨S1x32, .f32⟩
  | 126 => ⟨S2048x32, .f32⟩
  | 127 => ⟨S2048x32, .f32⟩
  | _ => ⟨S16x2048x1024, .f32⟩

abbrev hbmTy0_1 (i : Nat) : BufTy := match i % 128 with
  | 0 => ⟨S2048x32, .f32⟩
  | 1 => ⟨S2048x32, .f32⟩
  | 2 => ⟨S2048x1x32, .f32⟩
  | 3 => ⟨S2048x32, .f32⟩
  | 4 => ⟨S2048x1x32, .f32⟩
  | 5 => ⟨S16x2048x2x32, .f32⟩
  | 6 => ⟨S16x2048x2x32, .f32⟩
  | 7 => ⟨S1x2048x1x32, .f32⟩
  | 8 => ⟨S16x2048x2x32, .f32⟩
  | 9 => ⟨S16x2048x2x32, .f32⟩
  | 10 => ⟨S1x2048x1x32, .f32⟩
  | 11 => ⟨S16x2048x2x32, .f32⟩
  | 12 => ⟨S16x2048x2x32, .f32⟩
  | 13 => ⟨S16x2048x2x32, .f32⟩
  | 14 => ⟨S1x2048x1x32, .f32⟩
  | 15 => ⟨S16x2048x2x32, .f32⟩
  | 16 => ⟨S16x2048x2x32, .f32⟩
  | 17 => ⟨S1x2048x1x32, .f32⟩
  | 18 => ⟨S16x2048x2x32, .f32⟩
  | 19 => ⟨S16x2048x2x32, .f32⟩
  | 20 => ⟨S16x2048x2x32, .f32⟩
  | 21 => ⟨S16x2048x2x64, .f32⟩
  | 22 => ⟨S16x2048x1x2x64, .f32⟩
  | 23 => ⟨S16x2048x2x64, .f32⟩
  | 24 => ⟨S16x2048x1x2x64, .f32⟩
  | 25 => ⟨S16x2048x1x2x64, .f32⟩
  | 26 => ⟨S16x2048x1x2x64, .f32⟩
  | 27 => ⟨S16x2048x1x2x64, .f32⟩
  | 28 => ⟨S16x2048x4x2x64, .f32⟩
  | 29 => ⟨S16x2048x1x2x64, .f32⟩
  | 30 => ⟨S16x2048x2x64, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S2048, .f32⟩
  | 40 => ⟨S2048x1, .f32⟩
  | 41 => ⟨S1x32, .f32⟩
  | 42 => ⟨S2048x32, .f32⟩
  | 43 => ⟨S2048x32, .f32⟩
  | 44 => ⟨S2048x32, .f32⟩
  | 45 => ⟨S2048x32, .f32⟩
  | 46 => ⟨S2048x1x32, .f32⟩
  | 47 => ⟨S2048x32, .f32⟩
  | 48 => ⟨S2048x1x32, .f32⟩
  | 49 => ⟨S16x2048x2x32, .f32⟩
  | 50 => ⟨S16x2048x2x32, .f32⟩
  | 51 => ⟨S1x2048x1x32, .f32⟩
  | 52 => ⟨S16x2048x2x32, .f32⟩
  | 53 => ⟨S16x2048x2x32, .f32⟩
  | 54 => ⟨S1x2048x1x32, .f32⟩
  | 55 => ⟨S16x2048x2x32, .f32⟩
  | 56 => ⟨S16x2048x2x32, .f32⟩
  | 57 => ⟨S16x2048x2x32, .f32⟩
  | 58 => ⟨S1x2048x1x32, .f32⟩
  | 59 => ⟨S16x2048x2x32, .f32⟩
  | 60 => ⟨S16x2048x2x32, .f32⟩
  | 61 => ⟨S1x2048x1x32, .f32⟩
  | 62 => ⟨S16x2048x2x32, .f32⟩
  | 63 => ⟨S16x2048x2x32, .f32⟩
  | 64 => ⟨S16x2048x2x32, .f32⟩
  | 65 => ⟨S16x2048x2x64, .f32⟩
  | 66 => ⟨S16x2048x1x2x64, .f32⟩
  | 67 => ⟨S16x2048x2x64, .f32⟩
  | 68 => ⟨S16x2048x1x2x64, .f32⟩
  | 69 => ⟨S16x2048x1x2x64, .f32⟩
  | 70 => ⟨S16x2048x2x2x64, .f32⟩
  | 71 => ⟨S16x2048x24, .f32⟩
  | 72 => ⟨S16x2048x8, .f32⟩
  | 73 => ⟨S16x2048x32, .f32⟩
  | 74 => ⟨S_, .i32⟩
  | 75 => ⟨S_, .f32⟩
  | 76 => ⟨S16x2048x128, .f32⟩
  | 77 => ⟨S16x512x2x2x64, .f32⟩
  | 78 => ⟨S1x16x512x2048, .f32⟩
  | 79 => ⟨S1x16x2048x512, .f32⟩
  | 80 => ⟨S1x16x512x2048, .f32⟩
  | 81 => ⟨S2x16x512x2048, .f32⟩
  | 82 => ⟨S1x16x256x512, .f32⟩
  | 83 => ⟨S1x16x512x256, .f32⟩
  | 84 => ⟨S1x16x256x512, .f32⟩
  | 85 => ⟨S2x16x256x512, .f32⟩
  | 86 => ⟨S32768x512, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S2048, .f32⟩
  | 96 => ⟨S2048x1, .f32⟩
  | 97 => ⟨S1x32, .f32⟩
  | 98 => ⟨S2048x32, .f32⟩
  | 99 => ⟨S2048x32, .f32⟩
  | 100 => ⟨S2048x32, .f32⟩
  | 101 => ⟨S2048x32, .f32⟩
  | 102 => ⟨S2048x1x32, .f32⟩
  | 103 => ⟨S2048x32, .f32⟩
  | 104 => ⟨S2048x1x32, .f32⟩
  | 105 => ⟨S16x2048x8x32, .f32⟩
  | 106 => ⟨S16x2048x8x32, .f32⟩
  | 107 => ⟨S1x2048x1x32, .f32⟩
  | 108 => ⟨S16x2048x8x32, .f32⟩
  | 109 => ⟨S16x2048x8x32, .f32⟩
  | 110 => ⟨S1x2048x1x32, .f32⟩
  | 111 => ⟨S16x2048x8x32, .f32⟩
  | 112 => ⟨S16x2048x8x32, .f32⟩
  | 113 => ⟨S16x2048x8x32, .f32⟩
  | 114 => ⟨S1x2048x1x32, .f32⟩
  | 115 => ⟨S16x2048x8x32, .f32⟩
  | 116 => ⟨S16x2048x8x32, .f32⟩
  | 117 => ⟨S1x2048x1x32, .f32⟩
  | 118 => ⟨S16x2048x8x32, .f32⟩
  | 119 => ⟨S16x2048x8x32, .f32⟩
  | 120 => ⟨S16x2048x8x32, .f32⟩
  | 121 => ⟨S16x2048x8x64, .f32⟩
  | 122 => ⟨S32768x512, .f32⟩
  | 123 => ⟨S32768x512, .f32⟩
  | 124 => ⟨S32768x256, .f32⟩
  | 125 => ⟨S16x2048x512, .f32⟩
  | 126 => ⟨S32768x512, .f32⟩
  | 127 => ⟨S16x2048x768, .f32⟩
  | _ => ⟨S16x2048x1024, .f32⟩

abbrev hbmTy0_2 (i : Nat) : BufTy := match i % 128 with
  | 0 => ⟨S32768x768, .f32⟩
  | 1 => ⟨S16x2048x256, .f32⟩
  | 2 => ⟨S32768x256, .f32⟩
  | 3 => ⟨S32768x128, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_4 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_cst_6 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_7 : Ref sig .tc := ⟨.hbm, 117, rfl⟩
abbrev main_v104 : Ref sig .tc := ⟨.hbm, 118, rfl⟩
abbrev main_v105 : Ref sig .tc := ⟨.hbm, 119, rfl⟩
abbrev main_cst_8 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_cst_9 : Ref sig .tc := ⟨.hbm, 161, rfl⟩
abbrev main_v146 : Ref sig .tc := ⟨.hbm, 162, rfl⟩
abbrev main_v147 : Ref sig .tc := ⟨.hbm, 163, rfl⟩
abbrev main_cst_10 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_c : Ref sig .tc := ⟨.hbm, 202, rfl⟩
abbrev main_call0_v0 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_cst_11 : Ref sig .tc := ⟨.hbm, 217, rfl⟩
abbrev main_v198 : Ref sig .tc := ⟨.hbm, 218, rfl⟩
abbrev main_v199 : Ref sig .tc := ⟨.hbm, 219, rfl⟩
abbrev main_cst_12 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩

abbrev nD : Nat := 1
abbrev τ : Topo := Topo.v7x

variable {F : FTy → Type} [FloatOps F]
-- ==== Out.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S32768x512 : Shape := ⟨2, ![32768, 512]⟩
abbrev S1024x1024 : Shape := ⟨2, ![1024, 1024]⟩
abbrev S1x1024 : Shape := ⟨2, ![1, 1024]⟩
abbrev S32768x1024 : Shape := ⟨2, ![32768, 1024]⟩
abbrev S32768x256 : Shape := ⟨2, ![32768, 256]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x512, .f32⟩
  | .hbm, ⟨3, _⟩ => ⟨S32768x512, .f32⟩
  | .hbm, ⟨4, _⟩ => ⟨S16x2048x256, .f32⟩
  | .hbm, ⟨5, _⟩ => ⟨S1024x1024, .f32⟩
  | .hbm, ⟨6, _⟩ => ⟨S1x1024, .f32⟩
  | .hbm, ⟨7, _⟩ => ⟨S32768x1024, .f32⟩
  | .hbm, ⟨8, _⟩ => ⟨S32768x256, .f32⟩
  | .hbm, ⟨9, _⟩ => ⟨S32768x512, .f32⟩
  | .hbm, ⟨10, _⟩ => ⟨S32768x256, .f32⟩
  | .hbm, ⟨11, _⟩ => ⟨S1024x1024, .bf16⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutIdeal.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S32768x512 : Shape := ⟨2, ![32768, 512]⟩
abbrev S1024x1024 : Shape := ⟨2, ![1024, 1024]⟩
abbrev S1x1024 : Shape := ⟨2, ![1, 1024]⟩
abbrev S32768x1024 : Shape := ⟨2, ![32768, 1024]⟩
abbrev S32768x256 : Shape := ⟨2, ![32768, 256]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x512, .f32⟩
  | .hbm, ⟨3, _⟩ => ⟨S32768x512, .f32⟩
  | .hbm, ⟨4, _⟩ => ⟨S16x2048x256, .f32⟩
  | .hbm, ⟨5, _⟩ => ⟨S1024x1024, .f32⟩
  | .hbm, ⟨6, _⟩ => ⟨S1x1024, .f32⟩
  | .hbm, ⟨7, _⟩ => ⟨S32768x1024, .f32⟩
  | .hbm, ⟨8, _⟩ => ⟨S32768x256, .f32⟩
  | .hbm, ⟨9, _⟩ => ⟨S32768x512, .f32⟩
  | .hbm, ⟨10, _⟩ => ⟨S32768x256, .f32⟩
  | .hbm, ⟨11, _⟩ => ⟨S1024x1024, .bf16⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S32768x512 : Shape := ⟨2, ![32768, 512]⟩
abbrev S1024x1024 : Shape := ⟨2, ![1024, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x512, .f32⟩
  | .hbm, ⟨3, _⟩ => ⟨S32768x512, .f32⟩
  | .hbm, ⟨4, _⟩ => ⟨S16x2048x256, .f32⟩
  | .hbm, ⟨5, _⟩ => ⟨S1024x1024, .f32⟩
  | .hbm, ⟨6, _⟩ => ⟨S1x1024, .f32⟩
  | .hbm, ⟨7, _⟩ => ⟨S16x2048x512, .f32⟩
  | .hbm, ⟨8, _⟩ => ⟨S16x2048x512, .f32⟩
  | .hbm, ⟨9, _⟩ => ⟨S16x2048x512, .f32⟩
  | .hbm, ⟨10, _⟩ => ⟨S_, .f32⟩
  | .hbm, ⟨11, _⟩ => ⟨S16x2048x512, .f32⟩
  | .hbm, ⟨12, _⟩ => ⟨S16x2048x512, .f32⟩
  | .hbm, ⟨13, _⟩ => ⟨S_, .f32⟩
  | .hbm, ⟨14, _⟩ => ⟨S16x2048x512, .f32⟩
  | .hbm, ⟨15, _⟩ => ⟨S16x2048x512, .f32⟩
  | .hbm, ⟨16, _⟩ => ⟨S16x2048x512, .f32⟩
  | .hbm, ⟨17, _⟩ => ⟨S16x2048x512, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1, .f32⟩
  | .hbm, ⟨31, _⟩ => ⟨S16x2048x1024, .f32⟩
  | .hbm, ⟨32, _⟩ => ⟨S16x2048x1024, .f32⟩
  | .hbm, ⟨33, _⟩ => ⟨S1x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== OutS.lean ====
abbrev S32x8x1024 : Shape := ⟨3, ![32, 8, 1024]⟩
abbrev S32x8x256 : Shape := ⟨3, ![32, 8, 256]⟩
abbrev S32x8x512 : Shape := ⟨3, ![32, 8, 512]⟩
abbrev S256x512 : Shape := ⟨2, ![256, 512]⟩
abbrev S1024x1024 : Shape := ⟨2, ![1024, 1024]⟩
abbrev S1x1024 : Shape := ⟨2, ![1, 1024]⟩
abbrev S256x1024 : Shape := ⟨2, ![256, 1024]⟩
abbrev S256x256 : Shape := ⟨2, ![256, 256]⟩
abbrev S512x1024 : Shape := ⟨2, ![512, 1024]⟩
abbrev S256 : Shape := ⟨1, ![256]⟩
abbrev S256x1 : Shape := ⟨2, ![256, 1]⟩

abbrev nBuf : Space → Nat
  | .hbm => 13
  | .vmem => 8
  | .smem => 0
  | _ => 0

abbrev bufTy : (tb : Table) → Fin (tcTables nBuf tb) → BufTy
  | .hbm, ⟨0, _⟩ => ⟨S32x8x1024, .f32⟩
  | .hbm, ⟨1, _⟩ => ⟨S32x8x256, .f32⟩
  | .hbm, ⟨2, _⟩ => ⟨S32x8x512, .f32⟩
  | .hbm, ⟨3, _⟩ => ⟨S256x512, .f32⟩
  | .hbm, ⟨4, _⟩ => ⟨S32x8x256, .f32⟩
  | .hbm, ⟨5, _⟩ => ⟨S1024x1024, .f32⟩
  | .hbm, ⟨6, _⟩ => ⟨S1x1024, .f32⟩
  | .hbm, ⟨7, _⟩ => ⟨S256x1024, .f32⟩
  | .hbm, ⟨8, _⟩ => ⟨S256x256, .f32⟩
  | .hbm, ⟨9, _⟩ => ⟨S256x512, .f32⟩
  | .hbm, ⟨10, _⟩ => ⟨S256x256, .f32⟩
  | .hbm, ⟨11, _⟩ => ⟨S1024x1024, .bf16⟩
  | .hbm, ⟨12, _⟩ => ⟨S256x1024, .f32⟩
  | .local _ .vmem, ⟨0, _⟩ => ⟨S256x1024, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S1024x1024, .bf16⟩
  | .local _ .vmem, ⟨6, _⟩ => ⟨S1x1024, .f32⟩
  | .local _ .vmem, ⟨7, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OutSRefIdeal.lean ====
abbrev S32x8x1024 : Shape := ⟨3, ![32, 8, 1024]⟩
abbrev S32x8x256 : Shape := ⟨3, ![32, 8, 256]⟩
abbrev S32x8x512 : Shape := ⟨3, ![32, 8, 512]⟩
abbrev S256x512 : Shape := ⟨2, ![256, 512]⟩
abbrev S1024x1024 : Shape := ⟨2, ![1024, 1024]⟩
abbrev S1x1024 : Shape := ⟨2, ![1, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S256x1024 : Shape := ⟨2, ![256, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x256, .f32⟩
  | .hbm, ⟨2, _⟩ => ⟨S32x8x512, .f32⟩
  | .hbm, ⟨3, _⟩ => ⟨S256x512, .f32⟩
  | .hbm, ⟨4, _⟩ => ⟨S32x8x256, .f32⟩
  | .hbm, ⟨5, _⟩ => ⟨S1024x1024, .f32⟩
  | .hbm, ⟨6, _⟩ => ⟨S1x1024, .f32⟩
  | .hbm, ⟨7, _⟩ => ⟨S32x8x512, .f32⟩
  | .hbm, ⟨8, _⟩ => ⟨S32x8x512, .f32⟩
  | .hbm, ⟨9, _⟩ => ⟨S32x8x512, .f32⟩
  | .hbm, ⟨10, _⟩ => ⟨S_, .f32⟩
  | .hbm, ⟨11, _⟩ => ⟨S32x8x512, .f32⟩
  | .hbm, ⟨12, _⟩ => ⟨S32x8x512, .f32⟩
  | .hbm, ⟨13, _⟩ => ⟨S_, .f32⟩
  | .hbm, ⟨14, _⟩ => ⟨S32x8x512, .f32⟩
  | .hbm, ⟨15, _⟩ => ⟨S32x8x512, .f32⟩
  | .hbm, ⟨16, _⟩ => ⟨S32x8x512, .f32⟩
  | .hbm, ⟨17, _⟩ => ⟨S32x8x512, .f32⟩
  | .hbm, ⟨18, _⟩ => ⟨S32x8x1024, .f32⟩
  | .hbm, ⟨19, _⟩ => ⟨S32x8x1024, .f32⟩
  | .hbm, ⟨20, _⟩ => ⟨S32x8x1024, .f32⟩
  | .hbm, ⟨21, _⟩ => ⟨S_, .f32⟩
  | .hbm, ⟨22, _⟩ => ⟨S32x8, .f32⟩
  | .hbm, ⟨23, _⟩ => ⟨S32x8x1, .f32⟩
  | .hbm, ⟨24, _⟩ => ⟨S_, .f32⟩
  | .hbm, ⟨25, _⟩ => ⟨S32x8x1, .f32⟩
  | .hbm, ⟨26, _⟩ => ⟨S32x8x1, .f32⟩
  | .hbm, ⟨27, _⟩ => ⟨S_, .f32⟩
  | .hbm, ⟨28, _⟩ => ⟨S32x8x1, .f32⟩
  | .hbm, ⟨29, _⟩ => ⟨S32x8x1, .f32⟩
  | .hbm, ⟨30, _⟩ => ⟨S32x8x1, .f32⟩
  | .hbm, ⟨31, _⟩ => ⟨S32x8x1024, .f32⟩
  | .hbm, ⟨32, _⟩ => ⟨S32x8x1024, .f32⟩
  | .hbm, ⟨33, _⟩ => ⟨S1x1x1024, .f32⟩
  | .hbm, ⟨34, _⟩ => ⟨S32x8x1024, .f32⟩
  | .hbm, ⟨35, _⟩ => ⟨S32x8x1024, .f32⟩
  | .hbm, ⟨36, _⟩ => ⟨S32x8x1024, .f32⟩
  | .hbm, ⟨37, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== ProjS.lean ====
abbrev S32x8x1024 : Shape := ⟨3, ![32, 8, 1024]⟩
abbrev S1x1024 : Shape := ⟨2, ![1, 1024]⟩
abbrev S1024x3872 : Shape := ⟨2, ![1024, 3872]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S256x1024 : Shape := ⟨2, ![256, 1024]⟩
abbrev S1024x1024 : Shape := ⟨2, ![1024, 1024]⟩
abbrev S1024x512 : Shape := ⟨2, ![1024, 512]⟩
abbrev S1024x768 : Shape := ⟨2, ![1024, 768]⟩
abbrev S1024x256 : Shape := ⟨2, ![1024, 256]⟩
abbrev S1024x24 : Shape := ⟨2, ![1024, 24]⟩
abbrev S1024x8 : Shape := ⟨2, ![1024, 8]⟩
abbrev S1024x96 : Shape := ⟨2, ![1024, 96]⟩
abbrev S1024x3968 : Shape := ⟨2, ![1024, 3968]⟩
abbrev S256x512 : Shape := ⟨2, ![256, 512]⟩
abbrev S256x256 : Shape := ⟨2, ![256, 256]⟩
abbrev S256x768 : Shape := ⟨2, ![256, 768]⟩
abbrev S256 : Shape := ⟨1, ![256]⟩
abbrev S256x1 : Shape := ⟨2, ![256, 1]⟩
abbrev S1024x128 : Shape := ⟨2, ![1024, 128]⟩

abbrev nBuf : Space → Nat
  | .hbm => 55
  | .vmem => 14
  | .smem => 0
  | _ => 0

abbrev bufTy : (tb : Table) → Fin (tcTables nBuf tb) → BufTy
  | .hbm, ⟨0, _⟩ => ⟨S32x8x1024, .f32⟩
  | .hbm, ⟨1, _⟩ => ⟨S1x1024, .f32⟩
  | .hbm, ⟨2, _⟩ => ⟨S1024x3872, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8, .f32⟩
  | .hbm, ⟨16, _⟩ => ⟨S8x1, .f32⟩
  | .hbm, ⟨17, _⟩ => ⟨S1x32, .f32⟩
  | .hbm, ⟨18, _⟩ => ⟨S8x32, .f32⟩
  | .hbm, ⟨19, _⟩ => ⟨S8x32, .f32⟩
  | .hbm, ⟨20, _⟩ => ⟨S8x32, .f32⟩
  | .hbm, ⟨21, _⟩ => ⟨S8x32, .f32⟩
  | .hbm, ⟨22, _⟩ => ⟨S8x32, .f32⟩
  | .hbm, ⟨23, _⟩ => ⟨S8x128, .f32⟩
  | .hbm, ⟨24, _⟩ => ⟨S8x32, .f32⟩
  | .hbm, ⟨25, _⟩ => ⟨S8x32, .f32⟩
  | .hbm, ⟨26, _⟩ => ⟨S8x128, .f32⟩
  | .hbm, ⟨27, _⟩ => ⟨S1x8x1x128, .f32⟩
  | .hbm, ⟨28, _⟩ => ⟨S32x8x1x128, .f32⟩
  | .hbm, ⟨29, _⟩ => ⟨S256x128, .f32⟩
  | .hbm, ⟨30, _⟩ => ⟨S1x8x1x128, .f32⟩
  | .hbm, ⟨31, _⟩ => ⟨S32x8x1x128, .f32⟩
  | .hbm, ⟨32, _⟩ => ⟨S256x128, .f32⟩
  | .hbm, ⟨33, _⟩ => ⟨S256x1024, .f32⟩
  | .hbm, ⟨34, _⟩ => ⟨S1024x1024, .f32⟩
  | .hbm, ⟨35, _⟩ => ⟨S1024x512, .f32⟩
  | .hbm, ⟨36, _⟩ => ⟨S1024x768, .f32⟩
  | .hbm, ⟨37, _⟩ => ⟨S1024x512, .f32⟩
  | .hbm, ⟨38, _⟩ => ⟨S1024x768, .f32⟩
  | .hbm, ⟨39, _⟩ => ⟨S1024x256, .f32⟩
  | .hbm, ⟨40, _⟩ => ⟨S1024x24, .f32⟩
  | .hbm, ⟨41, _⟩ => ⟨S1024x8, .f32⟩
  | .hbm, ⟨42, _⟩ => ⟨S_, .f32⟩
  | .hbm, ⟨43, _⟩ => ⟨S1024x96, .f32⟩
  | .hbm, ⟨44, _⟩ => ⟨S1024x3968, .f32⟩
  | .hbm, ⟨45, _⟩ => ⟨S1024x3968, .bf16⟩
  | .hbm, ⟨46, _⟩ => ⟨S256x1024, .f32⟩
  | .hbm, ⟨47, _⟩ => ⟨S256x512, .f32⟩
  | .hbm, ⟨48, _⟩ => ⟨S256x512, .f32⟩
  | .hbm, ⟨49, _⟩ => ⟨S256x512, .f32⟩
  | .hbm, ⟨50, _⟩ => ⟨S256x256, .f32⟩
  | .hbm, ⟨51, _⟩ => ⟨S256x512, .f32⟩
  | .hbm, ⟨52, _⟩ => ⟨S256x768, .f32⟩
  | .hbm, ⟨53, _⟩ => ⟨S256x256, .f32⟩
  | .hbm, ⟨54, _⟩ => ⟨S256x128, .f32⟩
  | .local _ .vmem, ⟨0, _⟩ => ⟨S256x1024, .f32⟩
  | .local _ .vmem, ⟨1, _⟩ => ⟨S1x1024, .f32⟩
  | .local _ .vmem, ⟨2, _⟩ => ⟨S1024x3968, .bf16⟩
  | .local _ .vmem, ⟨3, _⟩ => ⟨S256x128, .f32⟩
  | .local _ .vmem, ⟨4, _⟩ => ⟨S256x128, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x256, .f32⟩
  | .local _ .vmem, ⟨10, _⟩ => ⟨S256x512, .f32⟩
  | .local _ .vmem, ⟨11, _⟩ => ⟨S256x768, .f32⟩
  | .local _ .vmem, ⟨12, _⟩ => ⟨S256x256, .f32⟩
  | .local _ .vmem, ⟨13, _⟩ => ⟨S256x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39_0 : Ref sig .tc := ⟨.hbm, 46, rfl⟩
abbrev main_v39_1 : Ref sig .tc := ⟨.hbm, 47, rfl⟩
abbrev main_v39_2 : Ref sig .tc := ⟨.hbm, 48, rfl⟩
abbrev main_v39_3 : Ref sig .tc := ⟨.hbm, 49, rfl⟩
abbrev main_v39_4 : Ref sig .tc := ⟨.hbm, 50, rfl⟩
abbrev main_v39_5 : Ref sig .tc := ⟨.hbm, 51, rfl⟩
abbrev main_v39_6 : Ref sig .tc := ⟨.hbm, 52, rfl⟩
abbrev main_v39_7 : Ref sig .tc := ⟨.hbm, 53, rfl⟩
abbrev main_v39_8 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== ProjSRefIdeal.lean ====
abbrev S32x8x1024 : Shape := ⟨3, ![32, 8, 1024]⟩
abbrev S1x1024 : Shape := ⟨2, ![1, 1024]⟩
abbrev S1024x3872 : Shape := ⟨2, ![1024, 3872]⟩
abbrev S8 : Shape := ⟨1, ![8]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3872 : Shape := ⟨3, ![32, 8, 3872]⟩
abbrev S32x8x256 : Shape := ⟨3, ![32, 8, 256]⟩
abbrev S32x8x4x64 : Shape := ⟨4, ![32, 8, 4, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S32x8x4x32 : Shape := ⟨4, ![32, 8, 4, 32]⟩
abbrev S1x8x1x32 : Shape := ⟨4, ![1, 8, 1, 32]⟩
abbrev S256x256 : Shape := ⟨2, ![256, 256]⟩
abbrev S32x8x512 : Shape := ⟨3, ![32, 8, 512]⟩
abbrev S256x512 : Shape := ⟨2, ![256, 512]⟩
abbrev S256x1024 : Shape := ⟨2, ![256, 1024]⟩
abbrev S32x8x8x64 : Shape := ⟨4, ![32, 8, 8, 64]⟩
abbrev S32x8x768 : Shape := ⟨3, ![32, 8, 768]⟩
abbrev S32x8x6x2x64 : Shape := ⟨5, ![32, 8, 6, 2, 64]⟩
abbrev S32x8x1x2x64 : Shape := ⟨5, ![32, 8, 1, 2, 64]⟩
abbrev S32x8x2x64 : Shape := ⟨4, ![32, 8, 2, 64]⟩
abbrev S32x8x2x32 : Shape := ⟨4, ![32, 8, 2, 32]⟩
abbrev S32x8x4x2x64 : Shape := ⟨5, ![32, 8, 4, 2, 64]⟩
abbrev S32x8x2x2x64 : Shape := ⟨5, ![32, 8, 2, 2, 64]⟩
abbrev S32x8x24 : Shape := ⟨3, ![32, 8, 24]⟩
abbrev S32x8x8 : Shape := ⟨3, ![32, 8, 8]⟩
abbrev S32x8x32 : Shape := ⟨3, ![32, 8, 32]⟩
abbrev S32x8x128 : Shape := ⟨3, ![32, 8, 128]⟩
abbrev S32x8x8x32 : Shape := ⟨4, ![32, 8, 8, 32]⟩
abbrev S256x768 : Shape := ⟨2, ![256, 768]⟩
abbrev S256x128 : Shape := ⟨2, ![256, 128]⟩

abbrev nBuf : Space → Nat
  | .hbm => 252
  | .vmem => 0
  | .smem => 0
  | _ => 0

abbrev hbmTy0_0 (i : Nat) : BufTy := match i % 128 with
  | 0 => ⟨S32x8x1024, .f32⟩
  | 1 => ⟨S1x1024, .f32⟩
  | 2 => ⟨S1024x3872, .f32⟩
  | 3 => ⟨S8, .i32⟩
  | 4 => ⟨S_, .i32⟩
  | 5 => ⟨S8, .i32⟩
  | 6 => ⟨S8, .i32⟩
  | 7 => ⟨S32x8x1024, .f32⟩
  | 8 => ⟨S_, .f32⟩
  | 9 => ⟨S32x8, .f32⟩
  | 10 => ⟨S32x8x1, .f32⟩
  | 11 => ⟨S_, .f32⟩
  | 12 => ⟨S32x8x1, .f32⟩
  | 13 => ⟨S32x8x1, .f32⟩
  | 14 => ⟨S_, .f32⟩
  | 15 => ⟨S32x8x1, .f32⟩
  | 16 => ⟨S32x8x1, .f32⟩
  | 17 => ⟨S32x8x1, .f32⟩
  | 18 => ⟨S32x8x1024, .f32⟩
  | 19 => ⟨S32x8x1024, .f32⟩
  | 20 => ⟨S1x1x1024, .f32⟩
  | 21 => ⟨S32x8x1024, .f32⟩
  | 22 => ⟨S32x8x1024, .f32⟩
  | 23 => ⟨S32x8x3872, .f32⟩
  | 24 => ⟨S32x8x256, .f32⟩
  | 25 => ⟨S32x8x4x64, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S8, .f32⟩
  | 35 => ⟨S8x1, .f32⟩
  | 36 => ⟨S1x32, .f32⟩
  | 37 => ⟨S8x32, .f32⟩
  | 38 => ⟨S8x32, .f32⟩
  | 39 => ⟨S8x32, .f32⟩
  | 40 => ⟨S8x32, .f32⟩
  | 41 => ⟨S8x1x32, .f32⟩
  | 42 => ⟨S8x32, .f32⟩
  | 43 => ⟨S8x1x32, .f32⟩
  | 44 => ⟨S32x8x4x32, .f32⟩
  | 45 => ⟨S32x8x4x32, .f32⟩
  | 46 => ⟨S1x8x1x32, .f32⟩
  | 47 => ⟨S32x8x4x32, .f32⟩
  | 48 => ⟨S32x8x4x32, .f32⟩
  | 49 => ⟨S1x8x1x32, .f32⟩
  | 50 => ⟨S32x8x4x32, .f32⟩
  | 51 => ⟨S32x8x4x32, .f32⟩
  | 52 => ⟨S32x8x4x32, .f32⟩
  | 53 => ⟨S1x8x1x32, .f32⟩
  | 54 => ⟨S32x8x4x32, .f32⟩
  | 55 => ⟨S32x8x4x32, .f32⟩
  | 56 => ⟨S1x8x1x32, .f32⟩
  | 57 => ⟨S32x8x4x32, .f32⟩
  | 58 => ⟨S32x8x4x32, .f32⟩
  | 59 => ⟨S32x8x4x32, .f32⟩
  | 60 => ⟨S32x8x4x64, .f32⟩
  | 61 => ⟨S32x8x256, .f32⟩
  | 62 => ⟨S32x8x4x64, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S8, .f32⟩
  | 72 => ⟨S8x1, .f32⟩
  | 73 => ⟨S1x32, .f32⟩
  | 74 => ⟨S8x32, .f32⟩
  | 75 => ⟨S8x32, .f32⟩
  | 76 => ⟨S8x32, .f32⟩
  | 77 => ⟨S8x32, .f32⟩
  | 78 => ⟨S8x1x32, .f32⟩
  | 79 => ⟨S8x32, .f32⟩
  | 80 => ⟨S8x1x32, .f32⟩
  | 81 => ⟨S32x8x4x32, .f32⟩
  | 82 => ⟨S32x8x4x32, .f32⟩
  | 83 => ⟨S1x8x1x32, .f32⟩
  | 84 => ⟨S32x8x4x32, .f32⟩
  | 85 => ⟨S32x8x4x32, .f32⟩
  | 86 => ⟨S1x8x1x32, .f32⟩
  | 87 => ⟨S32x8x4x32, .f32⟩
  | 88 => ⟨S32x8x4x32, .f32⟩
  | 89 => ⟨S32x8x4x32, .f32⟩
  | 90 => ⟨S1x8x1x32, .f32⟩
  | 91 => ⟨S32x8x4x32, .f32⟩
  | 92 => ⟨S32x8x4x32, .f32⟩
  | 93 => ⟨S1x8x1x32, .f32⟩
  | 94 => ⟨S32x8x4x32, .f32⟩
  | 95 => ⟨S32x8x4x32, .f32⟩
  | 96 => ⟨S32x8x4x32, .f32⟩
  | 97 => ⟨S32x8x4x64, .f32⟩
  | 98 => ⟨S_, .f32⟩
  | 99 => ⟨S32x8x4x64, .f32⟩
  | 100 => ⟨S32x8x4x64, .f32⟩
  | 101 => ⟨S256x256, .f32⟩
  | 102 => ⟨S256x256, .f32⟩
  | 103 => ⟨S32x8x512, .f32⟩
  | 104 => ⟨S256x512, .f32⟩
  | 105 => ⟨S256x1024, .f32⟩
  | 106 => ⟨S32x8x512, .f32⟩
  | 107 => ⟨S32x8x8x64, .f32⟩
  | 108 => ⟨S32x8x768, .f32⟩
  | 109 => ⟨S32x8x6x2x64, .f32⟩
  | 110 => ⟨S32x8x1x2x64, .f32⟩
  | 111 => ⟨S32x8x2x64, .f32⟩
  | 112 => ⟨S32x8x1x2x64, .f32⟩
  | 113 => ⟨S32x8x2x64, .f32⟩
  | 114 => ⟨S32x8x1x2x64, .f32⟩
  | 115 => ⟨S32x8x2x64, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S8, .f32⟩
  | 125 => ⟨S8x1, .f32⟩
  | 126 => ⟨S1x32, .f32⟩
  | 127 => ⟨S8x32, .f32⟩
  | _ => ⟨S32x8x1024, .f32⟩

abbrev hbmTy0_1 (i : Nat) : BufTy := match i % 128 with
  | 0 => ⟨S8x32, .f32⟩
  | 1 => ⟨S8x32, .f32⟩
  | 2 => ⟨S8x32, .f32⟩
  | 3 => ⟨S8x1x32, .f32⟩
  | 4 => ⟨S8x32, .f32⟩
  | 5 => ⟨S8x1x32, .f32⟩
  | 6 => ⟨S32x8x2x32, .f32⟩
  | 7 => ⟨S32x8x2x32, .f32⟩
  | 8 => ⟨S1x8x1x32, .f32⟩
  | 9 => ⟨S32x8x2x32, .f32⟩
  | 10 => ⟨S32x8x2x32, .f32⟩
  | 11 => ⟨S1x8x1x32, .f32⟩
  | 12 => ⟨S32x8x2x32, .f32⟩
  | 13 => ⟨S32x8x2x32, .f32⟩
  | 14 => ⟨S32x8x2x32, .f32⟩
  | 15 => ⟨S1x8x1x32, .f32⟩
  | 16 => ⟨S32x8x2x32, .f32⟩
  | 17 => ⟨S32x8x2x32, .f32⟩
  | 18 => ⟨S1x8x1x32, .f32⟩
  | 19 => ⟨S32x8x2x32, .f32⟩
  | 20 => ⟨S32x8x2x32, .f32⟩
  | 21 => ⟨S32x8x2x32, .f32⟩
  | 22 => ⟨S32x8x2x64, .f32⟩
  | 23 => ⟨S32x8x1x2x64, .f32⟩
  | 24 => ⟨S32x8x2x64, .f32⟩
  | 25 => ⟨S32x8x1x2x64, .f32⟩
  | 26 => ⟨S32x8x1x2x64, .f32⟩
  | 27 => ⟨S32x8x1x2x64, .f32⟩
  | 28 => ⟨S32x8x1x2x64, .f32⟩
  | 29 => ⟨S32x8x4x2x64, .f32⟩
  | 30 => ⟨S32x8x1x2x64, .f32⟩
  | 31 => ⟨S32x8x2x64, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S8, .f32⟩
  | 41 => ⟨S8x1, .f32⟩
  | 42 => ⟨S1x32, .f32⟩
  | 43 => ⟨S8x32, .f32⟩
  | 44 => ⟨S8x32, .f32⟩
  | 45 => ⟨S8x32, .f32⟩
  | 46 => ⟨S8x32, .f32⟩
  | 47 => ⟨S8x1x32, .f32⟩
  | 48 => ⟨S8x32, .f32⟩
  | 49 => ⟨S8x1x32, .f32⟩
  | 50 => ⟨S32x8x2x32, .f32⟩
  | 51 => ⟨S32x8x2x32, .f32⟩
  | 52 => ⟨S1x8x1x32, .f32⟩
  | 53 => ⟨S32x8x2x32, .f32⟩
  | 54 => ⟨S32x8x2x32, .f32⟩
  | 55 => ⟨S1x8x1x32, .f32⟩
  | 56 => ⟨S32x8x2x32, .f32⟩
  | 57 => ⟨S32x8x2x32, .f32⟩
  | 58 => ⟨S32x8x2x32, .f32⟩
  | 59 => ⟨S1x8x1x32, .f32⟩
  | 60 => ⟨S32x8x2x32, .f32⟩
  | 61 => ⟨S32x8x2x32, .f32⟩
  | 62 => ⟨S1x8x1x32, .f32⟩
  | 63 => ⟨S32x8x2x32, .f32⟩
  | 64 => ⟨S32x8x2x32, .f32⟩
  | 65 => ⟨S32x8x2x32, .f32⟩
  | 66 => ⟨S32x8x2x64, .f32⟩
  | 67 => ⟨S32x8x1x2x64, .f32⟩
  | 68 => ⟨S32x8x2x64, .f32⟩
  | 69 => ⟨S32x8x1x2x64, .f32⟩
  | 70 => ⟨S32x8x1x2x64, .f32⟩
  | 71 => ⟨S32x8x2x2x64, .f32⟩
  | 72 => ⟨S32x8x24, .f32⟩
  | 73 => ⟨S32x8x8, .f32⟩
  | 74 => ⟨S32x8x32, .f32⟩
  | 75 => ⟨S_, .i32⟩
  | 76 => ⟨S_, .f32⟩
  | 77 => ⟨S32x8x128, .f32⟩
  | 78 => ⟨S256x512, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S8, .f32⟩
  | 88 => ⟨S8x1, .f32⟩
  | 89 => ⟨S1x32, .f32⟩
  | 90 => ⟨S8x32, .f32⟩
  | 91 => ⟨S8x32, .f32⟩
  | 92 => ⟨S8x32, .f32⟩
  | 93 => ⟨S8x32, .f32⟩
  | 94 => ⟨S8x1x32, .f32⟩
  | 95 => ⟨S8x32, .f32⟩
  | 96 => ⟨S8x1x32, .f32⟩
  | 97 => ⟨S32x8x8x32, .f32⟩
  | 98 => ⟨S32x8x8x32, .f32⟩
  | 99 => ⟨S1x8x1x32, .f32⟩
  | 100 => ⟨S32x8x8x32, .f32⟩
  | 101 => ⟨S32x8x8x32, .f32⟩
  | 102 => ⟨S1x8x1x32, .f32⟩
  | 103 => ⟨S32x8x8x32, .f32⟩
  | 104 => ⟨S32x8x8x32, .f32⟩
  | 105 => ⟨S32x8x8x32, .f32⟩
  | 106 => ⟨S1x8x1x32, .f32⟩
  | 107 => ⟨S32x8x8x32, .f32⟩
  | 108 => ⟨S32x8x8x32, .f32⟩
  | 109 => ⟨S1x8x1x32, .f32⟩
  | 110 => ⟨S32x8x8x32, .f32⟩
  | 111 => ⟨S32x8x8x32, .f32⟩
  | 112 => ⟨S32x8x8x32, .f32⟩
  | 113 => ⟨S32x8x8x64, .f32⟩
  | 114 => ⟨S256x512, .f32⟩
  | 115 => ⟨S256x512, .f32⟩
  | 116 => ⟨S256x256, .f32⟩
  | 117 => ⟨S32x8x512, .f32⟩
  | 118 => ⟨S256x512, .f32⟩
  | 119 => ⟨S32x8x768, .f32⟩
  | 120 => ⟨S256x768, .f32⟩
  | 121 => ⟨S32x8x256, .f32⟩
  | 122 => ⟨S256x256, .f32⟩
  | 123 => ⟨S256x128, .f32⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_6 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_cst_7 : Ref sig .tc := ⟨.hbm, 118, rfl⟩
abbrev main_v106 : Ref sig .tc := ⟨.hbm, 119, rfl⟩
abbrev main_v107 : Ref sig .tc := ⟨.hbm, 120, rfl⟩
abbrev main_cst_8 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_cst_9 : Ref sig .tc := ⟨.hbm, 162, rfl⟩
abbrev main_v148 : Ref sig .tc := ⟨.hbm, 163, rfl⟩
abbrev main_v149 : Ref sig .tc := ⟨.hbm, 164, rfl⟩
abbrev main_cst_10 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_c_11 : Ref sig .tc := ⟨.hbm, 203, rfl⟩
abbrev main_call0_v0 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_cst_12 : Ref sig .tc := ⟨.hbm, 209, rfl⟩
abbrev main_v191 : Ref sig .tc := ⟨.hbm, 210, rfl⟩
abbrev main_v192 : Ref sig .tc := ⟨.hbm, 211, rfl⟩
abbrev main_cst_13 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩

abbrev nD : Nat := 1
abbrev τ : Topo := Topo.v7x

variable {F : FTy → Type} [FloatOps F]
-- ==== Proof.Chunk.lean ====
/- One chunk of 64 positions of the retention, as the kernel's body computes it: what a head's rows come to, how they are
   normalised, and what the chunk leaves in the head's state. -/
module

public import proofs.«01_k».proof.Proof.Gen.RetIdeal.Skeleton
public import Idealize.ShloMosaic.Lib.Pointwise

@[expose] public section

set_option maxRecDepth 16384

noncomputable section

namespace Cert.RetIdeal.Chunk

open Cert.RetIdeal Cert.RetIdeal.Gen Idealize.ShloMosaic

variable {F : FTy → Type} [FloatOps F] [Named F]

/-- The zero tile every product accumulates onto. -/
def zeroTile : FVec F S64x64 .f32 := constant S64x64 .f32 0x00000000#32

/-- The rows of one head before normalisation: the masked scores on the values, and the queries on the carried state. -/
def mix (q k v : FVec F S64x64 .bf16) (dm : Vec F S1x64x64 .f32) (S qd : FVec F S64x64 .f32) : FVec F S64x64 .f32 :=
  addf
    (matmul dot_S64x64_S64x64_S64x64_1_0_0_1_n_n none
      (truncf .bf16 (mulf (matmul dot_S64x64_S64x64_S64x64_1_1_0_0_n_n none q k zeroTile)
        (shapeCast S64x64 dm shapeCasts_S1x64x64_S64x64)) bitsLt_bf16_f32) v zeroTile)
    (mulf (matmul dot_S64x64_S64x64_S64x64_1_0_0_1_n_n none q (truncf .bf16 S bitsLt_bf16_f32) zeroTile) qd)

/-- The mean of each row, as a column. -/
def rowMean (x : FVec F S64x64 .f32) : FVec F S64x1 .f32 :=
  divf (shapeCast S64x1 (multiReduction .add [1] S64 x 0x00000000#32 reduces_S64x64_S64 (.inl rfl) rfl) shapeCasts_S64_S64x1)
    (broadcast S64x1 (Scalar.ofBits .f32 0x42800000#32))

/-- Rows less their mean. -/
def centred (x : FVec F S64x64 .f32) : FVec F S64x64 .f32 :=
  subf x (broadcastTo S64x64 (rowMean x) broadcasts_S64x1_S64x64)

/-- Rows normalised to mean zero and variance one. -/
def normed (x : FVec F S64x64 .f32) : FVec F S64x64 .f32 :=
  mulf (centred x)
    (broadcastTo S64x64
      (rsqrt (addf (rowMean (mulf (centred x) (centred x))) (broadcast S64x1 (Scalar.ofBits .f32 0x358637BD#32))))
      broadcasts_S64x1_S64x64)

/-- A head's state after the chunk: decayed by `g`, with the chunk's keys and values added. -/
def push (g : F .f32) (S : FVec F S64x64 .f32) (kk vv : FVec F S64x64 .bf16) : FVec F S64x64 .f32 :=
  addf (mulf S (broadcast S64x64 g)) (matmul dot_S64x64_S64x64_S64x64_0_0_1_1_n_n none kk vv zeroTile)

/-- The chunk's rows without their leading axis. -/
def flat (X : Vec F S1x64x1024 .f32) : FVec F S64x1024 .f32 := shapeCast S64x1024 X shapeCasts_S1x64x1024_S64x1024
/-- The chunk's queries. -/
def qOf (X : Vec F S1x64x1024 .f32) : FVec F S64x256 .bf16 :=
  truncf .bf16 (extractStridedSlice S64x256 ![0, 0] (flat X) slices_S64x1024_o0_0_S64x256) bitsLt_bf16_f32
/-- The chunk's keys. -/
def kOf (X : Vec F S1x64x1024 .f32) : FVec F S64x256 .f32 :=
  extractStridedSlice S64x256 ![0, 256] (flat X) slices_S64x1024_o0_256_S64x256
/-- The chunk's values. -/
def vOf (X : Vec F S1x64x1024 .f32) : FVec F S64x256 .bf16 :=
  truncf .bf16 (extractStridedSlice S64x256 ![0, 512] (flat X) slices_S64x1024_o0_512_S64x256) bitsLt_bf16_f32
/-- The chunk's gate before its activation. -/
def gOf (X : Vec F S1x64x1024 .f32) : FVec F S64x256 .f32 :=
  extractStridedSlice S64x256 ![0, 768] (flat X) slices_S64x1024_o0_768_S64x256
/-- The chunk's keys weighted by how far each lies from the chunk's end. -/
def kdOf (X : Vec F S1x64x1024 .f32) (kd : Vec F S64x256 .f32) : FVec F S64x256 .bf16 :=
  truncf .bf16 (mulf (kOf X) (shapeCast S64x256 kd shapeCasts_S64x256_S64x256)) bitsLt_bf16_f32

/-- Head 0's, 1's, 2's and 3's columns. -/
def h0 {φ : FTy} (x : FVec F S64x256 φ) : FVec F S64x64 φ := extractStridedSlice S64x64 ![0, 0] x slices_S64x256_o0_0_S64x64
@[inherit_doc h0] def h1 {φ : FTy} (x : FVec F S64x256 φ) : FVec F S64x64 φ := extractStridedSlice S64x64 ![0, 64] x slices_S64x256_o0_64_S64x64
@[inherit_doc h0] def h2 {φ : FTy} (x : FVec F S64x256 φ) : FVec F S64x64 φ := extractStridedSlice S64x64 ![0, 128] x slices_S64x256_o0_128_S64x64
@[inherit_doc h0] def h3 {φ : FTy} (x : FVec F S64x256 φ) : FVec F S64x64 φ := extractStridedSlice S64x64 ![0, 192] x slices_S64x256_o0_192_S64x64

/-- What a chunk stores of the output: the four heads side by side, scaled and gated. -/
def rows (X : Vec F S1x64x1024 .f32) (d0 d1 d2 d3 : Vec F S1x64x64 .f32) (qd : Vec F S64x256 .f32) (gn : Vec F S1x256 .f32)
    (S0 S1 S2 S3 : FVec F S64x64 .f32) : FVec F S1x64x256 .f32 :=
  shapeCast S1x64x256
    (mulf
      (mulf
        (concatenate S64x256 1
          [⟨S64x64, normed (mix (h0 (qOf X)) (h0 (truncf .bf16 (kOf X) bitsLt_bf16_f32)) (h0 (vOf X)) d0 S0 (h0 (shapeCast S64x256 qd shapeCasts_S64x256_S64x256)))⟩,
           ⟨S64x64, normed (mix (h1 (qOf X)) (h1 (truncf .bf16 (kOf X) bitsLt_bf16_f32)) (h1 (vOf X)) d1 S1 (h1 (shapeCast S64x256 qd shapeCasts_S64x256_S64x256)))⟩,
           ⟨S64x64, normed (mix (h2 (qOf X)) (h2 (truncf .bf16 (kOf X) bitsLt_bf16_f32)) (h2 (vOf X)) d2 S2 (h2 (shapeCast S64x256 qd shapeCasts_S64x256_S64x256)))⟩,
           ⟨S64x64, normed (mix (h3 (qOf X)) (h3 (truncf .bf16 (kOf X) bitsLt_bf16_f32)) (h3 (vOf X)) d3 S3 (h3 (shapeCast S64x256 qd shapeCasts_S64x256_S64x256)))⟩]
          concatenates_S64x64_S64x64_S64x64_S64x64_S64x256_d1)
        (broadcastTo S64x256 gn broadcasts_S1x256_S64x256))
      (mulf (gOf X) (logistic (gOf X))))
    shapeCasts_S64x256_S1x64x256

/-- The named decays of the four heads over a chunk. -/
def g0 : F .f32 := Named.named κ "gamma0" 0x3E063AE5#32
@[inherit_doc g0] def g1 : F .f32 := Named.named κ "gamma1" 0x3EBADF84#32
@[inherit_doc g0] def g2 : F .f32 := Named.named κ "gamma2" 0x3F1AF7A1#32
@[inherit_doc g0] def g3 : F .f32 := Named.named κ "gamma3" 0x3F474682#32

/-- What the chunk makes of head 0's, 1's, 2's and 3's state. -/
def step0 (X : Vec F S1x64x1024 .f32) (kd : Vec F S64x256 .f32) (S : FVec F S64x64 .f32) : FVec F S64x64 .f32 := push g0 S (h0 (kdOf X kd)) (h0 (vOf X))
@[inherit_doc step0] def step1 (X : Vec F S1x64x1024 .f32) (kd : Vec F S64x256 .f32) (S : FVec F S64x64 .f32) : FVec F S64x64 .f32 := push g1 S (h1 (kdOf X kd)) (h1 (vOf X))
@[inherit_doc step0] def step2 (X : Vec F S1x64x1024 .f32) (kd : Vec F S64x256 .f32) (S : FVec F S64x64 .f32) : FVec F S64x64 .f32 := push g2 S (h2 (kdOf X kd)) (h2 (vOf X))
@[inherit_doc step0] def step3 (X : Vec F S1x64x1024 .f32) (kd : Vec F S64x256 .f32) (S : FVec F S64x64 .f32) : FVec F S64x64 .f32 := push g3 S (h3 (kdOf X kd)) (h3 (vOf X))

end Cert.RetIdeal.Chunk

end
-- ==== Proof.Step.lean ====
/- What one grid step leaves in the two output blocks: four chunks one after another, each on the states the one before left. -/
module

public import proofs.«01_k».proof.Proof.Chunk
public import proofs.«01_k».proof.Proof.Gen.RetIdeal.Frame
public import Idealize.ShloMosaic.Lib.Pipeline.ValueKit
public import Idealize.ShloMosaic.Lib.Pipeline.ReadBack

@[expose] public section

set_option maxRecDepth 16384

noncomputable section

namespace Cert.RetIdeal.Step

open Cert.RetIdeal Cert.RetIdeal.Gen Cert.RetIdeal.Chunk Idealize.ShloMosaic

variable {F : FTy → Type} [FloatOps F] [Named F]

/-- The four chunks of a block of 256 positions. -/
def X0 (x : Vec F S1x256x1024 .f32) : Vec F S1x64x1024 .f32 := View.ld x (Rect.unit ![0, 0, 0] ![1, 64, 1024] (by decide))
@[inherit_doc X0] def X1 (x : Vec F S1x256x1024 .f32) : Vec F S1x64x1024 .f32 := View.ld x (Rect.unit ![0, 64, 0] ![1, 64, 1024] (by decide))
@[inherit_doc X0] def X2 (x : Vec F S1x256x1024 .f32) : Vec F S1x64x1024 .f32 := View.ld x (Rect.unit ![0, 128, 0] ![1, 64, 1024] (by decide))
@[inherit_doc X0] def X3 (x : Vec F S1x256x1024 .f32) : Vec F S1x64x1024 .f32 := View.ld x (Rect.unit ![0, 192, 0] ![1, 64, 1024] (by decide))
/-- The heads' masks. -/
def M0 (x : Vec F S4x64x64 .f32) : Vec F S1x64x64 .f32 := View.ld x (Rect.unit ![0, 0, 0] ![1, 64, 64] (by decide))
@[inherit_doc M0] def M1 (x : Vec F S4x64x64 .f32) : Vec F S1x64x64 .f32 := View.ld x (Rect.unit ![1, 0, 0] ![1, 64, 64] (by decide))
@[inherit_doc M0] def M2 (x : Vec F S4x64x64 .f32) : Vec F S1x64x64 .f32 := View.ld x (Rect.unit ![2, 0, 0] ![1, 64, 64] (by decide))
@[inherit_doc M0] def M3 (x : Vec F S4x64x64 .f32) : Vec F S1x64x64 .f32 := View.ld x (Rect.unit ![3, 0, 0] ![1, 64, 64] (by decide))
/-- The heads' states. -/
def H0 (x : Vec F S1x4x64x64 .f32) : FVec F S64x64 .f32 := shapeCast S64x64 (View.ld x (Rect.unit ![0, 0, 0, 0] ![1, 1, 64, 64] (by decide))) shapeCasts_S1x1x64x64_S64x64
@[inherit_doc H0] def H1 (x : Vec F S1x4x64x64 .f32) : FVec F S64x64 .f32 := shapeCast S64x64 (View.ld x (Rect.unit ![0, 1, 0, 0] ![1, 1, 64, 64] (by decide))) shapeCasts_S1x1x64x64_S64x64
@[inherit_doc H0] def H2 (x : Vec F S1x4x64x64 .f32) : FVec F S64x64 .f32 := shapeCast S64x64 (View.ld x (Rect.unit ![0, 2, 0, 0] ![1, 1, 64, 64] (by decide))) shapeCasts_S1x1x64x64_S64x64
@[inherit_doc H0] def H3 (x : Vec F S1x4x64x64 .f32) : FVec F S64x64 .f32 := shapeCast S64x64 (View.ld x (Rect.unit ![0, 3, 0, 0] ![1, 1, 64, 64] (by decide))) shapeCasts_S1x1x64x64_S64x64
/-- Head 0's state after none, one, … four of the block's chunks. -/
def st0_0 (x : Vec F S1x256x1024 .f32) (kd : Vec F S64x256 .f32) (s : Vec F S1x4x64x64 .f32) : FVec F S64x64 .f32 := H0 s
@[inherit_doc st0_0] def st0_1 (x : Vec F S1x256x1024 .f32) (kd : Vec F S64x256 .f32) (s : Vec F S1x4x64x64 .f32) : FVec F S64x64 .f32 := step0 (X0 x) kd (st0_0 x kd s)
@[inherit_doc st0_0] def st0_2 (x : Vec F S1x256x1024 .f32) (kd : Vec F S64x256 .f32) (s : Vec F S1x4x64x64 .f32) : FVec F S64x64 .f32 := step0 (X1 x) kd (st0_1 x kd s)
@[inherit_doc st0_0] def st0_3 (x : Vec F S1x256x1024 .f32) (kd : Vec F S64x256 .f32) (s : Vec F S1x4x64x64 .f32) : FVec F S64x64 .f32 := step0 (X2 x) kd (st0_2 x kd s)
@[inherit_doc st0_0] def st0_4 (x : Vec F S1x256x1024 .f32) (kd : Vec F S64x256 .f32) (s : Vec F S1x4x64x64 .f32) : FVec F S64x64 .f32 := step0 (X3 x) kd (st0_3 x kd s)
/-- Head 1's state after none, one, … four of the block's chunks. -/
def st1_0 (x : Vec F S1x256x1024 .f32) (kd : Vec F S64x256 .f32) (s : Vec F S1x4x64x64 .f32) : FVec F S64x64 .f32 := H1 s
@[inherit_doc st1_0] def st1_1 (x : Vec F S1x256x1024 .f32) (kd : Vec F S64x256 .f32) (s : Vec F S1x4x64x64 .f32) : FVec F S64x64 .f32 := step1 (X0 x) kd (st1_0 x kd s)
@[inherit_doc st1_0] def st1_2 (x : Vec F S1x256x1024 .f32) (kd : Vec F S64x256 .f32) (s : Vec F S1x4x64x64 .f32) : FVec F S64x64 .f32 := step1 (X1 x) kd (st1_1 x kd s)
@[inherit_doc st1_0] def st1_3 (x : Vec F S1x256x1024 .f32) (kd : Vec F S64x256 .f32) (s : Vec F S1x4x64x64 .f32) : FVec F S64x64 .f32 := step1 (X2 x) kd (st1_2 x kd s)
@[inherit_doc st1_0] def st1_4 (x : Vec F S1x256x1024 .f32) (kd : Vec F S64x256 .f32) (s : Vec F S1x4x64x64 .f32) : FVec F S64x64 .f32 := step1 (X3 x) kd (st1_3 x kd s)
/-- Head 2's state after none, one, … four of the block's chunks. -/
def st2_0 (x : Vec F S1x256x1024 .f32) (kd : Vec F S64x256 .f32) (s : Vec F S1x4x64x64 .f32) : FVec F S64x64 .f32 := H2 s
@[inherit_doc st2_0] def st2_1 (x : Vec F S1x256x1024 .f32) (kd : Vec F S64x256 .f32) (s : Vec F S1x4x64x64 .f32) : FVec F S64x64 .f32 := step2 (X0 x) kd (st2_0 x kd s)
@[inherit_doc st2_0] def st2_2 (x : Vec F S1x256x1024 .f32) (kd : Vec F S64x256 .f32) (s : Vec F S1x4x64x64 .f32) : FVec F S64x64 .f32 := step2 (X1 x) kd (st2_1 x kd s)
@[inherit_doc st2_0] def st2_3 (x : Vec F S1x256x1024 .f32) (kd : Vec F S64x256 .f32) (s : Vec F S1x4x64x64 .f32) : FVec F S64x64 .f32 := step2 (X2 x) kd (st2_2 x kd s)
@[inherit_doc st2_0] def st2_4 (x : Vec F S1x256x1024 .f32) (kd : Vec F S64x256 .f32) (s : Vec F S1x4x64x64 .f32) : FVec F S64x64 .f32 := step2 (X3 x) kd (st2_3 x kd s)
/-- Head 3's state after none, one, … four of the block's chunks. -/
def st3_0 (x : Vec F S1x256x1024 .f32) (kd : Vec F S64x256 .f32) (s : Vec F S1x4x64x64 .f32) : FVec F S64x64 .f32 := H3 s
@[inherit_doc st3_0] def st3_1 (x : Vec F S1x256x1024 .f32) (kd : Vec F S64x256 .f32) (s : Vec F S1x4x64x64 .f32) : FVec F S64x64 .f32 := step3 (X0 x) kd (st3_0 x kd s)
@[inherit_doc st3_0] def st3_2 (x : Vec F S1x256x1024 .f32) (kd : Vec F S64x256 .f32) (s : Vec F S1x4x64x64 .f32) : FVec F S64x64 .f32 := step3 (X1 x) kd (st3_1 x kd s)
@[inherit_doc st3_0] def st3_3 (x : Vec F S1x256x1024 .f32) (kd : Vec F S64x256 .f32) (s : Vec F S1x4x64x64 .f32) : FVec F S64x64 .f32 := step3 (X2 x) kd (st3_2 x kd s)
@[inherit_doc st3_0] def st3_4 (x : Vec F S1x256x1024 .f32) (kd : Vec F S64x256 .f32) (s : Vec F S1x4x64x64 .f32) : FVec F S64x64 .f32 := step3 (X3 x) kd (st3_3 x kd s)

/-- The states the step leaves, from the states `s` it finds. -/
def states (x0 : Vec F S1x256x1024 .f32) (x3 : Vec F S64x256 .f32) (s : Vec F S1x4x64x64 .f32) : Vec F S1x4x64x64 .f32 := fun y =>
  if (y 1).val = 0 then st0_4 x0 x3 s (ix2 (y 2) (y 3)) else if (y 1).val = 1 then st1_4 x0 x3 s (ix2 (y 2) (y 3))
  else if (y 1).val = 2 then st2_4 x0 x3 s (ix2 (y 2) (y 3)) else st3_4 x0 x3 s (ix2 (y 2) (y 3))

/-- The rows the four chunks store. -/
def R0 (x0 : Vec F S1x256x1024 .f32) (x1 : Vec F S4x64x64 .f32) (x2 x3 : Vec F S64x256 .f32) (x4 : Vec F S1x256 .f32) (s : Vec F S1x4x64x64 .f32) : FVec F S1x64x256 .f32 :=
  rows (X0 x0) (M0 x1) (M1 x1) (M2 x1) (M3 x1) x2 x4 (st0_0 x0 x3 s) (st1_0 x0 x3 s) (st2_0 x0 x3 s) (st3_0 x0 x3 s)
@[inherit_doc R0] def R1 (x0 : Vec F S1x256x1024 .f32) (x1 : Vec F S4x64x64 .f32) (x2 x3 : Vec F S64x256 .f32) (x4 : Vec F S1x256 .f32) (s : Vec F S1x4x64x64 .f32) : FVec F S1x64x256 .f32 :=
  rows (X1 x0) (M0 x1) (M1 x1) (M2 x1) (M3 x1) x2 x4 (st0_1 x0 x3 s) (st1_1 x0 x3 s) (st2_1 x0 x3 s) (st3_1 x0 x3 s)
@[inherit_doc R0] def R2 (x0 : Vec F S1x256x1024 .f32) (x1 : Vec F S4x64x64 .f32) (x2 x3 : Vec F S64x256 .f32) (x4 : Vec F S1x256 .f32) (s : Vec F S1x4x64x64 .f32) : FVec F S1x64x256 .f32 :=
  rows (X2 x0) (M0 x1) (M1 x1) (M2 x1) (M3 x1) x2 x4 (st0_2 x0 x3 s) (st1_2 x0 x3 s) (st2_2 x0 x3 s) (st3_2 x0 x3 s)
@[inherit_doc R0] def R3 (x0 : Vec F S1x256x1024 .f32) (x1 : Vec F S4x64x64 .f32) (x2 x3 : Vec F S64x256 .f32) (x4 : Vec F S1x256 .f32) (s : Vec F S1x4x64x64 .f32) : FVec F S1x64x256 .f32 :=
  rows (X3 x0) (M0 x1) (M1 x1) (M2 x1) (M3 x1) x2 x4 (st0_3 x0 x3 s) (st1_3 x0 x3 s) (st2_3 x0 x3 s) (st3_3 x0 x3 s)

/-- The rows the step leaves, from the states `s` it finds. -/
def block (x0 : Vec F S1x256x1024 .f32) (x1 : Vec F S4x64x64 .f32) (x2 x3 : Vec F S64x256 .f32) (x4 : Vec F S1x256 .f32) (s : Vec F S1x4x64x64 .f32) : Vec F S1x256x256 .f32 := fun y =>
  if (y 1).val < 64 then R0 x0 x1 x2 x3 x4 s (ix3 0 ⟨(y 1).val % 64, Nat.mod_lt _ (by decide)⟩ (y 2))
  else if (y 1).val < 128 then R1 x0 x1 x2 x3 x4 s (ix3 0 ⟨(y 1).val % 64, Nat.mod_lt _ (by decide)⟩ (y 2))
  else if (y 1).val < 192 then R2 x0 x1 x2 x3 x4 s (ix3 0 ⟨(y 1).val % 64, Nat.mod_lt _ (by decide)⟩ (y 2))
  else R3 x0 x1 x2 x3 x4 s (ix3 0 ⟨(y 1).val % 64, Nat.mod_lt _ (by decide)⟩ (y 2))

theorem uncast (v : FVec F S64x64 .f32) (x : S1x1x64x64.Idx) : shapeCast S1x1x64x64 v shapeCasts_S64x64_S1x1x64x64 x = v (ix2 (x 2) (x 3)) := by
  pointwise

theorem outB7 (c : Dev nD) (i : grid0.Coords) (arg2 : Memref sig .tc .vmem S1x256x1024 .f32) (harg2 : arg2.IsWhole) (arg3 : Memref sig .tc .vmem S4x64x64 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x4x64x64 .f32) (harg7 : arg7.IsWhole) (arg8 : Memref sig .tc .vmem S1x256x256 .f32) (harg8 : arg8.IsWhole) (arg9 : Memref sig .tc .vmem S1x4x64x64 .f32) (harg9 : arg9.IsWhole) (hc0 : ¬cond0_0 i)
    (x0 : Vec F S1x256x1024 .f32) (x1 : Vec F S4x64x64 .f32) (x2 : Vec F S64x256 .f32) (x3 : Vec F S64x256 .f32) (x4 : Vec F S1x256 .f32) (x5 : Vec F S1x4x64x64 .f32) (xo7 : Vec F S1x4x64x64 .f32) (y : S1x4x64x64.Idx) :
    out0_B_7 c i arg2 harg2 arg3 harg3 arg4 harg4 arg5 harg5 arg6 harg6 arg7 harg7 arg8 harg8 arg9 harg9 hc0 x0 x1 x2 x3 x4 x5 xo7 y = states x0 x3 xo7 y := by
  frame_open
  frame_out
  canon_tiles x h
  case piece3 =>
    change shapeCast S1x1x64x64 (st0_4 x0 x3 xo7) shapeCasts_S64x64_S1x1x64x64 x = _
    rw [uncast]; unfold states; rw [if_pos (by omega)]
    congr 1; exact ((ix2_inj _ _ _ _).mpr ⟨Fin.ext h2.symm, Fin.ext h3.symm⟩)
  case piece2 =>
    change shapeCast S1x1x64x64 (st1_4 x0 x3 xo7) shapeCasts_S64x64_S1x1x64x64 x = _
    rw [uncast]; unfold states; rw [if_neg (by omega), if_pos (by omega)]
    congr 1; exact ((ix2_inj _ _ _ _).mpr ⟨Fin.ext h2.symm, Fin.ext h3.symm⟩)
  case piece1 =>
    change shapeCast S1x1x64x64 (st2_4 x0 x3 xo7) shapeCasts_S64x64_S1x1x64x64 x = _
    rw [uncast]; unfold states; rw [if_neg (by omega), if_neg (by omega), if_pos (by omega)]
    congr 1; exact ((ix2_inj _ _ _ _).mpr ⟨Fin.ext h2.symm, Fin.ext h3.symm⟩)
  case piece0 =>
    change shapeCast S1x1x64x64 (st3_4 x0 x3 xo7) shapeCasts_S64x64_S1x1x64x64 x = _
    rw [uncast]; unfold states; rw [if_neg (by omega), if_neg (by omega), if_neg (by omega)]
    congr 1; exact ((ix2_inj _ _ _ _).mpr ⟨Fin.ext h2.symm, Fin.ext h3.symm⟩)

set_option maxHeartbeats 4000000 in
theorem outB6 (c : Dev nD) (i : grid0.Coords) (arg2 : Memref sig .tc .vmem S1x256x1024 .f32) (harg2 : arg2.IsWhole) (arg3 : Memref sig .tc .vmem S4x64x64 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x4x64x64 .f32) (harg7 : arg7.IsWhole) (arg8 : Memref sig .tc .vmem S1x256x256 .f32) (harg8 : arg8.IsWhole) (arg9 : Memref sig .tc .vmem S1x4x64x64 .f32) (harg9 : arg9.IsWhole) (hc0 : ¬cond0_0 i)
    (x0 : Vec F S1x256x1024 .f32) (x1 : Vec F S4x64x64 .f32) (x2 : Vec F S64x256 .f32) (x3 : Vec F S64x256 .f32) (x4 : Vec F S1x256 .f32) (x5 : Vec F S1x4x64x64 .f32) (xo7 : Vec F S1x4x64x64 .f32) (y : S1x256x256.Idx) :
    out0_B_6 c i arg2 harg2 arg3 harg3 arg4 harg4 arg5 harg5 arg6 harg6 arg7 harg7 arg8 harg8 arg9 harg9 hc0 x0 x1 x2 x3 x4 x5 xo7 y = block x0 x1 x2 x3 x4 xo7 y := by
  frame_open
  frame_out
  try rw [harg2.read_unread x0]
  try rw [harg3.read_unread x1]
  try rw [harg4.read_unread x2]
  try rw [harg5.read_unread x3]
  try rw [harg6.read_unread x4]
  try rw [harg9.read_unread xo7]
  try rw [View.ld_unit_lit _ x2 (by decide)]
  try rw [View.ld_unit_lit _ x3 (by decide)]
  try rw [View.ld_unit_lit _ x4 (by decide)]
  canon_tiles x h
  case piece3 =>
    change R0 x0 x1 x2 x3 x4 xo7 x = _
    have a0 : (x 0).val = 0 := by omega
    have a1 : (x 1).val = (y 1).val % 64 := by omega
    have e : x = ix3 0 ⟨(y 1).val % 64, Nat.mod_lt _ (by decide)⟩ (y 2) :=
      (eq_ix3 x).trans ((ix3_inj _ _ _ _ _ _).mpr ⟨Fin.ext a0, Fin.ext a1, Fin.ext h2.symm⟩)
    rw [e]
    unfold block
    generalize R0 x0 x1 x2 x3 x4 xo7 = z
    rw [if_pos (by omega)]
    rfl
  case piece2 =>
    change R1 x0 x1 x2 x3 x4 xo7 x = _
    have a0 : (x 0).val = 0 := by omega
    have a1 : (x 1).val = (y 1).val % 64 := by omega
    have e : x = ix3 0 ⟨(y 1).val % 64, Nat.mod_lt _ (by decide)⟩ (y 2) :=
      (eq_ix3 x).trans ((ix3_inj _ _ _ _ _ _).mpr ⟨Fin.ext a0, Fin.ext a1, Fin.ext h2.symm⟩)
    rw [e]
    unfold block
    generalize R1 x0 x1 x2 x3 x4 xo7 = z
    rw [if_neg (by omega), if_pos (by omega)]
    rfl
  case piece1 =>
    change R2 x0 x1 x2 x3 x4 xo7 x = _
    have a0 : (x 0).val = 0 := by omega
    have a1 : (x 1).val = (y 1).val % 64 := by omega
    have e : x = ix3 0 ⟨(y 1).val % 64, Nat.mod_lt _ (by decide)⟩ (y 2) :=
      (eq_ix3 x).trans ((ix3_inj _ _ _ _ _ _).mpr ⟨Fin.ext a0, Fin.ext a1, Fin.ext h2.symm⟩)
    rw [e]
    unfold block
    generalize R2 x0 x1 x2 x3 x4 xo7 = z
    rw [if_neg (by omega), if_neg (by omega), if_pos (by omega)]
    rfl
  case piece0 =>
    change R3 x0 x1 x2 x3 x4 xo7 x = _
    have a0 : (x 0).val = 0 := by omega
    have a1 : (x 1).val = (y 1).val % 64 := by omega
    have e : x = ix3 0 ⟨(y 1).val % 64, Nat.mod_lt _ (by decide)⟩ (y 2) :=
      (eq_ix3 x).trans ((ix3_inj _ _ _ _ _ _).mpr ⟨Fin.ext a0, Fin.ext a1, Fin.ext h2.symm⟩)
    rw [e]
    unfold block
    generalize R3 x0 x1 x2 x3 x4 xo7 = z
    rw [if_neg (by omega), if_neg (by omega), if_neg (by omega)]
    rfl

set_option maxHeartbeats 4000000 in
theorem outA6 (c : Dev nD) (i : grid0.Coords) (arg2 : Memref sig .tc .vmem S1x256x1024 .f32) (harg2 : arg2.IsWhole) (arg3 : Memref sig .tc .vmem S4x64x64 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x4x64x64 .f32) (harg7 : arg7.IsWhole) (arg8 : Memref sig .tc .vmem S1x256x256 .f32) (harg8 : arg8.IsWhole) (arg9 : Memref sig .tc .vmem S1x4x64x64 .f32) (harg9 : arg9.IsWhole) (hc0 : cond0_0 i)
    (x0 : Vec F S1x256x1024 .f32) (x1 : Vec F S4x64x64 .f32) (x2 : Vec F S64x256 .f32) (x3 : Vec F S64x256 .f32) (x4 : Vec F S1x256 .f32) (x5 : Vec F S1x4x64x64 .f32) (y : S1x256x256.Idx) :
    out0_A_6 c i arg2 harg2 arg3 harg3 arg4 harg4 arg5 harg5 arg6 harg6 arg7 harg7 arg8 harg8 arg9 harg9 hc0 x0 x1 x2 x3 x4 x5 y = block x0 x1 x2 x3 x4 x5 y := by
  frame_open
  simp (disch := decide) only [↓ View.readCov_skip, ↓ View.readCov_fill]
  frame_out
  try rw [harg2.read_unread x0]
  try rw [harg3.read_unread x1]
  try rw [harg4.read_unread x2]
  try rw [harg5.read_unread x3]
  try rw [harg6.read_unread x4]
  try rw [harg7.read_unread x5]
  try rw [View.ld_unit_lit _ x2 (by decide)]
  try rw [View.ld_unit_lit _ x3 (by decide)]
  try rw [View.ld_unit_lit _ x4 (by decide)]
  try rw [View.ld_unit_lit _ x5 (by decide)]
  try rw [View.readCov_fill arg9.view _ x5 [] (Rect.unit ![0, 0, 0, 0] ![1, 1, 64, 64] _) (by decide)]
  try rw [View.readCov_fill arg9.view _ x5 [] (Rect.unit ![0, 1, 0, 0] ![1, 1, 64, 64] _) (by decide)]
  try rw [View.readCov_fill arg9.view _ x5 [] (Rect.unit ![0, 2, 0, 0] ![1, 1, 64, 64] _) (by decide)]
  try rw [View.readCov_fill arg9.view _ x5 [] (Rect.unit ![0, 3, 0, 0] ![1, 1, 64, 64] _) (by decide)]
  canon_tiles x h
  case piece3 =>
    change R0 x0 x1 x2 x3 x4 x5 x = _
    have a0 : (x 0).val = 0 := by omega
    have a1 : (x 1).val = (y 1).val % 64 := by omega
    have e : x = ix3 0 ⟨(y 1).val % 64, Nat.mod_lt _ (by decide)⟩ (y 2) :=
      (eq_ix3 x).trans ((ix3_inj _ _ _ _ _ _).mpr ⟨Fin.ext a0, Fin.ext a1, Fin.ext h2.symm⟩)
    rw [e]
    unfold block
    generalize R0 x0 x1 x2 x3 x4 x5 = z
    rw [if_pos (by omega)]
    rfl
  case piece2 =>
    change R1 x0 x1 x2 x3 x4 x5 x = _
    have a0 : (x 0).val = 0 := by omega
    have a1 : (x 1).val = (y 1).val % 64 := by omega
    have e : x = ix3 0 ⟨(y 1).val % 64, Nat.mod_lt _ (by decide)⟩ (y 2) :=
      (eq_ix3 x).trans ((ix3_inj _ _ _ _ _ _).mpr ⟨Fin.ext a0, Fin.ext a1, Fin.ext h2.symm⟩)
    rw [e]
    unfold block
    generalize R1 x0 x1 x2 x3 x4 x5 = z
    rw [if_neg (by omega), if_pos (by omega)]
    rfl
  case piece1 =>
    change R2 x0 x1 x2 x3 x4 x5 x = _
    have a0 : (x 0).val = 0 := by omega
    have a1 : (x 1).val = (y 1).val % 64 := by omega
    have e : x = ix3 0 ⟨(y 1).val % 64, Nat.mod_lt _ (by decide)⟩ (y 2) :=
      (eq_ix3 x).trans ((ix3_inj _ _ _ _ _ _).mpr ⟨Fin.ext a0, Fin.ext a1, Fin.ext h2.symm⟩)
    rw [e]
    unfold block
    generalize R2 x0 x1 x2 x3 x4 x5 = z
    rw [if_neg (by omega), if_neg (by omega), if_pos (by omega)]
    rfl
  case piece0 =>
    change R3 x0 x1 x2 x3 x4 x5 x = _
    have a0 : (x 0).val = 0 := by omega
    have a1 : (x 1).val = (y 1).val % 64 := by omega
    have e : x = ix3 0 ⟨(y 1).val % 64, Nat.mod_lt _ (by decide)⟩ (y 2) :=
      (eq_ix3 x).trans ((ix3_inj _ _ _ _ _ _).mpr ⟨Fin.ext a0, Fin.ext a1, Fin.ext h2.symm⟩)
    rw [e]
    unfold block
    generalize R3 x0 x1 x2 x3 x4 x5 = z
    rw [if_neg (by omega), if_neg (by omega), if_neg (by omega)]
    rfl

theorem outA7 (c : Dev nD) (i : grid0.Coords) (arg2 : Memref sig .tc .vmem S1x256x1024 .f32) (harg2 : arg2.IsWhole) (arg3 : Memref sig .tc .vmem S4x64x64 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x4x64x64 .f32) (harg7 : arg7.IsWhole) (arg8 : Memref sig .tc .vmem S1x256x256 .f32) (harg8 : arg8.IsWhole) (arg9 : Memref sig .tc .vmem S1x4x64x64 .f32) (harg9 : arg9.IsWhole) (hc0 : cond0_0 i)
    (x0 : Vec F S1x256x1024 .f32) (x1 : Vec F S4x64x64 .f32) (x2 : Vec F S64x256 .f32) (x3 : Vec F S64x256 .f32) (x4 : Vec F S1x256 .f32) (x5 : Vec F S1x4x64x64 .f32) (y : S1x4x64x64.Idx) :
    out0_A_7 c i arg2 harg2 arg3 harg3 arg4 harg4 arg5 harg5 arg6 harg6 arg7 harg7 arg8 harg8 arg9 harg9 hc0 x0 x1 x2 x3 x4 x5 y = states x0 x3 x5 y := by
  frame_open
  simp (disch := decide) only [↓ View.readCov_skip, ↓ View.readCov_fill]
  frame_out
  refine View.canon_append_of_piecesOf (states x0 x3 x5) [_] [_, _, _, _] ⟨?_, ?_, ?_, ?_, trivial⟩ y ?_
  rotate_left 4
  · exact View.cover_of_tiledL (s := S1x4x64x64) _ ![1, 1, 64, 64] (by rfl) _
  · intro x
    change shapeCast S1x1x64x64 (st3_4 x0 x3 x5) shapeCasts_S64x64_S1x1x64x64 x = states x0 x3 x5 ((Rect.unit (s := S1x4x64x64) ![0, 3, 0, 0] ![1, 1, 64, 64] inb_S1x4x64x64_S1x1x64x64_0_3_0_0).emb x)
    generalize hz : (Rect.unit (s := S1x4x64x64) ![0, 3, 0, 0] ![1, 1, 64, 64] inb_S1x4x64x64_S1x1x64x64_0_3_0_0).emb x = z
    have e1 : (z 1).val = 3 + (x 1).val := by rw [← hz]; exact Rect.idx_unit_val _ _ _ x 1
    have e2 : (z 2).val = 0 + (x 2).val := by rw [← hz]; exact Rect.idx_unit_val _ _ _ x 2
    have e3 : (z 3).val = 0 + (x 3).val := by rw [← hz]; exact Rect.idx_unit_val _ _ _ x 3
    have l1 : (x 1).val < 1 := (x 1).isLt
    rw [uncast]; unfold states; rw [if_neg (by omega), if_neg (by omega), if_neg (by omega)]
    exact congrArg (st3_4 x0 x3 x5) ((ix2_inj _ _ _ _).mpr ⟨Fin.ext (by omega), Fin.ext (by omega)⟩)
  · intro x
    change shapeCast S1x1x64x64 (st2_4 x0 x3 x5) shapeCasts_S64x64_S1x1x64x64 x = states x0 x3 x5 ((Rect.unit (s := S1x4x64x64) ![0, 2, 0, 0] ![1, 1, 64, 64] inb_S1x4x64x64_S1x1x64x64_0_2_0_0).emb x)
    generalize hz : (Rect.unit (s := S1x4x64x64) ![0, 2, 0, 0] ![1, 1, 64, 64] inb_S1x4x64x64_S1x1x64x64_0_2_0_0).emb x = z
    have e1 : (z 1).val = 2 + (x 1).val := by rw [← hz]; exact Rect.idx_unit_val _ _ _ x 1
    have e2 : (z 2).val = 0 + (x 2).val := by rw [← hz]; exact Rect.idx_unit_val _ _ _ x 2
    have e3 : (z 3).val = 0 + (x 3).val := by rw [← hz]; exact Rect.idx_unit_val _ _ _ x 3
    have l1 : (x 1).val < 1 := (x 1).isLt
    rw [uncast]; unfold states; rw [if_neg (by omega), if_neg (by omega), if_pos (by omega)]
    exact congrArg (st2_4 x0 x3 x5) ((ix2_inj _ _ _ _).mpr ⟨Fin.ext (by omega), Fin.ext (by omega)⟩)
  · intro x
    change shapeCast S1x1x64x64 (st1_4 x0 x3 x5) shapeCasts_S64x64_S1x1x64x64 x = states x0 x3 x5 ((Rect.unit (s := S1x4x64x64) ![0, 1, 0, 0] ![1, 1, 64, 64] inb_S1x4x64x64_S1x1x64x64_0_1_0_0).emb x)
    generalize hz : (Rect.unit (s := S1x4x64x64) ![0, 1, 0, 0] ![1, 1, 64, 64] inb_S1x4x64x64_S1x1x64x64_0_1_0_0).emb x = z
    have e1 : (z 1).val = 1 + (x 1).val := by rw [← hz]; exact Rect.idx_unit_val _ _ _ x 1
    have e2 : (z 2).val = 0 + (x 2).val := by rw [← hz]; exact Rect.idx_unit_val _ _ _ x 2
    have e3 : (z 3).val = 0 + (x 3).val := by rw [← hz]; exact Rect.idx_unit_val _ _ _ x 3
    have l1 : (x 1).val < 1 := (x 1).isLt
    rw [uncast]; unfold states; rw [if_neg (by omega), if_pos (by omega)]
    exact congrArg (st1_4 x0 x3 x5) ((ix2_inj _ _ _ _).mpr ⟨Fin.ext (by omega), Fin.ext (by omega)⟩)
  · intro x
    change shapeCast S1x1x64x64 (st0_4 x0 x3 x5) shapeCasts_S64x64_S1x1x64x64 x = states x0 x3 x5 ((Rect.unit (s := S1x4x64x64) ![0, 0, 0, 0] ![1, 1, 64, 64] inb_S1x4x64x64_S1x1x64x64_0_0_0_0).emb x)
    generalize hz : (Rect.unit (s := S1x4x64x64) ![0, 0, 0, 0] ![1, 1, 64, 64] inb_S1x4x64x64_S1x1x64x64_0_0_0_0).emb x = z
    have e1 : (z 1).val = 0 + (x 1).val := by rw [← hz]; exact Rect.idx_unit_val _ _ _ x 1
    have e2 : (z 2).val = 0 + (x 2).val := by rw [← hz]; exact Rect.idx_unit_val _ _ _ x 2
    have e3 : (z 3).val = 0 + (x 3).val := by rw [← hz]; exact Rect.idx_unit_val _ _ _ x 3
    have l1 : (x 1).val < 1 := (x 1).isLt
    rw [uncast]; unfold states; rw [if_pos (by omega)]
    exact congrArg (st0_4 x0 x3 x5) ((ix2_inj _ _ _ _).mpr ⟨Fin.ext (by omega), Fin.ext (by omega)⟩)

end Cert.RetIdeal.Step

end
-- ==== Proof.Spec.lean ====
/- The retention written at an index: the state of a head after a number of chunks, a chunk's rows, and the scaled and
   gated output. -/
module

public import Idealize.ShloMosaic.Lib.Pointwise

@[expose] public section

noncomputable section

namespace Cert.Spec

open Idealize.ShloMosaic

/-- Position `i` of chunk `n`. -/
def row (n : ℕ) (i : Fin 64) : Fin 2048 := ⟨(64 * n + i.val) % 2048, Nat.mod_lt _ (by decide)⟩
/-- Column `d` of head `h` among the 256. -/
def hcol (h : Fin 4) (d : Fin 64) : Fin 256 := ⟨64 * h.val + d.val, by omega⟩
/-- Column `j` of the query, key, value and gate quarters. -/
def qcol (j : Fin 256) : Fin 1024 := ⟨j.val, by omega⟩
@[inherit_doc qcol] def kcol (j : Fin 256) : Fin 1024 := ⟨256 + j.val, by omega⟩
@[inherit_doc qcol] def vcol (j : Fin 256) : Fin 1024 := ⟨512 + j.val, by omega⟩
@[inherit_doc qcol] def gcol (j : Fin 256) : Fin 1024 := ⟨768 + j.val, by omega⟩

/-- What the retention is made from: the rows of queries, keys, values and gates, the first states, the mask, the decays
    of a query and of a key within a chunk, and the decay over a chunk. -/
structure Data where
  A : (⟨3, ![16, 2048, 1024]⟩ : Shape).Idx → EReal
  s0 : (⟨4, ![16, 4, 64, 64]⟩ : Shape).Idx → EReal
  gn : (⟨2, ![1, 256]⟩ : Shape).Idx → EReal
  dm : Fin 4 → Fin 64 → Fin 64 → EReal
  qd : Fin 64 → Fin 4 → EReal
  kd : Fin 64 → Fin 4 → EReal
  γ : Fin 4 → EReal

variable (D : Data) (b : Fin 16) (h : Fin 4)

/-- Entry `d` of the query of head `h` at position `i` of chunk `n`. -/
def Data.q (n : ℕ) (i d : Fin 64) : EReal := D.A (ix3 b (row n i) (qcol (hcol h d)))
/-- Entry `d` of that key. -/
def Data.k (n : ℕ) (i d : Fin 64) : EReal := D.A (ix3 b (row n i) (kcol (hcol h d)))
/-- Entry `d` of that value. -/
def Data.v (n : ℕ) (i d : Fin 64) : EReal := D.A (ix3 b (row n i) (vcol (hcol h d)))

/-- A head's state after `n` chunks. -/
def Data.state : ℕ → Fin 64 → Fin 64 → EReal
  | 0, d, e => D.s0 (ix4 b h d e)
  | n + 1, d, e => Data.state n d e * D.γ h + ∑ j, D.k b h n j d * D.kd j h * D.v b h n j e

/-- A head's rows of chunk `n`. -/
def Data.mix (n : ℕ) (i e : Fin 64) : EReal :=
  ∑ j, (∑ d, D.q b h n i d * D.k b h n j d) * D.dm h i j * D.v b h n j e
    + (∑ d, D.q b h n i d * D.state b h n d e) * D.qd i h

/-- The mean of 64 numbers. -/
def mean (f : Fin 64 → EReal) : EReal := Ideal.div (∑ e, f e) (Ideal.ofBits .f32 0x42800000#32)

/-- 64 numbers normalised to mean zero and variance one. -/
def norm (f : Fin 64 → EReal) (e : Fin 64) : EReal :=
  (f e - mean f) * Ideal.rsqrt (mean (fun e => (f e - mean f) * (f e - mean f)) + Ideal.ofBits .f32 0x358637BD#32)

/-- The output at position `i` of chunk `n`, column `e` of head `h`. -/
def Data.out (n : ℕ) (i e : Fin 64) : EReal :=
  norm (D.mix b h n i) e * D.gn (ix2 0 (hcol h e))
    * (D.A (ix3 b (row n i) (gcol (hcol h e))) * Ideal.logistic (D.A (ix3 b (row n i) (gcol (hcol h e)))))

/-- The output array. -/
def Data.outArr (y : (⟨3, ![16, 2048, 256]⟩ : Shape).Idx) : EReal :=
  D.out (y 0) ⟨(y 2).val / 64, by have := (y 2).isLt; simp at this; omega⟩ ((y 1).val / 64)
    ⟨(y 1).val % 64, Nat.mod_lt _ (by decide)⟩ ⟨(y 2).val % 64, Nat.mod_lt _ (by decide)⟩

/-- The array of the last states. -/
def Data.stateArr (y : (⟨4, ![16, 4, 64, 64]⟩ : Shape).Idx) : EReal := D.state (y 0) (y 1) 32 (y 2) (y 3)

end Cert.Spec

end
-- ==== Proof.Block.lean ====
/- The kernel's step of four chunks, entry by entry: it carries the states of `Spec` four chunks on and stores the outputs of
   those four chunks. -/
module

public import proofs.«01_k».proof.Proof.Step
public import proofs.«01_k».proof.Proof.Spec

@[expose] public section

set_option maxRecDepth 16384

noncomputable section

namespace Cert.RetIdeal.Block

open Cert.RetIdeal Cert.RetIdeal.Gen Cert.RetIdeal.Chunk Cert.RetIdeal.Step Cert.Spec Idealize.ShloMosaic

variable (D : Data) (b : Fin 16)

/-- `X` holds the rows of chunk `n`. -/
def IsChunk (n : ℕ) (X : Vec Ideal S1x64x1024 .f32) : Prop := ∀ i c, X (ix3 0 i c) = D.A (ix3 b (row n i) c)

/-- The tiles the step reads beside the rows: the mask, the decays and the scale. -/
structure Tiles (x1 : Vec Ideal S4x64x64 .f32) (x2 x3 : Vec Ideal S64x256 .f32) (x4 : Vec Ideal S1x256 .f32) : Prop where
  dm : ∀ h i j, x1 (ix3 h i j) = D.dm h i j
  qd : ∀ i h e, x2 (ix2 i (hcol h e)) = D.qd i h
  kd : ∀ i h e, x3 (ix2 i (hcol h e)) = D.kd i h
  gn : ∀ j, x4 (ix2 0 j) = D.gn (ix2 0 j)
  g0 : (Chunk.g0 : Ideal .f32) = D.γ 0
  g1 : (Chunk.g1 : Ideal .f32) = D.γ 1
  g2 : (Chunk.g2 : Ideal .f32) = D.γ 2
  g3 : (Chunk.g3 : Ideal .f32) = D.γ 3

theorem step0_eq {n : ℕ} {X : Vec Ideal S1x64x1024 .f32} (hX : IsChunk D b n X) {x1 x2 x3 x4} (hT : Tiles D x1 x2 x3 x4)
    {S : FVec Ideal S64x64 .f32} (hS : ∀ d e, S (ix2 d e) = D.state b 0 n d e) (d e : Fin 64) :
    step0 X x3 S (ix2 d e) = D.state b 0 (n + 1) d e := by
  have hX' : ∀ i c, D.A (ix3 b (row n i) c) = X (ix3 0 i c) := fun i c => (hX i c).symm
  have hk : ∀ i c, x3 (ix2 i (hcol 0 c)) = D.kd i 0 := fun i c => hT.kd i 0 c
  rw [Data.state, ← hS, ← hT.g0]
  simp only [Data.k, Data.v, ← hk _ d, hX']
  pointwise [step0, push, zeroTile, h0, kdOf, vOf, kOf, flat]
  refine congrArg (_ + ·) (Finset.sum_congr rfl fun j _ => ?_)
  refine congr (congrArg _ (congr (congrArg _ (congrArg X (congrArg _ ?_))) (congrArg x3 (congrArg _ ?_)))) (congrArg X (congrArg _ ?_)) <;>
  · refine Fin.ext ?_
    simp [kcol, vcol, hcol]

theorem mix0_eq {n : ℕ} {X : Vec Ideal S1x64x1024 .f32} (hX : IsChunk D b n X) {x1 x2 x3 x4} (hT : Tiles D x1 x2 x3 x4)
    {S : FVec Ideal S64x64 .f32} (hS : ∀ d e, S (ix2 d e) = D.state b 0 n d e) (i e : Fin 64) :
    mix (h0 (qOf X)) (h0 (truncf .bf16 (kOf X) bitsLt_bf16_f32)) (h0 (vOf X)) (M0 x1) S
      (h0 (shapeCast S64x256 x2 shapeCasts_S64x256_S64x256)) (ix2 i e) = D.mix b 0 n i e := by
  have hX' : ∀ i c, D.A (ix3 b (row n i) c) = X (ix3 0 i c) := fun i c => (hX i c).symm
  have hq : ∀ i c, x2 (ix2 i (hcol 0 c)) = D.qd i 0 := fun i c => hT.qd i 0 c
  rw [Data.mix, ← hq _ e]
  simp only [Data.q, Data.k, Data.v, hX', ← hS, ← hT.dm]
  pointwise [mix, zeroTile, h0, qOf, kOf, vOf, M0, flat]
  have eq : ∀ d : Fin 64, qcol (hcol 0 d) = ⟨d.val, by omega⟩ := fun d => Fin.ext (by simp [qcol, hcol])
  have ek : ∀ d : Fin 64, kcol (hcol 0 d) = ⟨256 + d.val, by omega⟩ := fun d => Fin.ext (by simp [kcol, hcol])
  have ev : ∀ d : Fin 64, vcol (hcol 0 d) = ⟨512 + d.val, by omega⟩ := fun d => Fin.ext (by simp [vcol, hcol])
  have eh : ∀ d : Fin 64, hcol 0 d = ⟨d.val, by omega⟩ := fun d => Fin.ext (by simp [hcol])
  simp only [eq, ek, ev, eh]
  rfl

theorem step1_eq {n : ℕ} {X : Vec Ideal S1x64x1024 .f32} (hX : IsChunk D b n X) {x1 x2 x3 x4} (hT : Tiles D x1 x2 x3 x4)
    {S : FVec Ideal S64x64 .f32} (hS : ∀ d e, S (ix2 d e) = D.state b 1 n d e) (d e : Fin 64) :
    step1 X x3 S (ix2 d e) = D.state b 1 (n + 1) d e := by
  have hX' : ∀ i c, D.A (ix3 b (row n i) c) = X (ix3 0 i c) := fun i c => (hX i c).symm
  have hk : ∀ i c, x3 (ix2 i (hcol 1 c)) = D.kd i 1 := fun i c => hT.kd i 1 c
  rw [Data.state, ← hS, ← hT.g1]
  simp only [Data.k, Data.v, ← hk _ d, hX']
  pointwise [step1, push, zeroTile, h1, kdOf, vOf, kOf, flat]
  refine congrArg (_ + ·) (Finset.sum_congr rfl fun j _ => ?_)
  refine congr (congrArg _ (congr (congrArg _ (congrArg X (congrArg _ ?_))) (congrArg x3 (congrArg _ ?_)))) (congrArg X (congrArg _ ?_)) <;>
  · refine Fin.ext ?_
    simp [kcol, vcol, hcol]

theorem mix1_eq {n : ℕ} {X : Vec Ideal S1x64x1024 .f32} (hX : IsChunk D b n X) {x1 x2 x3 x4} (hT : Tiles D x1 x2 x3 x4)
    {S : FVec Ideal S64x64 .f32} (hS : ∀ d e, S (ix2 d e) = D.state b 1 n d e) (i e : Fin 64) :
    mix (h1 (qOf X)) (h1 (truncf .bf16 (kOf X) bitsLt_bf16_f32)) (h1 (vOf X)) (M1 x1) S
      (h1 (shapeCast S64x256 x2 shapeCasts_S64x256_S64x256)) (ix2 i e) = D.mix b 1 n i e := by
  have hX' : ∀ i c, D.A (ix3 b (row n i) c) = X (ix3 0 i c) := fun i c => (hX i c).symm
  have hq : ∀ i c, x2 (ix2 i (hcol 1 c)) = D.qd i 1 := fun i c => hT.qd i 1 c
  rw [Data.mix, ← hq _ e]
  simp only [Data.q, Data.k, Data.v, hX', ← hS, ← hT.dm]
  pointwise [mix, zeroTile, h1, qOf, kOf, vOf, M1, flat]
  have eq : ∀ d : Fin 64, qcol (hcol 1 d) = ⟨64 + d.val, by omega⟩ := fun d => Fin.ext (by simp [qcol, hcol])
  have ek : ∀ d : Fin 64, kcol (hcol 1 d) = ⟨256 + (64 + d.val), by omega⟩ := fun d => Fin.ext (by simp [kcol, hcol])
  have ev : ∀ d : Fin 64, vcol (hcol 1 d) = ⟨512 + (64 + d.val), by omega⟩ := fun d => Fin.ext (by simp [vcol, hcol])
  have eh : ∀ d : Fin 64, hcol 1 d = ⟨64 + d.val, by omega⟩ := fun d => Fin.ext (by simp [hcol])
  simp only [eq, ek, ev, eh]
  rfl

theorem step2_eq {n : ℕ} {X : Vec Ideal S1x64x1024 .f32} (hX : IsChunk D b n X) {x1 x2 x3 x4} (hT : Tiles D x1 x2 x3 x4)
    {S : FVec Ideal S64x64 .f32} (hS : ∀ d e, S (ix2 d e) = D.state b 2 n d e) (d e : Fin 64) :
    step2 X x3 S (ix2 d e) = D.state b 2 (n + 1) d e := by
  have hX' : ∀ i c, D.A (ix3 b (row n i) c) = X (ix3 0 i c) := fun i c => (hX i c).symm
  have hk : ∀ i c, x3 (ix2 i (hcol 2 c)) = D.kd i 2 := fun i c => hT.kd i 2 c
  rw [Data.state, ← hS, ← hT.g2]
  simp only [Data.k, Data.v, ← hk _ d, hX']
  pointwise [step2, push, zeroTile, h2, kdOf, vOf, kOf, flat]
  refine congrArg (_ + ·) (Finset.sum_congr rfl fun j _ => ?_)
  refine congr (congrArg _ (congr (congrArg _ (congrArg X (congrArg _ ?_))) (congrArg x3 (congrArg _ ?_)))) (congrArg X (congrArg _ ?_)) <;>
  · refine Fin.ext ?_
    simp [kcol, vcol, hcol]

theorem mix2_eq {n : ℕ} {X : Vec Ideal S1x64x1024 .f32} (hX : IsChunk D b n X) {x1 x2 x3 x4} (hT : Tiles D x1 x2 x3 x4)
    {S : FVec Ideal S64x64 .f32} (hS : ∀ d e, S (ix2 d e) = D.state b 2 n d e) (i e : Fin 64) :
    mix (h2 (qOf X)) (h2 (truncf .bf16 (kOf X) bitsLt_bf16_f32)) (h2 (vOf X)) (M2 x1) S
      (h2 (shapeCast S64x256 x2 shapeCasts_S64x256_S64x256)) (ix2 i e) = D.mix b 2 n i e := by
  have hX' : ∀ i c, D.A (ix3 b (row n i) c) = X (ix3 0 i c) := fun i c => (hX i c).symm
  have hq : ∀ i c, x2 (ix2 i (hcol 2 c)) = D.qd i 2 := fun i c => hT.qd i 2 c
  rw [Data.mix, ← hq _ e]
  simp only [Data.q, Data.k, Data.v, hX', ← hS, ← hT.dm]
  pointwise [mix, zeroTile, h2, qOf, kOf, vOf, M2, flat]
  have eq : ∀ d : Fin 64, qcol (hcol 2 d) = ⟨128 + d.val, by omega⟩ := fun d => Fin.ext (by simp [qcol, hcol])
  have ek : ∀ d : Fin 64, kcol (hcol 2 d) = ⟨256 + (128 + d.val), by omega⟩ := fun d => Fin.ext (by simp [kcol, hcol])
  have ev : ∀ d : Fin 64, vcol (hcol 2 d) = ⟨512 + (128 + d.val), by omega⟩ := fun d => Fin.ext (by simp [vcol, hcol])
  have eh : ∀ d : Fin 64, hcol 2 d = ⟨128 + d.val, by omega⟩ := fun d => Fin.ext (by simp [hcol])
  simp only [eq, ek, ev, eh]
  rfl

theorem step3_eq {n : ℕ} {X : Vec Ideal S1x64x1024 .f32} (hX : IsChunk D b n X) {x1 x2 x3 x4} (hT : Tiles D x1 x2 x3 x4)
    {S : FVec Ideal S64x64 .f32} (hS : ∀ d e, S (ix2 d e) = D.state b 3 n d e) (d e : Fin 64) :
    step3 X x3 S (ix2 d e) = D.state b 3 (n + 1) d e := by
  have hX' : ∀ i c, D.A (ix3 b (row n i) c) = X (ix3 0 i c) := fun i c => (hX i c).symm
  have hk : ∀ i c, x3 (ix2 i (hcol 3 c)) = D.kd i 3 := fun i c => hT.kd i 3 c
  rw [Data.state, ← hS, ← hT.g3]
  simp only [Data.k, Data.v, ← hk _ d, hX']
  pointwise [step3, push, zeroTile, h3, kdOf, vOf, kOf, flat]
  refine congrArg (_ + ·) (Finset.sum_congr rfl fun j _ => ?_)
  refine congr (congrArg _ (congr (congrArg _ (congrArg X (congrArg _ ?_))) (congrArg x3 (congrArg _ ?_)))) (congrArg X (congrArg _ ?_)) <;>
  · refine Fin.ext ?_
    simp [kcol, vcol, hcol]

theorem mix3_eq {n : ℕ} {X : Vec Ideal S1x64x1024 .f32} (hX : IsChunk D b n X) {x1 x2 x3 x4} (hT : Tiles D x1 x2 x3 x4)
    {S : FVec Ideal S64x64 .f32} (hS : ∀ d e, S (ix2 d e) = D.state b 3 n d e) (i e : Fin 64) :
    mix (h3 (qOf X)) (h3 (truncf .bf16 (kOf X) bitsLt_bf16_f32)) (h3 (vOf X)) (M3 x1) S
      (h3 (shapeCast S64x256 x2 shapeCasts_S64x256_S64x256)) (ix2 i e) = D.mix b 3 n i e := by
  have hX' : ∀ i c, D.A (ix3 b (row n i) c) = X (ix3 0 i c) := fun i c => (hX i c).symm
  have hq : ∀ i c, x2 (ix2 i (hcol 3 c)) = D.qd i 3 := fun i c => hT.qd i 3 c
  rw [Data.mix, ← hq _ e]
  simp only [Data.q, Data.k, Data.v, hX', ← hS, ← hT.dm]
  pointwise [mix, zeroTile, h3, qOf, kOf, vOf, M3, flat]
  have eq : ∀ d : Fin 64, qcol (hcol 3 d) = ⟨192 + d.val, by omega⟩ := fun d => Fin.ext (by simp [qcol, hcol])
  have ek : ∀ d : Fin 64, kcol (hcol 3 d) = ⟨256 + (192 + d.val), by omega⟩ := fun d => Fin.ext (by simp [kcol, hcol])
  have ev : ∀ d : Fin 64, vcol (hcol 3 d) = ⟨512 + (192 + d.val), by omega⟩ := fun d => Fin.ext (by simp [vcol, hcol])
  have eh : ∀ d : Fin 64, hcol 3 d = ⟨192 + d.val, by omega⟩ := fun d => Fin.ext (by simp [hcol])
  simp only [eq, ek, ev, eh]
  rfl

/-- The rows of a tile are normalised as `Spec.norm` normalises. -/
theorem normed_eq (x : FVec Ideal S64x64 .f32) (i e : Fin 64) : normed x (ix2 i e) = norm (fun e => x (ix2 i e)) e := by
  pointwise [normed, centred, rowMean]
  rfl

theorem rows_eq {n : ℕ} {X : Vec Ideal S1x64x1024 .f32} (hX : IsChunk D b n X) {x1 x2 x3 x4} (hT : Tiles D x1 x2 x3 x4)
    {S0 : FVec Ideal S64x64 .f32} (hS0 : ∀ d e, S0 (ix2 d e) = D.state b 0 n d e)
    {S1 : FVec Ideal S64x64 .f32} (hS1 : ∀ d e, S1 (ix2 d e) = D.state b 1 n d e)
    {S2 : FVec Ideal S64x64 .f32} (hS2 : ∀ d e, S2 (ix2 d e) = D.state b 2 n d e)
    {S3 : FVec Ideal S64x64 .f32} (hS3 : ∀ d e, S3 (ix2 d e) = D.state b 3 n d e)
    (i : Fin 64) (h : Fin 4) (e : Fin 64) :
    rows X (M0 x1) (M1 x1) (M2 x1) (M3 x1) x2 x4 S0 S1 S2 S3 (ix3 0 i (hcol h e)) = D.out b h n i e := by
  rw [Data.out, ← hT.gn, ← hX]
  have m0 := fun i e => mix0_eq D b hX hT hS0 i e
  have m1 := fun i e => mix1_eq D b hX hT hS1 i e
  have m2 := fun i e => mix2_eq D b hX hT hS2 i e
  have m3 := fun i e => mix3_eq D b hX hT hS3 i e
  have eg : gcol (hcol h e) = ⟨768 + (hcol h e).val, by omega⟩ := rfl
  pointwise [rows, gOf, flat]
  rw [eg]
  refine congrArg₂ (· * ·) (congrArg₂ (· * ·) ?_ rfl) rfl
  simp only [shapeCast_id] at m0 m1 m2 m3
  obtain rfl | rfl | rfl | rfl : h = 0 ∨ h = 1 ∨ h = 2 ∨ h = 3 := by omega
  · rw [dif_pos (show (hcol 0 e).val < 64 by show 64 * 0 + e.val < 64; omega)]
    have hj : (⟨(hcol 0 e).val, by show 64 * 0 + e.val < 64; omega⟩ : Fin 64) = e := Fin.ext (by show 64 * 0 + e.val = e.val; omega)
    rw [hj, normed_eq]
    exact congrArg (fun f => norm f e) (funext fun e => m0 i e)
  · rw [dif_neg (show ¬ (hcol 1 e).val < 64 by show ¬ 64 * 1 + e.val < 64; omega)]
    rw [dif_pos (show (hcol 1 e).val - 64 < 64 by show 64 * 1 + e.val - 64 < 64; omega)]
    have hj : (⟨(hcol 1 e).val - 64, by show 64 * 1 + e.val - 64 < 64; omega⟩ : Fin 64) = e := Fin.ext (by show 64 * 1 + e.val - 64 = e.val; omega)
    rw [hj, normed_eq]
    exact congrArg (fun f => norm f e) (funext fun e => m1 i e)
  · rw [dif_neg (show ¬ (hcol 2 e).val < 64 by show ¬ 64 * 2 + e.val < 64; omega)]
    rw [dif_neg (show ¬ (hcol 2 e).val - 64 < 64 by show ¬ 64 * 2 + e.val - 64 < 64; omega)]
    rw [dif_pos (show (hcol 2 e).val - 64 - 64 < 64 by show 64 * 2 + e.val - 64 - 64 < 64; omega)]
    have hj : (⟨(hcol 2 e).val - 64 - 64, by show 64 * 2 + e.val - 64 - 64 < 64; omega⟩ : Fin 64) = e := Fin.ext (by show 64 * 2 + e.val - 64 - 64 = e.val; omega)
    rw [hj, normed_eq]
    exact congrArg (fun f => norm f e) (funext fun e => m2 i e)
  · rw [dif_neg (show ¬ (hcol 3 e).val < 64 by show ¬ 64 * 3 + e.val < 64; omega)]
    rw [dif_neg (show ¬ (hcol 3 e).val - 64 < 64 by show ¬ 64 * 3 + e.val - 64 < 64; omega)]
    rw [dif_neg (show ¬ (hcol 3 e).val - 64 - 64 < 64 by show ¬ 64 * 3 + e.val - 64 - 64 < 64; omega)]
    have hj : (⟨(hcol 3 e).val - 64 - 64 - 64, by show 64 * 3 + e.val - 64 - 64 - 64 < 64; omega⟩ : Fin 64) = e := Fin.ext (by show 64 * 3 + e.val - 64 - 64 - 64 = e.val; omega)
    rw [hj, normed_eq]
    exact congrArg (fun f => norm f e) (funext fun e => m3 i e)

theorem X0_isChunk {n : ℕ} (hn : n < 8) {x : Vec Ideal S1x256x1024 .f32}
    (hx : ∀ r c, x (ix3 0 r c) = D.A (ix3 b ⟨256 * n + r.val, by omega⟩ c)) : IsChunk D b (4 * n + 0) (X0 x) := fun i c => by
  pointwise [X0]
  refine (hx _ _).trans (congrArg D.A ((ix3_inj _ _ _ _ _ _).mpr ⟨rfl, Fin.ext ?_, rfl⟩))
  simp only [row]
  omega

theorem X1_isChunk {n : ℕ} (hn : n < 8) {x : Vec Ideal S1x256x1024 .f32}
    (hx : ∀ r c, x (ix3 0 r c) = D.A (ix3 b ⟨256 * n + r.val, by omega⟩ c)) : IsChunk D b (4 * n + 1) (X1 x) := fun i c => by
  pointwise [X1]
  refine (hx _ _).trans (congrArg D.A ((ix3_inj _ _ _ _ _ _).mpr ⟨rfl, Fin.ext ?_, rfl⟩))
  simp only [row]
  omega

theorem X2_isChunk {n : ℕ} (hn : n < 8) {x : Vec Ideal S1x256x1024 .f32}
    (hx : ∀ r c, x (ix3 0 r c) = D.A (ix3 b ⟨256 * n + r.val, by omega⟩ c)) : IsChunk D b (4 * n + 2) (X2 x) := fun i c => by
  pointwise [X2]
  refine (hx _ _).trans (congrArg D.A ((ix3_inj _ _ _ _ _ _).mpr ⟨rfl, Fin.ext ?_, rfl⟩))
  simp only [row]
  omega

theorem X3_isChunk {n : ℕ} (hn : n < 8) {x : Vec Ideal S1x256x1024 .f32}
    (hx : ∀ r c, x (ix3 0 r c) = D.A (ix3 b ⟨256 * n + r.val, by omega⟩ c)) : IsChunk D b (4 * n + 3) (X3 x) := fun i c => by
  pointwise [X3]
  refine (hx _ _).trans (congrArg D.A ((ix3_inj _ _ _ _ _ _).mpr ⟨rfl, Fin.ext ?_, rfl⟩))
  simp only [row]
  omega

/-- Head 0's state inside the step follows `Spec.Data.state`. -/
theorem st0_eq {n : ℕ} (hn : n < 8) {x : Vec Ideal S1x256x1024 .f32}
    (hx : ∀ r c, x (ix3 0 r c) = D.A (ix3 b ⟨256 * n + r.val, by omega⟩ c)) {x1 x2 x3 x4} (hT : Tiles D x1 x2 x3 x4)
    {s : Vec Ideal S1x4x64x64 .f32} (hs : ∀ h d e, s (ix4 0 h d e) = D.state b h (4 * n) d e) :
    (∀ d e, st0_0 x x3 s (ix2 d e) = D.state b 0 (4 * n) d e) ∧ (∀ d e, st0_1 x x3 s (ix2 d e) = D.state b 0 (4 * n + 1) d e)
      ∧ (∀ d e, st0_2 x x3 s (ix2 d e) = D.state b 0 (4 * n + 2) d e) ∧ (∀ d e, st0_3 x x3 s (ix2 d e) = D.state b 0 (4 * n + 3) d e)
      ∧ ∀ d e, st0_4 x x3 s (ix2 d e) = D.state b 0 (4 * (n + 1)) d e := by
  have s0 : ∀ d e, st0_0 x x3 s (ix2 d e) = D.state b 0 (4 * n) d e := fun d e => by
    rw [← hs]
    pointwise [Step.st0_0, H0]
  have s1 := step0_eq D b (X0_isChunk D b hn hx) hT s0
  have s2 := step0_eq D b (X1_isChunk D b hn hx) hT s1
  have s3 := step0_eq D b (X2_isChunk D b hn hx) hT s2
  have s4 := step0_eq D b (X3_isChunk D b hn hx) hT s3
  exact ⟨s0, s1, s2, s3, s4⟩

/-- Head 1's state inside the step follows `Spec.Data.state`. -/
theorem st1_eq {n : ℕ} (hn : n < 8) {x : Vec Ideal S1x256x1024 .f32}
    (hx : ∀ r c, x (ix3 0 r c) = D.A (ix3 b ⟨256 * n + r.val, by omega⟩ c)) {x1 x2 x3 x4} (hT : Tiles D x1 x2 x3 x4)
    {s : Vec Ideal S1x4x64x64 .f32} (hs : ∀ h d e, s (ix4 0 h d e) = D.state b h (4 * n) d e) :
    (∀ d e, st1_0 x x3 s (ix2 d e) = D.state b 1 (4 * n) d e) ∧ (∀ d e, st1_1 x x3 s (ix2 d e) = D.state b 1 (4 * n + 1) d e)
      ∧ (∀ d e, st1_2 x x3 s (ix2 d e) = D.state b 1 (4 * n + 2) d e) ∧ (∀ d e, st1_3 x x3 s (ix2 d e) = D.state b 1 (4 * n + 3) d e)
      ∧ ∀ d e, st1_4 x x3 s (ix2 d e) = D.state b 1 (4 * (n + 1)) d e := by
  have s0 : ∀ d e, st1_0 x x3 s (ix2 d e) = D.state b 1 (4 * n) d e := fun d e => by
    rw [← hs]
    pointwise [Step.st1_0, H1]
  have s1 := step1_eq D b (X0_isChunk D b hn hx) hT s0
  have s2 := step1_eq D b (X1_isChunk D b hn hx) hT s1
  have s3 := step1_eq D b (X2_isChunk D b hn hx) hT s2
  have s4 := step1_eq D b (X3_isChunk D b hn hx) hT s3
  exact ⟨s0, s1, s2, s3, s4⟩

/-- Head 2's state inside the step follows `Spec.Data.state`. -/
theorem st2_eq {n : ℕ} (hn : n < 8) {x : Vec Ideal S1x256x1024 .f32}
    (hx : ∀ r c, x (ix3 0 r c) = D.A (ix3 b ⟨256 * n + r.val, by omega⟩ c)) {x1 x2 x3 x4} (hT : Tiles D x1 x2 x3 x4)
    {s : Vec Ideal S1x4x64x64 .f32} (hs : ∀ h d e, s (ix4 0 h d e) = D.state b h (4 * n) d e) :
    (∀ d e, st2_0 x x3 s (ix2 d e) = D.state b 2 (4 * n) d e) ∧ (∀ d e, st2_1 x x3 s (ix2 d e) = D.state b 2 (4 * n + 1) d e)
      ∧ (∀ d e, st2_2 x x3 s (ix2 d e) = D.state b 2 (4 * n + 2) d e) ∧ (∀ d e, st2_3 x x3 s (ix2 d e) = D.state b 2 (4 * n + 3) d e)
      ∧ ∀ d e, st2_4 x x3 s (ix2 d e) = D.state b 2 (4 * (n + 1)) d e := by
  have s0 : ∀ d e, st2_0 x x3 s (ix2 d e) = D.state b 2 (4 * n) d e := fun d e => by
    rw [← hs]
    pointwise [Step.st2_0, H2]
  have s1 := step2_eq D b (X0_isChunk D b hn hx) hT s0
  have s2 := step2_eq D b (X1_isChunk D b hn hx) hT s1
  have s3 := step2_eq D b (X2_isChunk D b hn hx) hT s2
  have s4 := step2_eq D b (X3_isChunk D b hn hx) hT s3
  exact ⟨s0, s1, s2, s3, s4⟩

/-- Head 3's state inside the step follows `Spec.Data.state`. -/
theorem st3_eq {n : ℕ} (hn : n < 8) {x : Vec Ideal S1x256x1024 .f32}
    (hx : ∀ r c, x (ix3 0 r c) = D.A (ix3 b ⟨256 * n + r.val, by omega⟩ c)) {x1 x2 x3 x4} (hT : Tiles D x1 x2 x3 x4)
    {s : Vec Ideal S1x4x64x64 .f32} (hs : ∀ h d e, s (ix4 0 h d e) = D.state b h (4 * n) d e) :
    (∀ d e, st3_0 x x3 s (ix2 d e) = D.state b 3 (4 * n) d e) ∧ (∀ d e, st3_1 x x3 s (ix2 d e) = D.state b 3 (4 * n + 1) d e)
      ∧ (∀ d e, st3_2 x x3 s (ix2 d e) = D.state b 3 (4 * n + 2) d e) ∧ (∀ d e, st3_3 x x3 s (ix2 d e) = D.state b 3 (4 * n + 3) d e)
      ∧ ∀ d e, st3_4 x x3 s (ix2 d e) = D.state b 3 (4 * (n + 1)) d e := by
  have s0 : ∀ d e, st3_0 x x3 s (ix2 d e) = D.state b 3 (4 * n) d e := fun d e => by
    rw [← hs]
    pointwise [Step.st3_0, H3]
  have s1 := step3_eq D b (X0_isChunk D b hn hx) hT s0
  have s2 := step3_eq D b (X1_isChunk D b hn hx) hT s1
  have s3 := step3_eq D b (X2_isChunk D b hn hx) hT s2
  have s4 := step3_eq D b (X3_isChunk D b hn hx) hT s3
  exact ⟨s0, s1, s2, s3, s4⟩

/-- The states the step leaves are those four chunks on. -/
theorem states_eq {n : ℕ} (hn : n < 8) {x : Vec Ideal S1x256x1024 .f32}
    (hx : ∀ r c, x (ix3 0 r c) = D.A (ix3 b ⟨256 * n + r.val, by omega⟩ c)) {x1 x2 x3 x4} (hT : Tiles D x1 x2 x3 x4)
    {s : Vec Ideal S1x4x64x64 .f32} (hs : ∀ h d e, s (ix4 0 h d e) = D.state b h (4 * n) d e) (h : Fin 4) (d e : Fin 64) :
    states x x3 s (ix4 0 h d e) = D.state b h (4 * (n + 1)) d e := by
  obtain rfl | rfl | rfl | rfl : h = 0 ∨ h = 1 ∨ h = 2 ∨ h = 3 := by omega
  · exact (st0_eq D b hn hx hT hs).2.2.2.2 d e
  · exact (st1_eq D b hn hx hT hs).2.2.2.2 d e
  · exact (st2_eq D b hn hx hT hs).2.2.2.2 d e
  · exact (st3_eq D b hn hx hT hs).2.2.2.2 d e

theorem R0_eq {n : ℕ} (hn : n < 8) {x : Vec Ideal S1x256x1024 .f32}
    (hx : ∀ r c, x (ix3 0 r c) = D.A (ix3 b ⟨256 * n + r.val, by omega⟩ c)) {x1 x2 x3 x4} (hT : Tiles D x1 x2 x3 x4)
    {s : Vec Ideal S1x4x64x64 .f32} (hs : ∀ h d e, s (ix4 0 h d e) = D.state b h (4 * n) d e) (i : Fin 64) (h : Fin 4) (e : Fin 64) :
    R0 x x1 x2 x3 x4 s (ix3 0 i (hcol h e)) = D.out b h (4 * n + 0) i e :=
  rows_eq D b (X0_isChunk D b hn hx) hT (st0_eq D b hn hx hT hs).1 (st1_eq D b hn hx hT hs).1 (st2_eq D b hn hx hT hs).1 (st3_eq D b hn hx hT hs).1 i h e

theorem R1_eq {n : ℕ} (hn : n < 8) {x : Vec Ideal S1x256x1024 .f32}
    (hx : ∀ r c, x (ix3 0 r c) = D.A (ix3 b ⟨256 * n + r.val, by omega⟩ c)) {x1 x2 x3 x4} (hT : Tiles D x1 x2 x3 x4)
    {s : Vec Ideal S1x4x64x64 .f32} (hs : ∀ h d e, s (ix4 0 h d e) = D.state b h (4 * n) d e) (i : Fin 64) (h : Fin 4) (e : Fin 64) :
    R1 x x1 x2 x3 x4 s (ix3 0 i (hcol h e)) = D.out b h (4 * n + 1) i e :=
  rows_eq D b (X1_isChunk D b hn hx) hT (st0_eq D b hn hx hT hs).2.1 (st1_eq D b hn hx hT hs).2.1 (st2_eq D b hn hx hT hs).2.1 (st3_eq D b hn hx hT hs).2.1 i h e

theorem R2_eq {n : ℕ} (hn : n < 8) {x : Vec Ideal S1x256x1024 .f32}
    (hx : ∀ r c, x (ix3 0 r c) = D.A (ix3 b ⟨256 * n + r.val, by omega⟩ c)) {x1 x2 x3 x4} (hT : Tiles D x1 x2 x3 x4)
    {s : Vec Ideal S1x4x64x64 .f32} (hs : ∀ h d e, s (ix4 0 h d e) = D.state b h (4 * n) d e) (i : Fin 64) (h : Fin 4) (e : Fin 64) :
    R2 x x1 x2 x3 x4 s (ix3 0 i (hcol h e)) = D.out b h (4 * n + 2) i e :=
  rows_eq D b (X2_isChunk D b hn hx) hT (st0_eq D b hn hx hT hs).2.2.1 (st1_eq D b hn hx hT hs).2.2.1 (st2_eq D b hn hx hT hs).2.2.1 (st3_eq D b hn hx hT hs).2.2.1 i h e

theorem R3_eq {n : ℕ} (hn : n < 8) {x : Vec Ideal S1x256x1024 .f32}
    (hx : ∀ r c, x (ix3 0 r c) = D.A (ix3 b ⟨256 * n + r.val, by omega⟩ c)) {x1 x2 x3 x4} (hT : Tiles D x1 x2 x3 x4)
    {s : Vec Ideal S1x4x64x64 .f32} (hs : ∀ h d e, s (ix4 0 h d e) = D.state b h (4 * n) d e) (i : Fin 64) (h : Fin 4) (e : Fin 64) :
    R3 x x1 x2 x3 x4 s (ix3 0 i (hcol h e)) = D.out b h (4 * n + 3) i e :=
  rows_eq D b (X3_isChunk D b hn hx) hT (st0_eq D b hn hx hT hs).2.2.2.1 (st1_eq D b hn hx hT hs).2.2.2.1 (st2_eq D b hn hx hT hs).2.2.2.1 (st3_eq D b hn hx hT hs).2.2.2.1 i h e

/-- The block the step stores holds the outputs of its four chunks. -/
theorem block_eq {n : ℕ} (hn : n < 8) {x : Vec Ideal S1x256x1024 .f32}
    (hx : ∀ r c, x (ix3 0 r c) = D.A (ix3 b ⟨256 * n + r.val, by omega⟩ c)) {x1 x2 x3 x4} (hT : Tiles D x1 x2 x3 x4)
    {s : Vec Ideal S1x4x64x64 .f32} (hs : ∀ h d e, s (ix4 0 h d e) = D.state b h (4 * n) d e) (r j : Fin 256) :
    block x x1 x2 x3 x4 s (ix3 0 r j) = D.outArr (ix3 b ⟨256 * n + r.val, by omega⟩ j) := by
  have hj : j = hcol ⟨j.val / 64, by omega⟩ ⟨j.val % 64, by omega⟩ := Fin.ext (by simp [hcol]; omega)
  have key : ∀ m, r.val / 64 = m → D.outArr (ix3 b ⟨256 * n + r.val, by omega⟩ j)
      = D.out b ⟨j.val / 64, by omega⟩ (4 * n + m) ⟨r.val % 64, by omega⟩ ⟨j.val % 64, by omega⟩ := fun m hm => by
    have e1 : (256 * n + r.val) / 64 = 4 * n + m := by omega
    have e2 : (⟨(256 * n + r.val) % 64, Nat.mod_lt _ (by decide)⟩ : Fin 64) = ⟨r.val % 64, by omega⟩ := Fin.ext (by simp; omega)
    show D.out b ⟨j.val / 64, _⟩ ((256 * n + r.val) / 64) ⟨(256 * n + r.val) % 64, _⟩ ⟨j.val % 64, _⟩ = _
    rw [e1, e2]
  show (if h : r.val < 64 then R0 x x1 x2 x3 x4 s (ix3 0 ⟨r.val % 64, _⟩ j) else if h : r.val < 128 then R1 x x1 x2 x3 x4 s (ix3 0 ⟨r.val % 64, _⟩ j)
    else if h : r.val < 192 then R2 x x1 x2 x3 x4 s (ix3 0 ⟨r.val % 64, _⟩ j) else R3 x x1 x2 x3 x4 s (ix3 0 ⟨r.val % 64, _⟩ j)) = _
  split
  · rw [key 0 (by omega), ← R0_eq D b hn hx hT hs, ← hj]
  split
  · rw [key 1 (by omega), ← R1_eq D b hn hx hT hs, ← hj]
  split
  · rw [key 2 (by omega), ← R2_eq D b hn hx hT hs, ← hj]
  · rw [key 3 (by omega), ← R3_eq D b hn hx hT hs, ← hj]

end Cert.RetIdeal.Block

end
-- ==== Proof.Decays.lean ====
/- The decays of the retention as both programs compute them on the host: the mask of a chunk, and the weights of its
   queries and keys. -/
module

public import proofs.«01_k».proof.Proof.Spec

@[expose] public section

noncomputable section

namespace Cert.Spec

open Idealize.ShloMosaic

/-- A position or a head's number as a float. -/
def num (n : ℕ) : EReal := FloatOps.sitofp (F := Ideal) .f32 (BitVec.ofNat 32 n)

/-- The logarithm of a head's decay, as `log1p (-exp2 (-5 - h))` lowers. -/
def lg (h : ℕ) : EReal :=
  Ideal.log1p (-Ideal.exp (Ideal.ofBits .f32 0x3F317218#32 * (Ideal.ofBits .f32 0xC0A00000#32 - num h)))

/-- The mask between positions `i` and `j` of a chunk. -/
def mask (h : Fin 4) (i j : Fin 64) : EReal :=
  Ideal.exp (if 0 ≤ num i - num j then (num i - num j) * lg h else Ideal.ofBits .f32 0xFF800000#32)

/-- The weight of the carried state at position `i` of a chunk. -/
def qdec (i : Fin 64) (h : Fin 4) : EReal := Ideal.exp ((num i + 1) * lg h)

/-- The weight of position `i` of a chunk in the state it leaves. -/
def kdec (i : Fin 64) (h : Fin 4) : EReal := Ideal.exp ((Ideal.ofBits .f32 0x427C0000#32 - num i) * lg h)

/-- A head's decay over a chunk, `(1 - 2 ^ (-5 - h)) ^ 64`. -/
def chunkDecay (h : Fin 4) : EReal := (((1 - (2 : ℝ) ^ (-5 - (h.val : ℝ))) ^ 64 : ℝ) : EReal)

end Cert.Spec

end
-- ==== Proof.KernelTiles.lean ====
/- What the retention kernel's blocks read: the rows, the first states and the scale are the arguments', and the mask and
   decays are `Decays`'. -/
module

public import proofs.«01_k».proof.Proof.Block
public import proofs.«01_k».proof.Proof.Decays
public import proofs.«01_k».proof.Proof.Gen.RetIdeal.Value
public import Idealize.ShloMosaic.Lib.Pipeline.ValueKit
public import Idealize.ShloMosaic.Lib.StableHlo.ReadAt

@[expose] public section

set_option maxRecDepth 16384

noncomputable section

namespace Cert.RetIdeal.Tile

open Cert.RetIdeal Cert.RetIdeal.Gen Cert.RetIdeal.Block Cert.Spec Idealize.ShloMosaic Idealize.ShloMosaic.TcCoe

variable (m : (ℓ : Loc nD τ sig) → Buf (Elt Ideal) ℓ) (c : Dev nD)

/-- What the launch hands the kernel. -/
def data : Data where
  A := m ((c : Thread nD τ).loc main_arg0)
  s0 := m ((c : Thread nD τ).loc main_arg1)
  gn := m ((c : Thread nD τ).loc main_arg2)
  dm := mask
  qd := qdec
  kd := kdec
  γ := chunkDecay

/-- The blocks a grid point's windows stand at. -/
theorem idx : ∀ t : Fin cfg0.N, win0_0.index t = ![t.val / 8, t.val % 8, 0] ∧ win0_1.index t = ![0, 0, 0]
    ∧ win0_2.index t = ![0, 0] ∧ win0_3.index t = ![0, 0] ∧ win0_4.index t = ![0, 0]
    ∧ win0_5.index t = ![t.val / 8, 0, 0, 0] ∧ win0_6.index t = ![t.val / 8, t.val % 8, 0]
    ∧ win0_7.index t = ![t.val / 8, 0, 0, 0] := by decide +kernel

/-- The batch of a grid point. -/
def batch (t : Fin cfg0.N) : Fin 16 := ⟨t.val / 8, by have := t.isLt.trans_eq (show cfg0.N = 128 from N_0); omega⟩

theorem rows_at (t : Fin cfg0.N) (r : Fin 256) (j : Fin 1024) :
    iblk m c 0 t (ix3 0 r j) = (data m c).A (ix3 (batch t) ⟨256 * (t.val % 8) + r.val, by omega⟩ j) := by
  show _ = m ((c : Thread nD τ).loc main_arg0) (ix3 ⟨t.val / 8, _⟩ _ j)
  blk_ext [iblk, V, idx t]

theorem first_at (t : Fin cfg0.N) (h : Fin 4) (i j : Fin 64) :
    iblk m c 5 t (ix4 0 h i j) = (data m c).state (batch t) h 0 i j := by
  show _ = m ((c : Thread nD τ).loc main_arg1) (ix4 ⟨t.val / 8, _⟩ h i j)
  blk_ext [iblk, V, idx t]

theorem scale_at (t : Fin cfg0.N) (j : Fin 256) : iblk m c 4 t (ix2 0 j) = (data m c).gn (ix2 0 j) := by
  show _ = m ((c : Thread nD τ).loc main_arg2) (ix2 0 j)
  blk_ext [iblk, V, idx t]

theorem mask_at (t : Fin cfg0.N) (h : Fin 4) (i j : Fin 64) : iblk m c 1 t (ix3 h i j) = mask h i j := by
  have e : iblk m c 1 t (ix3 h i j) = V m c main_v23 (ix3 h i j) := by blk_ext [iblk, idx t]
  rw [e]
  unfold V
  after_reads_at
  rfl

theorem qdec_at (t : Fin cfg0.N) (i : Fin 64) (h : Fin 4) (e : Fin 64) : iblk m c 2 t (ix2 i (hcol h e)) = qdec i h := by
  have e' : iblk m c 2 t (ix2 i (hcol h e)) = V m c main_v33 (ix2 i (hcol h e)) := by blk_ext [iblk, idx t]
  have hv : (hcol h e).val / 64 = h.val := by show (64 * h.val + e.val) / 64 = _; omega
  rw [e']
  unfold V
  after_reads_at
  rw [hv]
  rfl

theorem kdec_at (t : Fin cfg0.N) (i : Fin 64) (h : Fin 4) (e : Fin 64) : iblk m c 3 t (ix2 i (hcol h e)) = kdec i h := by
  have e' : iblk m c 3 t (ix2 i (hcol h e)) = V m c main_v43 (ix2 i (hcol h e)) := by blk_ext [iblk, idx t]
  have hv : (hcol h e).val / 64 = h.val := by show (64 * h.val + e.val) / 64 = _; omega
  rw [e']
  unfold V
  after_reads_at
  rw [hv]
  rfl

/-- The rational a head's chunk decay is named. -/
theorem chunkDecay_eq (h : Fin 4) : chunkDecay h = (((1 - 1 / 2 ^ (5 + h.val)) ^ 64 : ℝ) : EReal) := by
  rw [chunkDecay]
  congr 3
  rw [show (-5 - (h.val : ℝ)) = -((5 + h.val : ℕ) : ℝ) by push_cast; ring, Real.rpow_neg (by norm_num), Real.rpow_natCast, one_div]

theorem gamma0_eq : (Chunk.g0 : Ideal .f32) = chunkDecay 0 := by
  rw [chunkDecay_eq]
  refine (IdealRules.named_const.ideal_named_scalar _ _ _ _ rfl).trans (congrArg _ ?_)
  norm_num
theorem gamma1_eq : (Chunk.g1 : Ideal .f32) = chunkDecay 1 := by
  rw [chunkDecay_eq]
  refine (IdealRules.named_const.ideal_named_scalar _ _ _ _ rfl).trans (congrArg _ ?_)
  norm_num
theorem gamma2_eq : (Chunk.g2 : Ideal .f32) = chunkDecay 2 := by
  rw [chunkDecay_eq]
  refine (IdealRules.named_const.ideal_named_scalar _ _ _ _ rfl).trans (congrArg _ ?_)
  norm_num
theorem gamma3_eq : (Chunk.g3 : Ideal .f32) = chunkDecay 3 := by
  rw [chunkDecay_eq]
  refine (IdealRules.named_const.ideal_named_scalar _ _ _ _ rfl).trans (congrArg _ ?_)
  norm_num

/-- The tiles of a grid point. -/
theorem tiles (t : Fin cfg0.N) : Tiles (data m c) (iblk m c 1 t) (iblk m c 2 t) (iblk m c 3 t) (iblk m c 4 t) where
  dm := mask_at m c t
  qd := qdec_at m c t
  kd := kdec_at m c t
  gn := scale_at m c t
  g0 := gamma0_eq
  g1 := gamma1_eq
  g2 := gamma2_eq
  g3 := gamma3_eq

end Cert.RetIdeal.Tile

end
-- ==== Proof.KernelArrays.lean ====
/- The retention kernel's two result arrays: the output and the last states of `Spec`. -/
module

public import proofs.«01_k».proof.Proof.KernelTiles

@[expose] public section

set_option maxRecDepth 16384

noncomputable section

namespace Cert.RetIdeal.Arrays

open Cert.RetIdeal Cert.RetIdeal.Gen Cert.RetIdeal.Block Cert.RetIdeal.Tile Cert.Spec Idealize.ShloMosaic Idealize.ShloMosaic.TcCoe
open Idealize.ShloMosaic.Pipeline (Dat)

variable (m : (ℓ : Loc nD τ sig) → Buf (Elt Ideal) ℓ) (c : Dev nD)

/-- The states the output buffer holds after a grid point. -/
theorem states_at : ∀ (n : ℕ) (hn : n < cfg0.N) (h : Fin 4) (d e : Fin 64),
    (outsAt0 m c n hn).2 (ix4 0 h d e) = (data m c).state (batch ⟨n, hn⟩) h (4 * (n % 8 + 1)) d e := by
  intro n
  induction n with
  | zero =>
    intro hn h d e
    rw [outsAt0_A m c ⟨0, hn⟩ rfl]
    dsimp only
    rw [Step.outA7]
    exact states_eq (data m c) (batch ⟨0, hn⟩) (n := 0) (by decide) (rows_at m c ⟨0, hn⟩) (tiles m c ⟨0, hn⟩) (first_at m c ⟨0, hn⟩) h d e
  | succ n ih =>
    intro hn h d e
    by_cases h0 : (n + 1) % 8 = 0
    · rw [outsAt0_A m c ⟨n + 1, hn⟩ h0]
      dsimp only
      rw [Step.outA7]
      refine (states_eq (data m c) (batch ⟨n + 1, hn⟩) (n := (n + 1) % 8) (Nat.mod_lt _ (by decide)) (rows_at m c ⟨n + 1, hn⟩)
        (tiles m c ⟨n + 1, hn⟩) (fun h d e => (first_at m c ⟨n + 1, hn⟩ h d e).trans ?_) h d e)
      rw [h0]
    · rw [outsAt0_B m c ⟨n + 1, hn⟩ h0]
      dsimp only
      rw [Step.outB7]
      refine (states_eq (data m c) (batch ⟨n + 1, hn⟩) (n := (n + 1) % 8) (Nat.mod_lt _ (by decide)) (rows_at m c ⟨n + 1, hn⟩)
        (tiles m c ⟨n + 1, hn⟩) (fun h d e => (ih (Nat.lt_of_succ_lt hn) h d e).trans ?_) h d e)
      have e1 : n % 8 + 1 = (n + 1) % 8 := by omega
      have e2 : batch ⟨n, Nat.lt_of_succ_lt hn⟩ = batch ⟨n + 1, hn⟩ := Fin.ext (by show n / 8 = (n + 1) / 8; omega)
      rw [e1, e2]

/-- The rows the output buffer holds after a grid point. -/
theorem block_at (t : Fin cfg0.N) (r j : Fin 256) :
    (outsAt0 m c t.val t.isLt).1 (ix3 0 r j) = (data m c).outArr (ix3 (batch t) ⟨256 * (t.val % 8) + r.val, by omega⟩ j) := by
  by_cases h0 : t.val % 8 = 0
  · rw [outsAt0_A m c t h0]
    dsimp only
    rw [Step.outA6]
    refine block_eq (data m c) (batch t) (n := t.val % 8) (Nat.mod_lt _ (by decide)) (rows_at m c t) (tiles m c t)
      (fun h d e => (first_at m c t h d e).trans ?_) r j
    rw [h0]
  · rw [outsAt0_B m c t h0]
    dsimp only
    rw [Step.outB6]
    refine block_eq (data m c) (batch t) (n := t.val % 8) (Nat.mod_lt _ (by decide)) (rows_at m c t) (tiles m c t)
      (fun h d e => (states_at m c (t.val - 1) _ h d e).trans ?_) r j
    have e1 : (t.val - 1) % 8 + 1 = t.val % 8 := by omega
    have e2 : ∀ hn, batch ⟨t.val - 1, hn⟩ = batch t := fun hn => Fin.ext (by show (t.val - 1) / 8 = t.val / 8; omega)
    rw [e1, e2]

/-- The output array after the run. -/
theorem out_eq : (dats m 0 c).arrAt 6 cfg0.N = (data m c).outArr := by
  refine (dats m 0 c).arrAt_eq_of_covers 6 _ (by decide +kernel) fun t hf y => ?_
  blk_simp
  rw [after0_6]
  have hy : y = (ix3 0 (y 1) (y 2) : S1x256x256.Idx) := by
    refine (eq_ix3 y).trans ((ix3_inj _ _ _ _ _ _).mpr ⟨Fin.ext ?_, rfl, rfl⟩)
    have := (y 0).isLt
    exact Nat.lt_one_iff.mp this
  rw [hy]
  refine (block_at m c t _ _).trans (congrArg (data m c).outArr ?_)
  blk_ext [idx t, batch]

/-- The states after the run. -/
theorem state_eq : (dats m 0 c).arrAt 7 cfg0.N = (data m c).stateArr := by
  refine (dats m 0 c).arrAt_eq_of_covers 7 _ (by decide +kernel) fun t hf y => ?_
  blk_simp
  rw [after0_7]
  have h7 : t.val % 8 = 7 := (flush0_7 t).mp hf
  have hy : y = (ix4 0 (y 1) (y 2) (y 3) : S1x4x64x64.Idx) := by
    refine (eq_ix4 y).trans ((ix4_inj _ _ _ _ _ _ _ _).mpr ⟨Fin.ext ?_, rfl, rfl, rfl⟩)
    have := (y 0).isLt
    exact Nat.lt_one_iff.mp this
  rw [hy]
  refine (states_at m c t.val t.isLt _ _ _).trans ?_
  rw [h7]
  show (data m c).stateArr (ix4 (batch t) (y 1) (y 2) (y 3)) = _
  refine congrArg (data m c).stateArr ?_
  blk_ext [idx t, batch]

end Cert.RetIdeal.Arrays

end
-- ==== Proof.RefStep.lean ====
module
public import proofs.«01_k».proof.Proof.Decays
public import proofs.«01_k».proof.Proof.Gen.RetRefIdeal.Run
public import Idealize.ShloMosaic.Lib.StableHlo.ReadAt
public import Idealize.ShloMosaic.Lib.Tactic.CleanTypes
/-!
  # One trip of the reference's scan

  Trip `k` reads chunk `k` of the stacked queries, keys and values, makes that chunk's outputs and puts them at row
  `k` of the stack of outputs, and moves the state on by one chunk.
-/
@[expose] public section
set_option maxRecDepth 16384
noncomputable section
namespace Cert.RetRefIdeal.Trip
open Cert.RetRefIdeal Cert.RetRefIdeal.Gen Cert.RetRefIdeal.Value Idealize.ShloMosaic Idealize.ShloMosaic.TcCoe Cert.Spec

/-- The stacked queries. -/
abbrev qs (V0 : Valuation τ sig (Elt Ideal)) : S32x16x64x4x64.Idx → EReal := V0 (Proc.devRef .tc main_v61_0)
/-- The stacked keys. -/
abbrev ks (V0 : Valuation τ sig (Elt Ideal)) : S32x16x64x4x64.Idx → EReal := V0 (Proc.devRef .tc main_v61_1)
/-- The stacked values. -/
abbrev vs (V0 : Valuation τ sig (Elt Ideal)) : S32x16x64x4x64.Idx → EReal := V0 (Proc.devRef .tc main_v61_2)
/-- The decays inside a chunk. -/
abbrev dms (V0 : Valuation τ sig (Elt Ideal)) : S4x64x64.Idx → EReal := V0 (Proc.devRef .tc main_v61_3)
/-- The queries' decays. -/
abbrev qds (V0 : Valuation τ sig (Elt Ideal)) : S64x4.Idx → EReal := V0 (Proc.devRef .tc main_v61_4)
/-- The state's decay over a chunk. -/
abbrev sds (V0 : Valuation τ sig (Elt Ideal)) : S4.Idx → EReal := V0 (Proc.devRef .tc main_v61_5)
/-- The keys' decays. -/
abbrev kds (V0 : Valuation τ sig (Elt Ideal)) : S64x4.Idx → EReal := V0 (Proc.devRef .tc main_v61_6)
/-- The state. -/
abbrev sts (V0 : Valuation τ sig (Elt Ideal)) : S16x4x64x64.Idx → EReal := V0 (Proc.devRef .tc main_v61_8)
/-- The stacked outputs. -/
abbrev outs (V0 : Valuation τ sig (Elt Ideal)) : S32x16x64x4x64.Idx → EReal := V0 (Proc.devRef .tc main_v61_9)

/-- A slice of one chunk out of the stack, at start `(k, 0, 0, 0, 0)`, is chunk `k`. -/
theorem slice_at (X : S32x16x64x4x64.Idx → EReal) (st : Fin 5 → Int) (hf) (k : Fin 32)
    (h0 : st 0 = (k.val : ℤ)) (h1 : st 1 = 0) (h2 : st 2 = 0) (h3 : st 3 = 0) (h4 : st 4 = 0)
    (b : Fin 16) (i : Fin 64) (h : Fin 4) (d : Fin 64) :
    Host.dynamicSlice S1x16x64x4x64 X st hf (ix5 (0 : Fin 1) b i h d) = X (ix5 k b i h d) := by
  have hk := k.isLt
  have e0 : ∀ hr, Host.clampedStart S32x16x64x4x64 S1x16x64x4x64 hr st 0 = k.val := fun hr =>
    Host.clampedStart_of_le hr st 0 k.val h0 (show k.val + 1 ≤ 32 by omega)
  have e1 : ∀ hr, Host.clampedStart S32x16x64x4x64 S1x16x64x4x64 hr st 1 = 0 := fun hr =>
    Host.clampedStart_of_le hr st 1 0 h1 (show 0 + 16 ≤ 16 by omega)
  have e2 : ∀ hr, Host.clampedStart S32x16x64x4x64 S1x16x64x4x64 hr st 2 = 0 := fun hr =>
    Host.clampedStart_of_le hr st 2 0 h2 (show 0 + 64 ≤ 64 by omega)
  have e3 : ∀ hr, Host.clampedStart S32x16x64x4x64 S1x16x64x4x64 hr st 3 = 0 := fun hr =>
    Host.clampedStart_of_le hr st 3 0 h3 (show 0 + 4 ≤ 4 by omega)
  have e4 : ∀ hr, Host.clampedStart S32x16x64x4x64 S1x16x64x4x64 hr st 4 = 0 := fun hr =>
    Host.clampedStart_of_le hr st 4 0 h4 (show 0 + 64 ≤ 64 by omega)
  rw [Host.dynamicSlice_apply]
  refine congrArg X ?_
  rw [Shape.Idx.norm5]
  apply ix5_inj _ _ _ _ _ _ _ _ _ _ |>.mpr
  refine ⟨?_, ?_, ?_, ?_, ?_⟩ <;> apply Fin.ext <;> simp [e0, e1, e2, e3, e4]

/-- Putting one chunk into the stack at start `(k, 0, 0, 0, 0)`: row `k` is the chunk, the others stay. -/
theorem update_at (X : S32x16x64x4x64.Idx → EReal) (U : S1x16x64x4x64.Idx → EReal) (st : Fin 5 → Int) (hf) (k : Fin 32)
    (h0 : st 0 = (k.val : ℤ)) (h1 : st 1 = 0) (h2 : st 2 = 0) (h3 : st 3 = 0) (h4 : st 4 = 0)
    (n : Fin 32) (b : Fin 16) (i : Fin 64) (h : Fin 4) (d : Fin 64) :
    Host.dynamicUpdateSlice X U st hf (ix5 n b i h d)
      = if n = k then U (ix5 (0 : Fin 1) b i h d) else X (ix5 n b i h d) := by
  have hk := k.isLt
  have e0 : ∀ hr, Host.clampedStart S32x16x64x4x64 S1x16x64x4x64 hr st 0 = k.val := fun hr =>
    Host.clampedStart_of_le hr st 0 k.val h0 (show k.val + 1 ≤ 32 by omega)
  have e1 : ∀ hr, Host.clampedStart S32x16x64x4x64 S1x16x64x4x64 hr st 1 = 0 := fun hr =>
    Host.clampedStart_of_le hr st 1 0 h1 (show 0 + 16 ≤ 16 by omega)
  have e2 : ∀ hr, Host.clampedStart S32x16x64x4x64 S1x16x64x4x64 hr st 2 = 0 := fun hr =>
    Host.clampedStart_of_le hr st 2 0 h2 (show 0 + 64 ≤ 64 by omega)
  have e3 : ∀ hr, Host.clampedStart S32x16x64x4x64 S1x16x64x4x64 hr st 3 = 0 := fun hr =>
    Host.clampedStart_of_le hr st 3 0 h3 (show 0 + 4 ≤ 4 by omega)
  have e4 : ∀ hr, Host.clampedStart S32x16x64x4x64 S1x16x64x4x64 hr st 4 = 0 := fun hr =>
    Host.clampedStart_of_le hr st 4 0 h4 (show 0 + 64 ≤ 64 by omega)
  rw [Host.dynamicUpdateSlice_apply]
  by_cases hnk : n = k
  · subst hnk
    rw [if_pos rfl, dif_pos]
    case hc =>
      intro a
      have hb := b.isLt
      have hi := i.isLt
      have hh := h.isLt
      have hd := d.isLt
      fin_cases a
      · exact ⟨(e0 _).le, by show n.val < _ + 1; exact Nat.lt_succ_of_le (e0 _).ge⟩
      · exact ⟨(e1 _).le.trans (Nat.zero_le _), by show b.val < _ + 16; exact hb.trans_le (Nat.le_add_left _ _)⟩
      · exact ⟨(e2 _).le.trans (Nat.zero_le _), by show i.val < _ + 64; exact hi.trans_le (Nat.le_add_left _ _)⟩
      · exact ⟨(e3 _).le.trans (Nat.zero_le _), by show h.val < _ + 4; exact hh.trans_le (Nat.le_add_left _ _)⟩
      · exact ⟨(e4 _).le.trans (Nat.zero_le _), by show d.val < _ + 64; exact hd.trans_le (Nat.le_add_left _ _)⟩
    refine congrArg U ?_
    rw [Shape.Idx.norm5]
    apply ix5_inj _ _ _ _ _ _ _ _ _ _ |>.mpr
    refine ⟨?_, ?_, ?_, ?_, ?_⟩ <;> apply Fin.ext <;> simp [e0, e1, e2, e3, e4]
  · rw [if_neg hnk, dif_neg]
    intro H
    obtain ⟨p1, p2⟩ := H 0
    rw [e0] at p1 p2
    have p1 : k.val ≤ n.val := p1
    have p2 : n.val < k.val + 1 := p2
    exact hnk (Fin.ext (by omega))

/-- Dropping the leading unit axis of a chunk. -/
theorem cast_at (Y : S1x16x64x4x64.Idx → EReal) (hs) (b : Fin 16) (i : Fin 64) (h : Fin 4) (d : Fin 64) :
    shapeCast S16x64x4x64 Y hs (ix4 b i h d) = Y (ix5 (0 : Fin 1) b i h d) := by
  pointwise

/-- The counter at trip `k` reads `k`. -/
theorem counter_toInt (k : Fin 32) : (Scf.iv 0#32 1#32 k.val).toInt = (k.val : ℤ) := by
  revert k
  decide

variable (V0 : Valuation τ sig (Elt Ideal)) (k : Fin 32)
  (hk : V0 (Proc.devRef .tc main_v61_7) = fun _ => Scf.iv 0#32 1#32 k.val)
include hk

/-- The trip's queries are chunk `k` of the stack. -/
theorem q_at (b : Fin 16) (i : Fin 64) (h : Fin 4) (d : Fin 64) :
    res_main_while0b_v89 V0 (ix4 b i h d)
      = qs V0 (ix5 k b i h d) := by
  unfold res_main_while0b_v89
  rw [hk]
  exact (cast_at _ _ b i h d).trans (slice_at _ _ _ k (counter_toInt k) rfl rfl rfl rfl b i h d)

/-- The trip's keys are chunk `k` of the stack. -/
theorem k_at (b : Fin 16) (i : Fin 64) (h : Fin 4) (d : Fin 64) :
    res_main_while0b_v90 V0 (ix4 b i h d)
      = ks V0 (ix5 k b i h d) := by
  unfold res_main_while0b_v90
  rw [hk]
  exact (cast_at _ _ b i h d).trans (slice_at _ _ _ k (counter_toInt k) rfl rfl rfl rfl b i h d)

/-- The trip's values are chunk `k` of the stack. -/
theorem v_at (b : Fin 16) (i : Fin 64) (h : Fin 4) (d : Fin 64) :
    res_main_while0b_v91 V0 (ix4 b i h d)
      = vs V0 (ix5 k b i h d) := by
  unfold res_main_while0b_v91
  rw [hk]
  exact (cast_at _ _ b i h d).trans (slice_at _ _ _ k (counter_toInt k) rfl rfl rfl rfl b i h d)

/-- The state after the trip. -/
theorem state_at (b : Fin 16) (h : Fin 4) (d e : Fin 64) :
    step_main_v61_8 V0 (ix4 b h d e)
      = sts V0 (ix4 b h d e)
          * sds V0 (ix1 h)
        + ∑ j : Fin 64, ks V0 (ix5 k b j h d)
            * kds V0 (ix2 j h)
            * vs V0 (ix5 k b j h e) := by
  unfold step_main_v61_8
  rw [id_eq]
  clean_types
  pointwise
  simp only [k_at V0 k hk, v_at V0 k hk]

/-- The stack of outputs after the trip. -/
theorem out_at (n : Fin 32) (b : Fin 16) (i : Fin 64) (h : Fin 4) (e : Fin 64) :
    step_main_v61_9 V0 (ix5 n b i h e)
      = if n = k then
          (∑ j : Fin 64, (∑ d : Fin 64, qs V0 (ix5 k b i h d)
              * ks V0 (ix5 k b j h d))
              * dms V0 (ix3 h i j)
              * vs V0 (ix5 k b j h e))
            + (∑ d : Fin 64, qs V0 (ix5 k b i h d)
                * sts V0 (ix4 b h d e))
              * qds V0 (ix2 i h)
        else outs V0 (ix5 n b i h e) := by
  unfold step_main_v61_9
  rw [id_eq, hk]
  refine (update_at _ _ _ _ k (counter_toInt k) rfl rfl rfl rfl n b i h e).trans ?_
  refine if_congr Iff.rfl ?_ rfl
  clean_types
  pointwise
  simp only [q_at V0 k hk, k_at V0 k hk, v_at V0 k hk]
  refine congrArg₂ (· + ·) (Finset.sum_congr rfl fun j _ => mul_comm _ _) ?_
  exact congrArg (· * qds V0 (ix2 i h)) (Finset.sum_congr rfl fun d _ => mul_comm _ _)

end Cert.RetRefIdeal.Trip
end
-- ==== Proof.RefEntry.lean ====
module
public import proofs.«01_k».proof.Proof.RefStep
/-!
  # What the reference's scan starts from

  The stacks of chunks are the argument's columns cut into chunks; the decays are the ones the kernel's host code
  computes, the state's decay over a chunk excepted, which is the power itself.
-/
@[expose] public section
set_option maxRecDepth 16384
noncomputable section
namespace Cert.RetRefIdeal.Entry
open Cert.RetRefIdeal Cert.RetRefIdeal.Gen Cert.RetRefIdeal.Value Idealize.ShloMosaic Idealize.ShloMosaic.TcCoe Cert.Spec
open Trip Idealize.ShloMosaic.StableHlo

variable (m : (ℓ : Loc nD τ sig) → Buf (Elt Ideal) ℓ) (c : Dev nD)

/-- The contents at the loop's entry. -/
abbrev V : Valuation τ sig (Elt Ideal) := entryContents preI m c

/-- Two indices of the argument with the same numbers. -/
theorem congr_ix3 (b : Fin 16) (x x' : Fin 2048) (y y' : Fin 1024) (hx : x.val = x'.val) (hy : y.val = y'.val) :
    ix3 b x y = ix3 b x' y' := by
  obtain rfl := Fin.ext hx
  obtain rfl := Fin.ext hy
  rfl

theorem qs_at (n : Fin 32) (b : Fin 16) (i : Fin 64) (h : Fin 4) (d : Fin 64) :
    qs (V m c) (ix5 n b i h d) = (m ((c.tc : Thread nD τ).loc main_arg0) : S16x2048x1024.Idx → EReal) (ix3 b (row n i) (qcol (hcol h d))) := by
  show (entryContents preI m c) (Proc.devRef .tc main_v61_0) _ = _
  simp only [entryContents, afterL_cons, afterL_nil]
  after_reads_at
  rw [id_eq]
  clean_types
  pointwise
  exact congrArg _ (congr_ix3 b _ _ _ _ (by show n.val * 64 + i.val = (64 * n.val + i.val) % 2048; omega)
    (by show h.val * 64 + d.val = 64 * h.val + d.val; omega))

theorem ks_at (n : Fin 32) (b : Fin 16) (i : Fin 64) (h : Fin 4) (d : Fin 64) :
    ks (V m c) (ix5 n b i h d) = (m ((c.tc : Thread nD τ).loc main_arg0) : S16x2048x1024.Idx → EReal) (ix3 b (row n i) (kcol (hcol h d))) := by
  show (entryContents preI m c) (Proc.devRef .tc main_v61_1) _ = _
  simp only [entryContents, afterL_cons, afterL_nil]
  after_reads_at
  rw [id_eq]
  clean_types
  pointwise
  exact congrArg _ (congr_ix3 b _ _ _ _ (by show n.val * 64 + i.val = (64 * n.val + i.val) % 2048; omega)
    (by show 256 + (h.val * 64 + d.val) = 256 + (64 * h.val + d.val); omega))

theorem vs_at (n : Fin 32) (b : Fin 16) (i : Fin 64) (h : Fin 4) (d : Fin 64) :
    vs (V m c) (ix5 n b i h d) = (m ((c.tc : Thread nD τ).loc main_arg0) : S16x2048x1024.Idx → EReal) (ix3 b (row n i) (vcol (hcol h d))) := by
  show (entryContents preI m c) (Proc.devRef .tc main_v61_2) _ = _
  simp only [entryContents, afterL_cons, afterL_nil]
  after_reads_at
  rw [id_eq]
  clean_types
  pointwise
  exact congrArg _ (congr_ix3 b _ _ _ _ (by show n.val * 64 + i.val = (64 * n.val + i.val) % 2048; omega)
    (by show 512 + (h.val * 64 + d.val) = 512 + (64 * h.val + d.val); omega))

theorem dms_at (h : Fin 4) (i j : Fin 64) : dms (V m c) (ix3 h i j) = mask h i j := by
  show (entryContents preI m c) (Proc.devRef .tc main_v61_3) _ = _
  simp only [entryContents, afterL_cons, afterL_nil]
  after_reads_at
  rw [id_eq]
  clean_types
  pointwise
  rfl

theorem qds_at (h : Fin 4) (i : Fin 64) : qds (V m c) (ix2 i h) = qdec i h := by
  show (entryContents preI m c) (Proc.devRef .tc main_v61_4) _ = _
  simp only [entryContents, afterL_cons, afterL_nil]
  after_reads_at
  rw [id_eq]
  clean_types
  pointwise
  rfl
theorem kds_at (h : Fin 4) (i : Fin 64) : kds (V m c) (ix2 i h) = kdec i h := by
  show (entryContents preI m c) (Proc.devRef .tc main_v61_6) _ = _
  simp only [entryContents, afterL_cons, afterL_nil]
  after_reads_at
  rw [id_eq]
  clean_types
  pointwise
  rfl
theorem sds_at (h : Fin 4)  : sds (V m c) (ix1 h) = chunkDecay h := by
  show (entryContents preI m c) (Proc.devRef .tc main_v61_5) _ = _
  simp only [entryContents, afterL_cons, afterL_nil]
  after_reads_at
  rw [id_eq]
  clean_types
  pointwise
  have e2 : Ideal.ofBits FTy.f32 0x40000000#32 = ((2 : ℝ) : EReal) := by
    simp [Ideal.ofBits, Ideal.ieee, -EReal.coe_mul]; norm_num
  have e5 : Ideal.ofBits FTy.f32 0xC0A00000#32 = ((-5 : ℝ) : EReal) := by
    simp [Ideal.ofBits, Ideal.ieee, -EReal.coe_mul]; norm_num
  have e64 : Ideal.ofBits FTy.f32 0x42800000#32 = ((64 : ℝ) : EReal) := by
    simp [Ideal.ofBits, Ideal.ieee, -EReal.coe_mul]; norm_num
  have eh : (FloatOps.sitofp (F := Ideal) FTy.f32 (BitVec.ofNat 32 h.val)) = ((h.val : ℝ) : EReal) := by
    refine (Ideal.scalar_sitofp_def _).trans ?_
    fin_cases h <;> simp
  have hc : Ideal.ofBits FTy.f32 1115684864#32 = ((64 : ℝ) : EReal) := e64
  rw [show Ideal.ofBits FTy.f32 1073741824#32 = ((2 : ℝ) : EReal) from e2, show Ideal.ofBits FTy.f32 3231711232#32 = ((-5 : ℝ) : EReal) from e5,
    hc, eh, ← EReal.coe_sub, Ideal.pow_coe_coe, ← EReal.coe_one, ← EReal.coe_sub, Ideal.pow_coe_coe]
  refine congrArg _ ?_
  exact Real.rpow_natCast _ 64
theorem sts_at (b : Fin 16) (h : Fin 4) (d e : Fin 64) :
    sts (V m c) (ix4 b h d e) = (m ((c.tc : Thread nD τ).loc main_arg1) : S16x4x64x64.Idx → EReal) (ix4 b h d e)  := by
  show (entryContents preI m c) (Proc.devRef .tc main_v61_8) _ = _
  simp only [entryContents, afterL_cons, afterL_nil]
  after_reads_at
  rfl

end Cert.RetRefIdeal.Entry
end
-- ==== Proof.RefArrays.lean ====
module
public import proofs.«01_k».proof.Proof.RefEntry
/-!
  # What the reference's results hold

  By induction over the trips: after `k` trips the state is the state after `k` chunks and rows below `k` of the stack
  of outputs are those chunks' outputs. The operations after the scan normalise the stack, scale it and gate it.
-/
@[expose] public section
set_option maxRecDepth 16384
noncomputable section
namespace Cert.RetRefIdeal.Arrays
open Cert.RetRefIdeal Cert.RetRefIdeal.Gen Cert.RetRefIdeal.Value Idealize.ShloMosaic Idealize.ShloMosaic.TcCoe Cert.Spec
open Trip Entry Idealize.ShloMosaic.StableHlo

variable (m : (ℓ : Loc nD τ sig) → Buf (Elt Ideal) ℓ) (c : Dev nD)

/-- What the launch hands the reference. -/
def data : Data where
  A := m ((c.tc : Thread nD τ).loc main_arg0)
  s0 := m ((c.tc : Thread nD τ).loc main_arg1)
  gn := m ((c.tc : Thread nD τ).loc main_arg2)
  dm := mask
  qd := qdec
  kd := kdec
  γ := chunkDecay

/-- What holds before trip `k`. -/
structure Inv (k : ℕ) (W : Valuation τ sig (Elt Ideal)) : Prop where
  ctr : W (Proc.devRef .tc main_v61_7) = fun _ => Scf.iv 0#32 1#32 k
  qc : ∀ (n : Fin 32) b i h d, qs W (ix5 n b i h d) = (data m c).q b h n i d
  kc : ∀ (n : Fin 32) b i h d, ks W (ix5 n b i h d) = (data m c).k b h n i d
  vc : ∀ (n : Fin 32) b i h d, vs W (ix5 n b i h d) = (data m c).v b h n i d
  dm : ∀ h i j, dms W (ix3 h i j) = mask h i j
  qd : ∀ i h, qds W (ix2 i h) = qdec i h
  kd : ∀ i h, kds W (ix2 i h) = kdec i h
  sd : ∀ h, sds W (ix1 h) = chunkDecay h
  st : ∀ b h d e, sts W (ix4 b h d e) = (data m c).state b h k d e
  out : ∀ (n : Fin 32) b i h e, n.val < k → outs W (ix5 n b i h e) = (data m c).mix b h n i e

/-- It holds at the entry. -/
theorem inv_zero : Inv m c 0 (V m c) where
  ctr := (ctr_entry m c).trans (by rw [Scf.iv_zero])
  qc n b i h d := qs_at m c n b i h d
  kc n b i h d := ks_at m c n b i h d
  vc n b i h d := vs_at m c n b i h d
  dm h i j := dms_at m c h i j
  qd i h := qds_at m c h i
  kd i h := kds_at m c h i
  sd h := sds_at m c h
  st b h d e := sts_at m c b h d e
  out n b i h e hn := absurd hn (Nat.not_lt_zero _)

/-- A trip keeps it. -/
theorem inv_succ (k : Fin 32) (W : Valuation τ sig (Elt Ideal)) (I : Inv m c k.val W) : Inv m c (k.val + 1) (STEP W) where
  ctr := by
    rw [STEP_main_v61_7, Scf.iv_succ]
    unfold step_main_v61_7
    rw [I.ctr]
    rfl
  qc n b i h d := (congrFun (STEP_main_v61_0 W) _).trans (I.qc n b i h d)
  kc n b i h d := (congrFun (STEP_main_v61_1 W) _).trans (I.kc n b i h d)
  vc n b i h d := (congrFun (STEP_main_v61_2 W) _).trans (I.vc n b i h d)
  dm h i j := (congrFun (STEP_main_v61_3 W) _).trans (I.dm h i j)
  qd i h := (congrFun (STEP_main_v61_4 W) _).trans (I.qd i h)
  kd i h := (congrFun (STEP_main_v61_6 W) _).trans (I.kd i h)
  sd h := (congrFun (STEP_main_v61_5 W) _).trans (I.sd h)
  st b h d e := by
    refine (congrFun (STEP_main_v61_8 W) _).trans ((state_at W k I.ctr b h d e).trans ?_)
    simp only [I.st, I.sd, I.kc, I.kd, I.vc]
    rfl
  out n b i h e hn := by
    refine (congrFun (STEP_main_v61_9 W) _).trans ((out_at W k I.ctr n b i h e).trans ?_)
    by_cases hk : n = k
    · subst hk
      rw [if_pos rfl]
      simp only [I.st, I.dm, I.kc, I.qd, I.vc, I.qc]
      rfl
    · rw [if_neg hk]
      exact I.out n b i h e (by have : n.val ≠ k.val := fun h => hk (Fin.ext h); omega)

/-- It holds after any number of trips. -/
theorem inv (k : ℕ) (hk : k ≤ 32) : Inv m c k (STEP^[k] (V m c)) := by
  induction k with
  | zero => exact inv_zero m c
  | succ k ih =>
    rw [Function.iterate_succ_apply']
    exact inv_succ m c ⟨k, hk⟩ _ (ih (by omega))

/-- The reference's last states. -/
theorem state_eq : (STEP^[32] (V m c)) (Proc.devRef .tc main_v61_8) = (data m c).stateArr := by
  funext y
  rw [eq_ix4 y]
  exact (inv m c 32 le_rfl).st _ _ _ _

/-- The output array at a position and a column. -/
theorem outArr_at (D : Data) (b : Fin 16) (t : Fin 2048) (j : Fin 256) :
    D.outArr (ix3 b t j)
      = Spec.norm (D.mix b ⟨j.val / 64, by omega⟩ (t.val / 64) ⟨t.val % 64, by omega⟩) ⟨j.val % 64, by omega⟩ * D.gn (ix2 0 j)
        * (D.A (ix3 b t (gcol j)) * Ideal.logistic (D.A (ix3 b t (gcol j)))) := by
  have er : row (t.val / 64) ⟨t.val % 64, by omega⟩ = t := by
    apply Fin.ext
    simp only [row]
    omega
  have ec : hcol ⟨j.val / 64, by omega⟩ ⟨j.val % 64, by omega⟩ = j := by
    apply Fin.ext
    simp only [hcol]
    omega
  have eo : D.outArr (ix3 b t j) = D.out b ⟨j.val / 64, by omega⟩ (t.val / 64) ⟨t.val % 64, by omega⟩ ⟨j.val % 64, by omega⟩ := rfl
  rw [eo]
  unfold Data.out
  rw [er, ec]

/-- What the operations after the scan make of the stack of outputs. -/
theorem after_scan (D : Data) (W : Valuation τ sig (Elt Ideal))
    (h0 : W (Proc.devRef .tc main_arg0) = D.A) (h2 : W (Proc.devRef .tc main_arg2) = D.gn)
    (hW : ∀ (n : Fin 32) b i h e, outs W (ix5 n b i h e) = D.mix b h n i e)
    (b : Fin 16) (t : Fin 2048) (j : Fin 256) : out_main_v88 W (ix3 b t j) = D.outArr (ix3 b t j) := by
  have hW' : ∀ (n : Fin 32) b i h e, W (Proc.devRef .tc main_v61_9) (ix5 n b i h e) = D.mix b h n i e := hW
  refine Eq.trans ?_ (outArr_at D b t j).symm
  unfold Spec.norm mean Ideal.logistic gcol
  unfold out_main_v88
  rw [h0, h2]
  clean_types
  pointwise
  simp only [hW']

/-- The reference's outputs. -/
theorem out_eq : out_main_v88 (STEP^[32] (V m c)) = (data m c).outArr := by
  have I := inv m c 32 le_rfl
  funext y
  rw [eq_ix3 y]
  exact after_scan (data m c) _ (iter_main_arg0 m c 32) (iter_main_arg2 m c 32) (fun n b i h e => I.out n b i h e n.isLt) (y 0) (y 1) (y 2)

end Cert.RetRefIdeal.Arrays
end
-- ==== Proof.ProjSpec.lean ====
/- The mathematics of the input projection: each position's normalized row times the weights, the rotated parts, and the two
   stacks with their second layer replaced. -/
module

public import Idealize.ShloMosaic.Lib.Pointwise

@[expose] public section

noncomputable section

namespace Cert.ProjSpec

open Idealize.ShloMosaic

/-- The cosine and sine of position `t` at frequency `j` of 32. -/
def angle (t j : ℕ) : EReal :=
  FloatOps.sitofp (F := Ideal) .f32 (BitVec.ofNat 32 t)
    * Ideal.pow (Ideal.ofBits .f32 0x461C4000#32)
        (Ideal.div (-FloatOps.sitofp (F := Ideal) .f32 (BitVec.ofNat 32 j)) (Ideal.ofBits .f32 0x42000000#32))
@[inherit_doc angle] def cosAt (t j : ℕ) : EReal := Ideal.cos (angle t j)
@[inherit_doc angle] def sinAt (t j : ℕ) : EReal := Ideal.sin (angle t j)

/-- The arguments: the layer's input, the norm's gain, the weights and the two stacks of two layers. -/
structure Data where
  X : Fin 16 → Fin 2048 → Fin 1024 → EReal
  gain : Fin 1024 → EReal
  W : Fin 1024 → Fin 3872 → EReal
  kvs : Fin 2 → Fin 16 → Fin 512 → Fin 2048 → EReal
  wins : Fin 2 → Fin 16 → Fin 256 → Fin 512 → EReal

/-- The batch and the position of a row of the flattened batch. -/
def bat (r : Fin 32768) : Fin 16 := ⟨r.val / 2048, by omega⟩
@[inherit_doc bat] def pos (r : Fin 32768) : Fin 2048 := ⟨r.val % 2048, Nat.mod_lt _ (by decide)⟩

namespace Data

variable (D : Data)

/-- The normalized row of a position. -/
def row (b : Fin 16) (t : Fin 2048) (k : Fin 1024) : EReal :=
  D.X b t k * Ideal.rsqrt (Ideal.div (∑ i, D.X b t i * D.X b t i) (Ideal.ofBits .f32 0x44800000#32) + Ideal.ofBits .f32 0x358637BD#32) * D.gain k

/-- Its projection to a column. -/
def u (b : Fin 16) (t : Fin 2048) (j : ℕ) : EReal := if h : j < 3872 then ∑ k, D.row b t k * D.W k ⟨j, h⟩ else 0

/-- A column of a head of 64 rotated by its position. -/
def turn (b : Fin 16) (t : Fin 2048) (j : ℕ) : EReal :=
  if j % 64 < 32 then D.u b t j * cosAt t.val (j % 64) - D.u b t (j + 32) * sinAt t.val (j % 64)
  else D.u b t j * cosAt t.val (j % 64 - 32) + D.u b t (j - 32) * sinAt t.val (j % 64 - 32)

theorem turn_lo (b : Fin 16) (t : Fin 2048) {j j0 j1 p p0 p1 : ℕ} (h : j % 64 < 32) (h0 : j0 = j) (h1 : j1 = j + 32) (hp : p = t.val)
    (hp0 : p0 = j % 64) (hp1 : p1 = j % 64) : D.u b t j0 * cosAt p p0 - D.u b t j1 * sinAt p p1 = D.turn b t j := by
  subst h0 h1 hp hp0 hp1
  rw [turn, if_pos h]

theorem turn_hi (b : Fin 16) (t : Fin 2048) {j j0 j1 p p0 p1 : ℕ} (h : ¬j % 64 < 32) (h0 : j0 = j) (h1 : j1 = j - 32) (hp : p = t.val)
    (hp0 : p0 = j % 64 - 32) (hp1 : p1 = j % 64 - 32) : D.u b t j0 * cosAt p p0 + D.u b t j1 * sinAt p p1 = D.turn b t j := by
  subst h0 h1 hp hp0 hp1
  rw [turn, if_neg h]

/-- The retention part: rotated queries, rotated and scaled keys, values and gates. -/
def ret (b : Fin 16) (t : Fin 2048) (j : ℕ) : EReal :=
  if j < 256 then D.turn b t j else if j < 512 then D.turn b t j * Ideal.ofBits .f32 0x3E000000#32 else D.u b t j

/-- The keys and values kept for the whole sequence; the selected keys are rotated. -/
def kv (b : Fin 16) (t : Fin 2048) (j : ℕ) : EReal :=
  if 256 ≤ j ∧ j < 384 then D.turn b t (1536 + j) else D.u b t (1536 + j)

/-- The keys and values kept for the window; the keys are rotated. -/
def win (b : Fin 16) (t : Fin 2048) (j : ℕ) : EReal := if j < 128 then D.turn b t (2048 + j) else D.u b t (2048 + j)

/-- The narrow gates, padded by zeros. -/
def small (b : Fin 16) (t : Fin 2048) (j : ℕ) : EReal :=
  if j < 24 then D.u b t (2304 + j) else if j < 32 then D.u b t (3584 + j) else 0

/-- The stack with its second layer's keys and values. -/
def kvNew (l : Fin 2) (b : Fin 16) (j : Fin 512) (t : Fin 2048) : EReal := if l = 0 then D.kvs 0 b j t else D.kv b t j.val

/-- The stack with its second layer's window, the last 512 positions. -/
def winNew (l : Fin 2) (b : Fin 16) (j : Fin 256) (t : Fin 512) : EReal :=
  if l = 0 then D.wins 0 b j t else D.win b ⟨1536 + t.val, by omega⟩ j.val

/-! The results as arrays, the rows of all batches one after another. -/

def retArr : (⟨2, ![32768, 1024]⟩ : Shape).Idx → EReal := fun y => D.ret (bat (y 0)) (pos (y 0)) (y 1).val
def qArr : (⟨2, ![32768, 512]⟩ : Shape).Idx → EReal := fun y => D.u (bat (y 0)) (pos (y 0)) (1024 + (y 1).val)
def qrArr : (⟨2, ![32768, 512]⟩ : Shape).Idx → EReal := fun y => D.turn (bat (y 0)) (pos (y 0)) (1024 + (y 1).val)
def kvArr : (⟨2, ![32768, 512]⟩ : Shape).Idx → EReal := fun y => D.kv (bat (y 0)) (pos (y 0)) (y 1).val
def winArr : (⟨2, ![32768, 256]⟩ : Shape).Idx → EReal := fun y => D.win (bat (y 0)) (pos (y 0)) (y 1).val
def ngArr : (⟨2, ![32768, 512]⟩ : Shape).Idx → EReal := fun y => D.u (bat (y 0)) (pos (y 0)) (2328 + (y 1).val)
def gqArr : (⟨2, ![32768, 768]⟩ : Shape).Idx → EReal := fun y => D.u (bat (y 0)) (pos (y 0)) (2840 + (y 1).val)
def ggArr : (⟨2, ![32768, 256]⟩ : Shape).Idx → EReal := fun y => D.u (bat (y 0)) (pos (y 0)) (3616 + (y 1).val)
def smallArr : (⟨2, ![32768, 128]⟩ : Shape).Idx → EReal := fun y => D.small (bat (y 0)) (pos (y 0)) (y 1).val
def kvNewArr : (⟨4, ![2, 16, 512, 2048]⟩ : Shape).Idx → EReal := fun y => D.kvNew (y 0) (y 1) (y 2) (y 3)
def winNewArr : (⟨4, ![2, 16, 256, 512]⟩ : Shape).Idx → EReal := fun y => D.winNew (y 0) (y 1) (y 2) (y 3)

end Data

end Cert.ProjSpec

end
-- ==== Proof.ProjTile.lean ====
/- The input projection's step of 512 rows: the values it stores, entry by entry. -/
module

public import proofs.«01_k».proof.Proof.Gen.ProjIdeal.Skeleton
public import Idealize.ShloMosaic.Lib.Pointwise

@[expose] public section

set_option maxRecDepth 16384

noncomputable section

namespace Cert.ProjIdeal.Tile

open Cert.ProjIdeal Cert.ProjIdeal.Gen Idealize.ShloMosaic

variable (x0 : Vec Ideal S512x1024 .f32) (x1 : Vec Ideal S1x1024 .f32) (x2 : Vec Ideal S1024x3968 .bf16) (x3 x4 : Vec Ideal S512x128 .f32)

/-- A normalized row of the tile projected to a column of the padded weights. -/
def lin (r : Fin 512) (j : ℕ) : EReal :=
  if h : j < 3968 then ∑ k : Fin 1024, (k0_pay2 x0 x1 (ix2 r k) : EReal) * (x2 (ix2 k ⟨j, h⟩) : EReal) else 0

/-- The column of the other half of a head of 64. -/
def mate (j : ℕ) : ℕ := if j % 64 < 32 then j + 32 else j - 32

/-- A projected column turned by its row's position. -/
def turned (r : Fin 512) (j : ℕ) : EReal :=
  lin x0 x1 x2 r j * x3 (ix2 r ⟨j % 128, Nat.mod_lt _ (by decide)⟩)
    + lin x0 x1 x2 r (mate j) * x4 (ix2 r ⟨j % 128, Nat.mod_lt _ (by decide)⟩)

/-- The mask of the first halves of the heads. -/
theorem half_eq (r : Fin 512) (l : Fin 128) : k0_pay5 (ix2 r l) = if l.val % 64 < 32 then 1#1 else 0#1 := by
  pointwise [k0_pay5]
  revert l
  decide

/-- The rotation of 128 columns, two heads. -/
def rot (V : FVec Ideal S512x128 .f32) : FVec Ideal S512x128 .f32 :=
  addf (mulf V (k0_pay3 x3))
    (mulf (select k0_pay5 (dynamicRotate 1 96#32 none V rotates_S512x128_d1) (dynamicRotate 1 32#32 none V rotates_S512x128_d1)) (k0_pay4 x4))

theorem rot_eq (V : FVec Ideal S512x128 .f32) (n : ℕ) (hV : ∀ (r : Fin 512) (l : Fin 128), (V (ix2 r l) : EReal) = lin x0 x1 x2 r (128 * n + l.val))
    (r : Fin 512) (l : Fin 128) : (rot x3 x4 V (ix2 r l) : EReal) = turned x0 x1 x2 x3 x4 r (128 * n + l.val) := by
  have hl : (128 * n + l.val) % 128 = l.val := by omega
  have hm : (128 * n + l.val) % 64 = l.val % 64 := by omega
  unfold turned mate
  simp only [hl, hm, ← hV]
  pointwise [rot, k0_pay3, k0_pay4]
  rw [half_eq]
  split
  · rw [ValueIdx.select_one, hV r ⟨(l.val + 128 - 96) % 128, _⟩]
    refine congrArg (_ + · * _) (congrArg (lin x0 x1 x2 r) ?_)
    show 128 * n + (l.val + 128 - 96) % 128 = _
    omega
  · rw [ValueIdx.select_zero, hV r ⟨(l.val + 128 - 32) % 128, _⟩]
    refine congrArg (_ + · * _) (congrArg (lin x0 x1 x2 r) ?_)
    show 128 * n + (l.val + 128 - 32) % 128 = _
    omega

/-- The scale of the keys of the retention heads. -/
def eighth : EReal := Ideal.ofBits .f32 0x3E000000#32

/-- The weights' columns for the four retention parts, the queries, the keys and values, and the rest. -/
def wRet : Vec Ideal S1024x1024 .bf16 := View.ld x2 (Rect.unit ![0, 0] ![1024, 1024] inb_S1024x3968_S1024x1024_0_0)
@[inherit_doc wRet] def wQ : Vec Ideal S1024x512 .bf16 := View.ld x2 (Rect.unit ![0, 1024] ![1024, 512] inb_S1024x3968_S1024x512_0_1024)
@[inherit_doc wRet] def wKv : Vec Ideal S1024x768 .bf16 := View.ld x2 (Rect.unit ![0, 1536] ![1024, 768] inb_S1024x3968_S1024x768_0_1536)

theorem ret_eq (r : Fin 512) (j : Fin 1024) : (k0_pay6 (k0_pay2 x0 x1) (wRet x2) (ix2 r j) : EReal) = lin x0 x1 x2 r j.val := by
  unfold lin
  rw [dif_pos (by omega)]
  pointwise [k0_pay6, wRet]

theorem q_eq (r : Fin 512) (j : Fin 512) : (k0_pay12 (k0_pay2 x0 x1) (wQ x2) (ix2 r j) : EReal) = lin x0 x1 x2 r (1024 + j.val) := by
  unfold lin
  rw [dif_pos (by omega)]
  pointwise [k0_pay12, wQ]

theorem kv_eq (r : Fin 512) (j : Fin 768) : (k0_pay19 (k0_pay2 x0 x1) (wKv x2) (ix2 r j) : EReal) = lin x0 x1 x2 r (1536 + j.val) := by
  unfold lin
  rw [dif_pos (by omega)]
  pointwise [k0_pay19, wKv]

theorem ng_eq (r : Fin 512) (j : Fin 512) :
    (k0_pay26 (k0_pay2 x0 x1) (k0_pay25 (View.ld x2 (Rect.unit ![0, 2304] ![1024, 512] inb_S1024x3968_S1024x512_0_2304))) (ix2 r j) : EReal)
      = lin x0 x1 x2 r (2304 + j.val) := by
  unfold lin
  rw [dif_pos (by omega)]
  pointwise [k0_pay26, k0_pay25]

theorem gq_eq (r : Fin 512) (j : Fin 768) :
    (k0_pay27 (k0_pay2 x0 x1) (View.ld x2 (Rect.unit ![0, 2816] ![1024, 768] inb_S1024x3968_S1024x768_0_2816)) (ix2 r j) : EReal)
      = lin x0 x1 x2 r (2816 + j.val) := by
  unfold lin
  rw [dif_pos (by omega)]
  pointwise [k0_pay27]

theorem gg_eq (r : Fin 512) (j : Fin 256) :
    (k0_pay28 (k0_pay2 x0 x1) (View.ld x2 (Rect.unit ![0, 3584] ![1024, 256] inb_S1024x3968_S1024x256_0_3584)) (ix2 r j) : EReal)
      = lin x0 x1 x2 r (3584 + j.val) := by
  unfold lin
  rw [dif_pos (by omega)]
  pointwise [k0_pay28]

theorem sm_eq (r : Fin 512) (j : Fin 128) :
    (k0_pay29 (k0_pay2 x0 x1) (View.ld x2 (Rect.unit ![0, 3840] ![1024, 128] inb_S1024x3968_S1024x128_0_3840)) (ix2 r j) : EReal)
      = lin x0 x1 x2 r (3840 + j.val) := by
  unfold lin
  rw [dif_pos (by omega)]
  pointwise [k0_pay29]

/-! The stored pieces of the retention part. -/

theorem ret0 (r : Fin 512) (l : Fin 128) :
    (k0_pay7 (k0_pay2 x0 x1) (k0_pay3 x3) (k0_pay4 x4) k0_pay5 (wRet x2) (ix2 r l) : EReal) = turned x0 x1 x2 x3 x4 r (128 * 0 + l.val) := by
  have e : k0_pay7 (k0_pay2 x0 x1) (k0_pay3 x3) (k0_pay4 x4) k0_pay5 (wRet x2) = rot x3 x4 (extractStridedSlice S512x128 ![0, 0] (k0_pay6 (k0_pay2 x0 x1) (wRet x2)) slices_S512x1024_o0_0_S512x128) := rfl
  rw [e]
  exact rot_eq x0 x1 x2 x3 x4 _ 0 (fun r l => by pointwise; rw [ret_eq]) r l

theorem ret1 (r : Fin 512) (l : Fin 128) :
    (k0_pay8 (k0_pay2 x0 x1) (k0_pay3 x3) (k0_pay4 x4) k0_pay5 (wRet x2) (ix2 r l) : EReal) = turned x0 x1 x2 x3 x4 r (128 * 1 + l.val) := by
  have e : k0_pay8 (k0_pay2 x0 x1) (k0_pay3 x3) (k0_pay4 x4) k0_pay5 (wRet x2) = rot x3 x4 (extractStridedSlice S512x128 ![0, 128] (k0_pay6 (k0_pay2 x0 x1) (wRet x2)) slices_S512x1024_o0_128_S512x128) := rfl
  rw [e]
  exact rot_eq x0 x1 x2 x3 x4 _ 1 (fun r l => by pointwise; rw [ret_eq]) r l

theorem ret2 (r : Fin 512) (l : Fin 128) :
    (k0_pay9 (k0_pay2 x0 x1) (k0_pay3 x3) (k0_pay4 x4) k0_pay5 (wRet x2) (ix2 r l) : EReal) = turned x0 x1 x2 x3 x4 r (128 * 2 + l.val) * eighth := by
  have e : k0_pay9 (k0_pay2 x0 x1) (k0_pay3 x3) (k0_pay4 x4) k0_pay5 (wRet x2) = mulf (rot x3 x4 (extractStridedSlice S512x128 ![0, 256] (k0_pay6 (k0_pay2 x0 x1) (wRet x2)) slices_S512x1024_o0_256_S512x128)) (broadcast S512x128 (Scalar.ofBits .f32 0x3E000000#32)) := rfl
  rw [e]
  exact congrArg (· * eighth) (rot_eq x0 x1 x2 x3 x4 _ 2 (fun r l => by pointwise; rw [ret_eq]) r l)

theorem ret3 (r : Fin 512) (l : Fin 128) :
    (k0_pay10 (k0_pay2 x0 x1) (k0_pay3 x3) (k0_pay4 x4) k0_pay5 (wRet x2) (ix2 r l) : EReal) = turned x0 x1 x2 x3 x4 r (128 * 3 + l.val) * eighth := by
  have e : k0_pay10 (k0_pay2 x0 x1) (k0_pay3 x3) (k0_pay4 x4) k0_pay5 (wRet x2) = mulf (rot x3 x4 (extractStridedSlice S512x128 ![0, 384] (k0_pay6 (k0_pay2 x0 x1) (wRet x2)) slices_S512x1024_o0_384_S512x128)) (broadcast S512x128 (Scalar.ofBits .f32 0x3E000000#32)) := rfl
  rw [e]
  exact congrArg (· * eighth) (rot_eq x0 x1 x2 x3 x4 _ 3 (fun r l => by pointwise; rw [ret_eq]) r l)

theorem ret4 (r : Fin 512) (l : Fin 512) : (k0_pay11 (k0_pay6 (k0_pay2 x0 x1) (wRet x2)) (ix2 r l) : EReal) = lin x0 x1 x2 r (512 + l.val) := by
  pointwise [k0_pay11]
  rw [ret_eq]

/-! The stored pieces of the turned queries. -/

theorem qr0 (r : Fin 512) (l : Fin 128) :
    (k0_pay13 (k0_pay2 x0 x1) (k0_pay3 x3) (k0_pay4 x4) k0_pay5 (wQ x2) (ix2 r l) : EReal) = turned x0 x1 x2 x3 x4 r (128 * 8 + l.val) := by
  have e : k0_pay13 (k0_pay2 x0 x1) (k0_pay3 x3) (k0_pay4 x4) k0_pay5 (wQ x2) = rot x3 x4 (extractStridedSlice S512x128 ![0, 0] (k0_pay12 (k0_pay2 x0 x1) (wQ x2)) slices_S512x512_o0_0_S512x128) := rfl
  rw [e]
  exact rot_eq x0 x1 x2 x3 x4 _ 8 (fun r l => by pointwise; rw [q_eq]) r l

theorem qr1 (r : Fin 512) (l : Fin 128) :
    (k0_pay14 (k0_pay2 x0 x1) (k0_pay3 x3) (k0_pay4 x4) k0_pay5 (wQ x2) (ix2 r l) : EReal) = turned x0 x1 x2 x3 x4 r (128 * 9 + l.val) := by
  have e : k0_pay14 (k0_pay2 x0 x1) (k0_pay3 x3) (k0_pay4 x4) k0_pay5 (wQ x2) = rot x3 x4 (extractStridedSlice S512x128 ![0, 128] (k0_pay12 (k0_pay2 x0 x1) (wQ x2)) slices_S512x512_o0_128_S512x128) := rfl
  rw [e]
  exact rot_eq x0 x1 x2 x3 x4 _ 9 (fun r l => by pointwise; rw [q_eq]; exact congrArg _ (by simp only []; omega)) r l

theorem qr2 (r : Fin 512) (l : Fin 128) :
    (k0_pay15 (k0_pay2 x0 x1) (k0_pay3 x3) (k0_pay4 x4) k0_pay5 (wQ x2) (ix2 r l) : EReal) = turned x0 x1 x2 x3 x4 r (128 * 10 + l.val) := by
  have e : k0_pay15 (k0_pay2 x0 x1) (k0_pay3 x3) (k0_pay4 x4) k0_pay5 (wQ x2) = rot x3 x4 (extractStridedSlice S512x128 ![0, 256] (k0_pay12 (k0_pay2 x0 x1) (wQ x2)) slices_S512x512_o0_256_S512x128) := rfl
  rw [e]
  exact rot_eq x0 x1 x2 x3 x4 _ 10 (fun r l => by pointwise; rw [q_eq]; exact congrArg _ (by simp only []; omega)) r l

theorem qr3 (r : Fin 512) (l : Fin 128) :
    (k0_pay18 (k0_pay3 x3) (k0_pay4 x4) k0_pay5 (k0_pay16 (k0_pay2 x0 x1) (wQ x2)) (k0_pay17 (k0_pay2 x0 x1) (wQ x2)) 32#32 (ix2 r l) : EReal)
      = turned x0 x1 x2 x3 x4 r (128 * 11 + l.val) := by
  have e : k0_pay18 (k0_pay3 x3) (k0_pay4 x4) k0_pay5 (k0_pay16 (k0_pay2 x0 x1) (wQ x2)) (k0_pay17 (k0_pay2 x0 x1) (wQ x2)) 32#32 = rot x3 x4 (extractStridedSlice S512x128 ![0, 384] (k0_pay12 (k0_pay2 x0 x1) (wQ x2)) slices_S512x512_o0_384_S512x128) := rfl
  rw [e]
  exact rot_eq x0 x1 x2 x3 x4 _ 11 (fun r l => by pointwise; rw [q_eq]; exact congrArg _ (by simp only []; omega)) r l

/-! The stored pieces of the keys and values. -/

theorem kv0 (r : Fin 512) (l : Fin 256) : (k0_pay20 (k0_pay2 x0 x1) (wKv x2) (ix2 r l) : EReal) = lin x0 x1 x2 r (1536 + l.val) := by
  pointwise [k0_pay20]
  rw [kv_eq]

theorem kv1 (r : Fin 512) (l : Fin 128) :
    (k0_pay21 (k0_pay2 x0 x1) (k0_pay3 x3) (k0_pay4 x4) k0_pay5 (wKv x2) (ix2 r l) : EReal) = turned x0 x1 x2 x3 x4 r (128 * 14 + l.val) := by
  have e : k0_pay21 (k0_pay2 x0 x1) (k0_pay3 x3) (k0_pay4 x4) k0_pay5 (wKv x2) = rot x3 x4 (extractStridedSlice S512x128 ![0, 256] (k0_pay19 (k0_pay2 x0 x1) (wKv x2)) slices_S512x768_o0_256_S512x128) := rfl
  rw [e]
  exact rot_eq x0 x1 x2 x3 x4 _ 14 (fun r l => by pointwise; rw [kv_eq]; exact congrArg _ (by simp only []; omega)) r l

theorem kv2 (r : Fin 512) (l : Fin 128) : (k0_pay22 (k0_pay2 x0 x1) (wKv x2) (ix2 r l) : EReal) = lin x0 x1 x2 r (1920 + l.val) := by
  pointwise [k0_pay22]
  rw [kv_eq]
  exact congrArg _ (by simp only []; omega)

theorem wn0 (r : Fin 512) (l : Fin 128) :
    (k0_pay23 (k0_pay2 x0 x1) (k0_pay3 x3) (k0_pay4 x4) k0_pay5 (wKv x2) (ix2 r l) : EReal) = turned x0 x1 x2 x3 x4 r (128 * 16 + l.val) := by
  have e : k0_pay23 (k0_pay2 x0 x1) (k0_pay3 x3) (k0_pay4 x4) k0_pay5 (wKv x2) = rot x3 x4 (extractStridedSlice S512x128 ![0, 512] (k0_pay19 (k0_pay2 x0 x1) (wKv x2)) slices_S512x768_o0_512_S512x128) := rfl
  rw [e]
  exact rot_eq x0 x1 x2 x3 x4 _ 16 (fun r l => by pointwise; rw [kv_eq]; exact congrArg _ (by simp only []; omega)) r l

theorem wn1 (r : Fin 512) (l : Fin 128) : (k0_pay24 (k0_pay2 x0 x1) (wKv x2) (ix2 r l) : EReal) = lin x0 x1 x2 r (2176 + l.val) := by
  pointwise [k0_pay24]
  rw [kv_eq]
  exact congrArg _ (by simp only []; omega)

/-! What a step leaves in each of its blocks. -/

/-- The retention part. -/
def bRet (r : Fin 512) (j : ℕ) : EReal :=
  if j < 256 then turned x0 x1 x2 x3 x4 r j else if j < 512 then turned x0 x1 x2 x3 x4 r j * eighth else lin x0 x1 x2 r j

/-- The keys and values kept for the whole sequence. -/
def bKv (r : Fin 512) (j : ℕ) : EReal :=
  if 256 ≤ j ∧ j < 384 then turned x0 x1 x2 x3 x4 r (1536 + j) else lin x0 x1 x2 r (1536 + j)

/-- The keys and values kept for the window. -/
def bWin (r : Fin 512) (j : ℕ) : EReal :=
  if j < 128 then turned x0 x1 x2 x3 x4 r (2048 + j) else lin x0 x1 x2 r (2048 + j)

end Cert.ProjIdeal.Tile

end
-- ==== Proof.ProjArgs.lean ====
/- What the projection's blocks read: rows of the input, the gain, the reordered weights and the tables of cosines and sines. -/
module

public import proofs.«01_k».proof.Proof.ProjSpec
public import proofs.«01_k».proof.Proof.ProjTile
public import proofs.«01_k».proof.Proof.Gen.ProjIdeal.Value
public import Idealize.ShloMosaic.Lib.Pipeline.ValueKit
public import Idealize.ShloMosaic.Lib.StableHlo.ReadAt
public import Idealize.ShloMosaic.Lib.Tactic.CleanTypes

@[expose] public section

set_option maxRecDepth 16384

noncomputable section

namespace Cert.ProjIdeal.Args

open Cert.ProjIdeal Cert.ProjIdeal.Gen Cert.ProjIdeal.Tile Cert.ProjSpec Idealize.ShloMosaic Idealize.ShloMosaic.TcCoe

variable (m : (ℓ : Loc nD τ sig) → Buf (Elt Ideal) ℓ) (c : Dev nD)

abbrev aX : S16x2048x1024.Idx → EReal := m ((c : Thread nD τ).loc main_arg0)
abbrev aG : S1x1024.Idx → EReal := m ((c : Thread nD τ).loc main_arg1)
abbrev aW : S1024x3872.Idx → EReal := m ((c : Thread nD τ).loc main_arg2)
abbrev aK : S2x16x512x2048.Idx → EReal := m ((c : Thread nD τ).loc main_arg3)
abbrev aN : S2x16x256x512.Idx → EReal := m ((c : Thread nD τ).loc main_arg4)

/-- What the arguments hold. -/
def data : Data where
  X b t k := aX m c (ix3 b t k)
  gain k := aG m c (ix2 0 k)
  W k j := aW m c (ix2 k j)
  kvs l b j t := aK m c (ix4 l b j t)
  wins l b j t := aN m c (ix4 l b j t)

/-- The blocks a grid point's windows stand at. -/
theorem idx : ∀ t : Fin cfg0.N, win0_0.index t = ![t.val, 0] ∧ win0_1.index t = ![0, 0]
    ∧ win0_2.index t = ![0, 0] ∧ win0_3.index t = ![t.val % 4, 0] ∧ win0_4.index t = ![t.val % 4, 0]
    ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![1, t.val / 4, 0, t.val % 4]
    ∧ win0_15.index t = ![1, t.val / 4, 0, 0] := by decide +kernel

theorem tlt (t : Fin cfg0.N) : t.val < 64 := t.isLt.trans_eq (show cfg0.N = 64 from N_0)

/-- The batch of a grid point, and the position of one of its rows. -/
def batch (t : Fin cfg0.N) : Fin 16 := ⟨t.val / 4, by have := tlt t; omega⟩
@[inherit_doc batch] def place (t : Fin cfg0.N) (r : Fin 512) : Fin 2048 := ⟨512 * (t.val % 4) + r.val, by omega⟩

theorem x_at (t : Fin cfg0.N) (r : Fin 512) (k : Fin 1024) : iblk m c 0 t (ix2 r k) = (data m c).X (batch t) (place t r) k := by
  have ht := tlt t
  have e : iblk m c 0 t (ix2 r k) = V m c main_v19 (ix2 ⟨512 * t.val + r.val, by omega⟩ k) := by blk_ext [iblk, idx t]
  rw [e]
  unfold V
  after_reads_at
  refine congrArg (aX m c) ((ix3_inj _ _ _ _ _ _).mpr ⟨Fin.ext ?_, Fin.ext ?_, rfl⟩)
  · show (512 * t.val + r.val) / 2048 = t.val / 4
    omega
  · show (512 * t.val + r.val) % 2048 = 512 * (t.val % 4) + r.val
    omega

theorem g_at (t : Fin cfg0.N) (k : Fin 1024) : iblk m c 1 t (ix2 0 k) = (data m c).gain k := by
  show _ = m ((c : Thread nD τ).loc main_arg1) (ix2 0 k)
  blk_ext [iblk, V, idx t]

/-- The weights' column a padded column holds. -/
def src (w : ℕ → EReal) (j : ℕ) : EReal :=
  if j < 2304 then w j else if j < 3584 then w (j + 24) else if j < 3840 then w (j + 32) else if j < 3864 then w (j - 1536)
  else if j < 3872 then w (j - 256) else 0

theorem src_a (w : ℕ → EReal) {j : ℕ} (h : j < 2304) : src w j = w j := if_pos h
theorem src_b (w : ℕ → EReal) {j : ℕ} (h : 2304 ≤ j) (h' : j < 3584) : src w j = w (j + 24) := by
  rw [src, if_neg (by omega), if_pos h']
theorem src_c (w : ℕ → EReal) {j : ℕ} (h : 3584 ≤ j) (h' : j < 3840) : src w j = w (j + 32) := by
  rw [src, if_neg (by omega), if_neg (by omega), if_pos h']
theorem src_d (w : ℕ → EReal) {j : ℕ} (h : 3840 ≤ j) (h' : j < 3864) : src w j = w (j - 1536) := by
  rw [src, if_neg (by omega), if_neg (by omega), if_neg (by omega), if_pos h']
theorem src_e (w : ℕ → EReal) {j : ℕ} (h : 3864 ≤ j) (h' : j < 3872) : src w j = w (j - 256) := by
  rw [src, if_neg (by omega), if_neg (by omega), if_neg (by omega), if_neg (by omega), if_pos h']
theorem src_z (w : ℕ → EReal) {j : ℕ} (h : 3872 ≤ j) : src w j = 0 := by
  rw [src, if_neg (by omega), if_neg (by omega), if_neg (by omega), if_neg (by omega), if_neg (by omega)]

/-- A column of the weights by its number. -/
def wcol (k : Fin 1024) (j : ℕ) : EReal := if h : j < 3872 then (data m c).W k ⟨j, h⟩ else 0

set_option maxHeartbeats 2000000 in
theorem w_at (t : Fin cfg0.N) (k : Fin 1024) (j : Fin 3968) : iblk m c 2 t (ix2 k j) = src (wcol m c k) j.val := by
  have e : iblk m c 2 t (ix2 k j) = V m c main_v30 (ix2 k j) := by blk_ext [iblk, idx t]
  rw [e]
  unfold V
  after_reads_at
  have W : ∀ (n : ℕ) (h : n < 3872), m (c, Proc.tc.devRef main_arg2) (ix2 k ⟨n, h⟩) = wcol m c k n := fun n h => by
    unfold wcol
    rw [dif_pos h]
    rfl
  split
  · refine Eq.trans ?_ (src_a _ (by omega) ).symm
    after_reads_at
    exact (W _ _).trans (congrArg _ (by omega))
  split
  · refine Eq.trans ?_ (src_a _ (by omega) ).symm
    after_reads_at
    exact (W _ _).trans (congrArg _ (by omega))
  split
  · refine Eq.trans ?_ (src_a _ (by omega) ).symm
    after_reads_at
    exact (W _ _).trans (congrArg _ (by omega))
  split
  · refine Eq.trans ?_ (src_b _ (by omega) (by omega) ).symm
    after_reads_at
    exact (W _ _).trans (congrArg _ (by omega))
  split
  · refine Eq.trans ?_ (src_b _ (by omega) (by omega) ).symm
    after_reads_at
    exact (W _ _).trans (congrArg _ (by omega))
  split
  · refine Eq.trans ?_ (src_c _ (by omega) (by omega) ).symm
    after_reads_at
    exact (W _ _).trans (congrArg _ (by omega))
  split
  · refine Eq.trans ?_ (src_d _ (by omega) (by omega) ).symm
    after_reads_at
    exact (W _ _).trans (congrArg _ (by omega))
  split
  · refine Eq.trans ?_ (src_e _ (by omega) (by omega) ).symm
    after_reads_at
    exact (W _ _).trans (congrArg _ (by omega))
  · refine Eq.trans ?_ (src_z _ (by omega)).symm
    after_reads_at

theorem cos_at (t : Fin cfg0.N) (r : Fin 512) (j : Fin 128) : iblk m c 3 t (ix2 r j) = cosAt (place t r).val (j.val % 32) := by
  have e : iblk m c 3 t (ix2 r j) = V m c main_v15 (ix2 (place t r) j) := by
    unfold place
    blk_ext [iblk, idx t]
  rw [e]
  unfold V
  after_reads_at
  split
  · refine Eq.trans (b := cosAt (place t r).val j.val) ?_ (congrArg _ (by omega))
    after_reads_at
    rfl
  split
  · refine Eq.trans (b := cosAt (place t r).val (j.val - 32)) ?_ (congrArg _ (by omega))
    after_reads_at
    rfl
  split
  · refine Eq.trans (b := cosAt (place t r).val (j.val - 32 - 32)) ?_ (congrArg _ (by omega))
    after_reads_at
    rfl
  · refine Eq.trans (b := cosAt (place t r).val (j.val - 32 - 32 - 32)) ?_ (congrArg _ (by omega))
    after_reads_at
    rfl

theorem sin_at (t : Fin cfg0.N) (r : Fin 512) (j : Fin 128) :
    iblk m c 4 t (ix2 r j) = if j.val % 64 < 32 then -sinAt (place t r).val (j.val % 32) else sinAt (place t r).val (j.val % 32) := by
  have e : iblk m c 4 t (ix2 r j) = V m c main_v18 (ix2 (place t r) j) := by
    unfold place
    blk_ext [iblk, idx t]
  rw [e]
  unfold V
  after_reads_at
  split
  · refine Eq.trans (b := -sinAt (place t r).val j.val) ?_ (Eq.trans (congrArg (fun n => -sinAt _ n) (by omega)) (if_pos (by omega)).symm)
    after_reads_at
    rfl
  split
  · refine Eq.trans (b := sinAt (place t r).val (j.val - 32)) ?_ (Eq.trans (congrArg _ (by omega)) (if_neg (by omega)).symm)
    after_reads_at
    rfl
  split
  · refine Eq.trans (b := -sinAt (place t r).val (j.val - 32 - 32)) ?_ (Eq.trans (congrArg (fun n => -sinAt _ n) (by omega)) (if_pos (by omega)).symm)
    after_reads_at
    rfl
  · refine Eq.trans (b := sinAt (place t r).val (j.val - 32 - 32 - 32)) ?_ (Eq.trans (congrArg _ (by omega)) (if_neg (by omega)).symm)
    after_reads_at
    rfl

end Cert.ProjIdeal.Args

end
-- ==== Proof.ProjTiles.lean ====
/- The projection's steps in the terms of `ProjSpec`: each block's entries are the projected and turned columns of its positions. -/
module

public import proofs.«01_k».proof.Proof.ProjArgs

@[expose] public section

set_option maxRecDepth 16384

noncomputable section

namespace Cert.ProjIdeal.Args

open Cert.ProjIdeal Cert.ProjIdeal.Gen Cert.ProjIdeal.Tile Cert.ProjSpec Idealize.ShloMosaic Idealize.ShloMosaic.TcCoe

variable (m : (ℓ : Loc nD τ sig) → Buf (Elt Ideal) ℓ) (c : Dev nD)

theorem row_at (t : Fin cfg0.N) (r : Fin 512) (k : Fin 1024) :
    (k0_pay2 (iblk m c 0 t) (iblk m c 1 t) (ix2 r k) : EReal) = (data m c).row (batch t) (place t r) k := by
  pointwise [k0_pay2]
  simp only [x_at, g_at]
  rfl

theorem src_sum (D : Data) (w : Fin 1024 → ℕ → EReal) (hw : ∀ k j, w k j = if h : j < 3872 then D.W k ⟨j, h⟩ else 0)
    (b : Fin 16) (p : Fin 2048) (j : ℕ) : ∑ k, D.row b p k * src (w k) j = src (D.u b p) j := by
  have hu : ∀ n, n < 3872 → ∑ k, D.row b p k * w k n = D.u b p n := fun n hn => by
    rw [Data.u, dif_pos hn]
    refine Finset.sum_congr rfl fun k _ => ?_
    rw [hw, dif_pos hn]
  by_cases h1 : j < 2304
  · rw [src_a _ h1, ← hu _ (by omega)]
    exact Finset.sum_congr rfl fun k _ => by rw [src_a _ h1]
  by_cases h2 : j < 3584
  · rw [src_b _ (by omega) h2, ← hu _ (by omega)]
    exact Finset.sum_congr rfl fun k _ => by rw [src_b _ (by omega) h2]
  by_cases h3 : j < 3840
  · rw [src_c _ (by omega) h3, ← hu _ (by omega)]
    exact Finset.sum_congr rfl fun k _ => by rw [src_c _ (by omega) h3]
  by_cases h4 : j < 3864
  · rw [src_d _ (by omega) h4, ← hu _ (by omega)]
    exact Finset.sum_congr rfl fun k _ => by rw [src_d _ (by omega) h4]
  by_cases h5 : j < 3872
  · rw [src_e _ (by omega) h5, ← hu _ (by omega)]
    exact Finset.sum_congr rfl fun k _ => by rw [src_e _ (by omega) h5]
  · rw [src_z _ (by omega)]
    exact Finset.sum_eq_zero fun k _ => by rw [src_z _ (by omega), mul_zero]

/-- The projected columns of a block. -/
abbrev linAt (t : Fin cfg0.N) : Fin 512 → ℕ → EReal := lin (iblk m c 0 t) (iblk m c 1 t) (iblk m c 2 t)
/-- The turned columns of a block. -/
abbrev turnedAt (t : Fin cfg0.N) : Fin 512 → ℕ → EReal :=
  turned (iblk m c 0 t) (iblk m c 1 t) (iblk m c 2 t) (iblk m c 3 t) (iblk m c 4 t)

theorem lin_eq (t : Fin cfg0.N) (r : Fin 512) {j : ℕ} (hj : j < 3968) :
    linAt m c t r j = src ((data m c).u (batch t) (place t r)) j := by
  unfold linAt lin
  rw [dif_pos hj]
  refine Eq.trans (Finset.sum_congr rfl fun k _ => ?_) (src_sum (data m c) (wcol m c) (fun k j => rfl) (batch t) (place t r) j)
  rw [row_at, w_at]

theorem turned_eq (t : Fin cfg0.N) (r : Fin 512) {j : ℕ} (hj : j < 2304) :
    turnedAt m c t r j = (data m c).turn (batch t) (place t r) j := by
  unfold turnedAt turned mate Data.turn
  rw [cos_at, sin_at]
  have e1 := lin_eq m c t r (j := j) (by omega)
  rw [src_a _ hj] at e1
  unfold linAt at e1
  rw [e1]
  simp only []
  by_cases h : j % 64 < 32
  · have e2 := lin_eq m c t r (j := j + 32) (by omega)
    rw [src_a _ (by omega)] at e2
    unfold linAt at e2
    rw [if_pos h, if_pos h, if_pos (show j % 128 % 64 < 32 by omega), e2, mul_neg, ← sub_eq_add_neg,
      show j % 128 % 32 = j % 64 by omega]
  · have e2 := lin_eq m c t r (j := j - 32) (by omega)
    rw [src_a _ (by omega)] at e2
    unfold linAt at e2
    rw [if_neg h, if_neg h, if_neg (show ¬j % 128 % 64 < 32 by omega), e2, show j % 128 % 32 = j % 64 - 32 by omega]

theorem ret_eq (t : Fin cfg0.N) (r : Fin 512) (j : Fin 1024) :
    bRet (iblk m c 0 t) (iblk m c 1 t) (iblk m c 2 t) (iblk m c 3 t) (iblk m c 4 t) r j.val = (data m c).ret (batch t) (place t r) j.val := by
  have e1 := lin_eq m c t r (j := j.val) (by omega)
  have e2 := turned_eq m c t r (j := j.val) (by omega)
  rw [src_a _ (by omega)] at e1
  unfold bRet Data.ret
  rw [← e1, ← e2]
  rfl

theorem kv_eq (t : Fin cfg0.N) (r : Fin 512) (j : Fin 512) :
    bKv (iblk m c 0 t) (iblk m c 1 t) (iblk m c 2 t) (iblk m c 3 t) (iblk m c 4 t) r j.val = (data m c).kv (batch t) (place t r) j.val := by
  have e1 := lin_eq m c t r (j := 1536 + j.val) (by omega)
  have e2 := turned_eq m c t r (j := 1536 + j.val) (by omega)
  rw [src_a _ (by omega)] at e1
  unfold bKv Data.kv
  rw [← e1, ← e2]

theorem win_eq (t : Fin cfg0.N) (r : Fin 512) (j : Fin 256) :
    bWin (iblk m c 0 t) (iblk m c 1 t) (iblk m c 2 t) (iblk m c 3 t) (iblk m c 4 t) r j.val = (data m c).win (batch t) (place t r) j.val := by
  have e1 := lin_eq m c t r (j := 2048 + j.val) (by omega)
  have e2 := turned_eq m c t r (j := 2048 + j.val) (by omega)
  rw [src_a _ (by omega)] at e1
  unfold bWin Data.win
  rw [← e1, ← e2]

theorem small_eq (t : Fin cfg0.N) (r : Fin 512) (j : Fin 128) :
    linAt m c t r (3840 + j.val) = (data m c).small (batch t) (place t r) j.val := by
  rw [lin_eq m c t r (by omega)]
  unfold Data.small
  by_cases h1 : j.val < 24
  · rw [src_d _ (by omega) (by omega), if_pos h1]
    exact congrArg _ (by omega)
  by_cases h2 : j.val < 32
  · rw [src_e _ (by omega) (by omega), if_neg h1, if_pos h2]
    exact congrArg _ (by omega)
  · rw [src_z _ (by omega), if_neg h1, if_neg h2]

end Cert.ProjIdeal.Args

end
-- ==== Proof.ProjBlockRet.lean ====
/- What a step of the input projection leaves in each of its blocks. The retention part and the parts stored in one piece. -/
module

public import proofs.«01_k».proof.Proof.ProjTile
public import proofs.«01_k».proof.Proof.Gen.ProjIdeal.Frame
public import Idealize.ShloMosaic.Lib.Pipeline.ValueKit
public import Idealize.ShloMosaic.Lib.Pipeline.ReadBack

@[expose] public section

set_option maxRecDepth 16384

noncomputable section

namespace Cert.ProjIdeal.Block

open Cert.ProjIdeal Cert.ProjIdeal.Gen Cert.ProjIdeal.Tile Idealize.ShloMosaic

set_option maxHeartbeats 1000000 in
theorem outA5 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : ¬cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x1024.Idx) :
    (out0_A_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = bRet x0 x1 x2 x3 x4 (y 0) (y 1).val := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S512x1024) _ ![512, 128] (by sl_kernel_rfl) _)
  case piece0 =>
    rw [eq_ix2 x]
    refine (ret4 x0 x1 x2 (x 0) (x 1)).trans ?_
    unfold bRet
    rw [if_neg (by omega), if_neg (by omega)]
    exact congrArg₂ (lin x0 x1 x2) (Fin.ext (by omega)) (by omega)
  case piece1 =>
    rw [eq_ix2 x]
    refine (ret3 x0 x1 x2 x3 x4 (x 0) (x 1)).trans ?_
    unfold bRet
    rw [if_neg (by omega), if_pos (by omega)]
    exact congrArg (· * eighth) (congrArg₂ (turned x0 x1 x2 x3 x4) (Fin.ext (by omega)) (by omega))
  case piece2 =>
    rw [eq_ix2 x]
    refine (ret2 x0 x1 x2 x3 x4 (x 0) (x 1)).trans ?_
    unfold bRet
    rw [if_neg (by omega), if_pos (by omega)]
    exact congrArg (· * eighth) (congrArg₂ (turned x0 x1 x2 x3 x4) (Fin.ext (by omega)) (by omega))
  case piece3 =>
    rw [eq_ix2 x]
    refine (ret1 x0 x1 x2 x3 x4 (x 0) (x 1)).trans ?_
    unfold bRet
    rw [if_pos (by omega)]
    exact congrArg₂ (turned x0 x1 x2 x3 x4) (Fin.ext (by omega)) (by omega)
  case piece4 =>
    rw [eq_ix2 x]
    refine (ret0 x0 x1 x2 x3 x4 (x 0) (x 1)).trans ?_
    unfold bRet
    rw [if_pos (by omega)]
    exact congrArg₂ (turned x0 x1 x2 x3 x4) (Fin.ext (by omega)) (by omega)

set_option maxHeartbeats 1000000 in
theorem outB5 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x1024.Idx) :
    (out0_B_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = bRet x0 x1 x2 x3 x4 (y 0) (y 1).val := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S512x1024) _ ![512, 128] (by sl_kernel_rfl) _)
  case piece0 =>
    rw [eq_ix2 x]
    refine (ret4 x0 x1 x2 (x 0) (x 1)).trans ?_
    unfold bRet
    rw [if_neg (by omega), if_neg (by omega)]
    exact congrArg₂ (lin x0 x1 x2) (Fin.ext (by omega)) (by omega)
  case piece1 =>
    rw [eq_ix2 x]
    refine (ret3 x0 x1 x2 x3 x4 (x 0) (x 1)).trans ?_
    unfold bRet
    rw [if_neg (by omega), if_pos (by omega)]
    exact congrArg (· * eighth) (congrArg₂ (turned x0 x1 x2 x3 x4) (Fin.ext (by omega)) (by omega))
  case piece2 =>
    rw [eq_ix2 x]
    refine (ret2 x0 x1 x2 x3 x4 (x 0) (x 1)).trans ?_
    unfold bRet
    rw [if_neg (by omega), if_pos (by omega)]
    exact congrArg (· * eighth) (congrArg₂ (turned x0 x1 x2 x3 x4) (Fin.ext (by omega)) (by omega))
  case piece3 =>
    rw [eq_ix2 x]
    refine (ret1 x0 x1 x2 x3 x4 (x 0) (x 1)).trans ?_
    unfold bRet
    rw [if_pos (by omega)]
    exact congrArg₂ (turned x0 x1 x2 x3 x4) (Fin.ext (by omega)) (by omega)
  case piece4 =>
    rw [eq_ix2 x]
    refine (ret0 x0 x1 x2 x3 x4 (x 0) (x 1)).trans ?_
    unfold bRet
    rw [if_pos (by omega)]
    exact congrArg₂ (turned x0 x1 x2 x3 x4) (Fin.ext (by omega)) (by omega)

theorem outA6 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : ¬cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x512.Idx) :
    (out0_A_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = lin x0 x1 x2 (y 0) (1024 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact q_eq x0 x1 x2 (y 0) (y 1)

theorem outB6 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x512.Idx) :
    (out0_B_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = lin x0 x1 x2 (y 0) (1024 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact q_eq x0 x1 x2 (y 0) (y 1)

theorem outA10 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : ¬cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x512.Idx) :
    (out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = lin x0 x1 x2 (y 0) (2304 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact ng_eq x0 x1 x2 (y 0) (y 1)

theorem outB10 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x512.Idx) :
    (out0_B_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = lin x0 x1 x2 (y 0) (2304 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact ng_eq x0 x1 x2 (y 0) (y 1)

theorem outA11 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : ¬cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x768.Idx) :
    (out0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = lin x0 x1 x2 (y 0) (2816 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact gq_eq x0 x1 x2 (y 0) (y 1)

theorem outB11 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x768.Idx) :
    (out0_B_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = lin x0 x1 x2 (y 0) (2816 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact gq_eq x0 x1 x2 (y 0) (y 1)

theorem outA12 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : ¬cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x256.Idx) :
    (out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = lin x0 x1 x2 (y 0) (3584 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact gg_eq x0 x1 x2 (y 0) (y 1)

theorem outB12 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x256.Idx) :
    (out0_B_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = lin x0 x1 x2 (y 0) (3584 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact gg_eq x0 x1 x2 (y 0) (y 1)

theorem outA13 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : ¬cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x128.Idx) :
    (out0_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = lin x0 x1 x2 (y 0) (3840 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact sm_eq x0 x1 x2 (y 0) (y 1)

theorem outB13 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x128.Idx) :
    (out0_B_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = lin x0 x1 x2 (y 0) (3840 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact sm_eq x0 x1 x2 (y 0) (y 1)

end Cert.ProjIdeal.Block

end
-- ==== Proof.ProjBlockKv.lean ====
/- What a step of the input projection leaves in each of its blocks. The turned queries and the keys and values. -/
module

public import proofs.«01_k».proof.Proof.ProjTile
public import proofs.«01_k».proof.Proof.Gen.ProjIdeal.Frame
public import Idealize.ShloMosaic.Lib.Pipeline.ValueKit
public import Idealize.ShloMosaic.Lib.Pipeline.ReadBack

@[expose] public section

set_option maxRecDepth 16384

noncomputable section

namespace Cert.ProjIdeal.Block

open Cert.ProjIdeal Cert.ProjIdeal.Gen Cert.ProjIdeal.Tile Idealize.ShloMosaic

set_option maxHeartbeats 1000000 in
theorem outA7 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : ¬cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x512.Idx) :
    (out0_A_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = turned x0 x1 x2 x3 x4 (y 0) (1024 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S512x512) _ ![512, 128] (by sl_kernel_rfl) _)
  case piece0 =>
    rw [eq_ix2 x]
    refine (qr3 x0 x1 x2 x3 x4 (x 0) (x 1)).trans ?_
    exact congrArg₂ (turned x0 x1 x2 x3 x4) (Fin.ext (by omega)) (by omega)
  case piece1 =>
    rw [eq_ix2 x]
    refine (qr2 x0 x1 x2 x3 x4 (x 0) (x 1)).trans ?_
    exact congrArg₂ (turned x0 x1 x2 x3 x4) (Fin.ext (by omega)) (by omega)
  case piece2 =>
    rw [eq_ix2 x]
    refine (qr1 x0 x1 x2 x3 x4 (x 0) (x 1)).trans ?_
    exact congrArg₂ (turned x0 x1 x2 x3 x4) (Fin.ext (by omega)) (by omega)
  case piece3 =>
    rw [eq_ix2 x]
    refine (qr0 x0 x1 x2 x3 x4 (x 0) (x 1)).trans ?_
    exact congrArg₂ (turned x0 x1 x2 x3 x4) (Fin.ext (by omega)) (by omega)

set_option maxHeartbeats 1000000 in
theorem outB7 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x512.Idx) :
    (out0_B_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = turned x0 x1 x2 x3 x4 (y 0) (1024 + (y 1).val) := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S512x512) _ ![512, 128] (by sl_kernel_rfl) _)
  case piece0 =>
    rw [eq_ix2 x]
    refine (qr3 x0 x1 x2 x3 x4 (x 0) (x 1)).trans ?_
    exact congrArg₂ (turned x0 x1 x2 x3 x4) (Fin.ext (by omega)) (by omega)
  case piece1 =>
    rw [eq_ix2 x]
    refine (qr2 x0 x1 x2 x3 x4 (x 0) (x 1)).trans ?_
    exact congrArg₂ (turned x0 x1 x2 x3 x4) (Fin.ext (by omega)) (by omega)
  case piece2 =>
    rw [eq_ix2 x]
    refine (qr1 x0 x1 x2 x3 x4 (x 0) (x 1)).trans ?_
    exact congrArg₂ (turned x0 x1 x2 x3 x4) (Fin.ext (by omega)) (by omega)
  case piece3 =>
    rw [eq_ix2 x]
    refine (qr0 x0 x1 x2 x3 x4 (x 0) (x 1)).trans ?_
    exact congrArg₂ (turned x0 x1 x2 x3 x4) (Fin.ext (by omega)) (by omega)

theorem outA8 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : ¬cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x512.Idx) :
    (out0_A_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = bKv x0 x1 x2 x3 x4 (y 0) (y 1).val := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S512x512) _ ![512, 128] (by sl_kernel_rfl) _)
  case piece0 =>
    rw [eq_ix2 x]
    refine (kv2 x0 x1 x2 (x 0) (x 1)).trans ?_
    unfold bKv
    rw [if_neg (by omega)]
    exact congrArg₂ (lin x0 x1 x2) (Fin.ext (by omega)) (by omega)
  case piece1 =>
    rw [eq_ix2 x]
    refine (kv1 x0 x1 x2 x3 x4 (x 0) (x 1)).trans ?_
    unfold bKv
    rw [if_pos (by omega)]
    exact congrArg₂ (turned x0 x1 x2 x3 x4) (Fin.ext (by omega)) (by omega)
  case piece2 =>
    rw [eq_ix2 x]
    refine (kv0 x0 x1 x2 (x 0) (x 1)).trans ?_
    unfold bKv
    rw [if_neg (by omega)]
    exact congrArg₂ (lin x0 x1 x2) (Fin.ext (by omega)) (by omega)

theorem outB8 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x512.Idx) :
    (out0_B_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = bKv x0 x1 x2 x3 x4 (y 0) (y 1).val := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S512x512) _ ![512, 128] (by sl_kernel_rfl) _)
  case piece0 =>
    rw [eq_ix2 x]
    refine (kv2 x0 x1 x2 (x 0) (x 1)).trans ?_
    unfold bKv
    rw [if_neg (by omega)]
    exact congrArg₂ (lin x0 x1 x2) (Fin.ext (by omega)) (by omega)
  case piece1 =>
    rw [eq_ix2 x]
    refine (kv1 x0 x1 x2 x3 x4 (x 0) (x 1)).trans ?_
    unfold bKv
    rw [if_pos (by omega)]
    exact congrArg₂ (turned x0 x1 x2 x3 x4) (Fin.ext (by omega)) (by omega)
  case piece2 =>
    rw [eq_ix2 x]
    refine (kv0 x0 x1 x2 (x 0) (x 1)).trans ?_
    unfold bKv
    rw [if_neg (by omega)]
    exact congrArg₂ (lin x0 x1 x2) (Fin.ext (by omega)) (by omega)

theorem outA9 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : ¬cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x256.Idx) :
    (out0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = bWin x0 x1 x2 x3 x4 (y 0) (y 1).val := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S512x256) _ ![512, 128] (by sl_kernel_rfl) _)
  case piece0 =>
    rw [eq_ix2 x]
    refine (wn1 x0 x1 x2 (x 0) (x 1)).trans ?_
    unfold bWin
    rw [if_neg (by omega)]
    exact congrArg₂ (lin x0 x1 x2) (Fin.ext (by omega)) (by omega)
  case piece1 =>
    rw [eq_ix2 x]
    refine (wn0 x0 x1 x2 x3 x4 (x 0) (x 1)).trans ?_
    unfold bWin
    rw [if_pos (by omega)]
    exact congrArg₂ (turned x0 x1 x2 x3 x4) (Fin.ext (by omega)) (by omega)

theorem outB9 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S512x256.Idx) :
    (out0_B_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = bWin x0 x1 x2 x3 x4 (y 0) (y 1).val := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S512x256) _ ![512, 128] (by sl_kernel_rfl) _)
  case piece0 =>
    rw [eq_ix2 x]
    refine (wn1 x0 x1 x2 (x 0) (x 1)).trans ?_
    unfold bWin
    rw [if_neg (by omega)]
    exact congrArg₂ (lin x0 x1 x2) (Fin.ext (by omega)) (by omega)
  case piece1 =>
    rw [eq_ix2 x]
    refine (wn0 x0 x1 x2 x3 x4 (x 0) (x 1)).trans ?_
    unfold bWin
    rw [if_pos (by omega)]
    exact congrArg₂ (turned x0 x1 x2 x3 x4) (Fin.ext (by omega)) (by omega)

end Cert.ProjIdeal.Block

end
-- ==== Proof.ProjBlockT.lean ====
/- What a step of the input projection leaves in each of its blocks. The transposed keys and values. -/
module

public import proofs.«01_k».proof.Proof.ProjTile
public import proofs.«01_k».proof.Proof.Gen.ProjIdeal.Frame
public import Idealize.ShloMosaic.Lib.Pipeline.ValueKit
public import Idealize.ShloMosaic.Lib.Pipeline.ReadBack

@[expose] public section

set_option maxRecDepth 16384

noncomputable section

namespace Cert.ProjIdeal.Block

open Cert.ProjIdeal Cert.ProjIdeal.Gen Cert.ProjIdeal.Tile Idealize.ShloMosaic

set_option maxHeartbeats 1000000 in
theorem outA14 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : ¬cond0_0 i)
    (x0 : Vec Ideal S512x1024 .f32) (x1 : Vec Ideal S1x1024 .f32) (x2 : Vec Ideal S1024x3968 .bf16) (x3 : Vec Ideal S512x128 .f32) (x4 : Vec Ideal S512x128 .f32) (y : S1x1x512x512.Idx) :
    (out0_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = bKv x0 x1 x2 x3 x4 (y 3) (y 2).val := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [View.readCov_eq_canon_ld _ _ _ (fun z => View.cover_of_tiledBy (s := S512x512) _ ![512, 128] (by sl_kernel_rfl) z), View.ld_unit_lit _ _ (by decide)]
  generalize hz : View.canon (Val := Elt Ideal) _ = z
  have hb : ∀ y : S512x512.Idx, (z y : EReal) = bKv x0 x1 x2 x3 x4 (y 0) (y 1).val := by
    intro y
    rw [← hz]
    canon_tiles x h using (View.cover_of_tiledBy (s := S512x512) _ ![512, 128] (by sl_kernel_rfl) _)
    case piece0 =>
      rw [eq_ix2 x]
      refine (kv2 x0 x1 x2 (x 0) (x 1)).trans ?_
      unfold bKv
      rw [if_neg (by omega)]
      exact congrArg₂ (lin x0 x1 x2) (Fin.ext (by omega)) (by omega)
    case piece1 =>
      rw [eq_ix2 x]
      refine (kv1 x0 x1 x2 x3 x4 (x 0) (x 1)).trans ?_
      unfold bKv
      rw [if_pos (by omega)]
      exact congrArg₂ (turned x0 x1 x2 x3 x4) (Fin.ext (by omega)) (by omega)
    case piece2 =>
      rw [eq_ix2 x]
      refine (kv0 x0 x1 x2 (x 0) (x 1)).trans ?_
      unfold bKv
      rw [if_neg (by omega)]
      exact congrArg₂ (lin x0 x1 x2) (Fin.ext (by omega)) (by omega)
  rw [eq_ix4 y]
  pointwise [k0_pay30]
  exact hb _

set_option maxHeartbeats 1000000 in
theorem outB14 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S1x1x512x512.Idx) :
    (out0_B_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = bKv x0 x1 x2 x3 x4 (y 3) (y 2).val := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [View.readCov_eq_canon_ld _ _ _ (fun z => View.cover_of_tiledBy (s := S512x512) _ ![512, 128] (by sl_kernel_rfl) z), View.ld_unit_lit _ _ (by decide)]
  generalize hz : View.canon (Val := Elt Ideal) _ = z
  have hb : ∀ y : S512x512.Idx, (z y : EReal) = bKv x0 x1 x2 x3 x4 (y 0) (y 1).val := by
    intro y
    rw [← hz]
    canon_tiles x h using (View.cover_of_tiledBy (s := S512x512) _ ![512, 128] (by sl_kernel_rfl) _)
    case piece0 =>
      rw [eq_ix2 x]
      refine (kv2 x0 x1 x2 (x 0) (x 1)).trans ?_
      unfold bKv
      rw [if_neg (by omega)]
      exact congrArg₂ (lin x0 x1 x2) (Fin.ext (by omega)) (by omega)
    case piece1 =>
      rw [eq_ix2 x]
      refine (kv1 x0 x1 x2 x3 x4 (x 0) (x 1)).trans ?_
      unfold bKv
      rw [if_pos (by omega)]
      exact congrArg₂ (turned x0 x1 x2 x3 x4) (Fin.ext (by omega)) (by omega)
    case piece2 =>
      rw [eq_ix2 x]
      refine (kv0 x0 x1 x2 (x 0) (x 1)).trans ?_
      unfold bKv
      rw [if_neg (by omega)]
      exact congrArg₂ (lin x0 x1 x2) (Fin.ext (by omega)) (by omega)
  rw [eq_ix4 y]
  pointwise [k0_pay30]
  exact hb _

theorem outB15 (c : Dev nD) (i : grid0.Coords) (arg3 : Memref sig .tc .vmem S512x1024 .f32) (harg3 : arg3.IsWhole) (arg4 : Memref sig .tc .vmem S1x1024 .f32) (harg4 : arg4.IsWhole) (arg5 : Memref sig .tc .vmem S1024x3968 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x256 .f32) (harg12 : arg12.IsWhole) (arg13 : Memref sig .tc .vmem S512x512 .f32) (harg13 : arg13.IsWhole) (arg14 : Memref sig .tc .vmem S512x768 .f32) (harg14 : arg14.IsWhole) (arg15 : Memref sig .tc .vmem S512x256 .f32) (harg15 : arg15.IsWhole) (arg16 : Memref sig .tc .vmem S512x128 .f32) (harg16 : arg16.IsWhole) (arg17 : Memref sig .tc .vmem S1x1x512x512 .f32) (harg17 : arg17.IsWhole) (arg18 : Memref sig .tc .vmem S1x1x256x512 .f32) (harg18 : arg18.IsWhole) (hc0 : cond0_0 i)
    (x0 : Vec Ideal S512x1024 .f32) (x1 : Vec Ideal S1x1024 .f32) (x2 : Vec Ideal S1024x3968 .bf16) (x3 : Vec Ideal S512x128 .f32) (x4 : Vec Ideal S512x128 .f32) (y : S1x1x256x512.Idx) :
    (out0_B_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 y : EReal) = bWin x0 x1 x2 x3 x4 (y 3) (y 2).val := by
  frame_open
  frame_out
  try rw [harg3.read_unread x0]
  try rw [harg4.read_unread x1]
  try rw [harg5.read_unread x2]
  try rw [harg6.read_unread x3]
  try rw [harg7.read_unread x4]
  try rw [View.ld_unit_lit _ x0 (by decide)]
  try rw [View.ld_unit_lit _ x1 (by decide)]
  try rw [View.ld_unit_lit _ x3 (by decide)]
  try rw [View.ld_unit_lit _ x4 (by decide)]
  rw [View.readCov_eq_canon_ld _ _ _ (fun z => View.cover_of_tiledBy (s := S512x256) _ ![512, 128] (by sl_kernel_rfl) z), View.ld_unit_lit _ _ (by decide)]
  generalize hz : View.canon (Val := Elt Ideal) _ = z
  have hb : ∀ y : S512x256.Idx, (z y : EReal) = bWin x0 x1 x2 x3 x4 (y 0) (y 1).val := by
    intro y
    rw [← hz]
    canon_tiles x h using (View.cover_of_tiledBy (s := S512x256) _ ![512, 128] (by sl_kernel_rfl) _)
    case piece0 =>
      rw [eq_ix2 x]
      refine (wn1 x0 x1 x2 (x 0) (x 1)).trans ?_
      unfold bWin
      rw [if_neg (by omega)]
      exact congrArg₂ (lin x0 x1 x2) (Fin.ext (by omega)) (by omega)
    case piece1 =>
      rw [eq_ix2 x]
      refine (wn0 x0 x1 x2 x3 x4 (x 0) (x 1)).trans ?_
      unfold bWin
      rw [if_pos (by omega)]
      exact congrArg₂ (turned x0 x1 x2 x3 x4) (Fin.ext (by omega)) (by omega)
  rw [eq_ix4 y]
  pointwise [k0_pay1]
  exact hb _

end Cert.ProjIdeal.Block

end
-- ==== Proof.ProjArrays.lean ====
/- The projection kernel's eleven result arrays: those of `ProjSpec`. -/
module

public import proofs.«01_k».proof.Proof.ProjTiles
public import proofs.«01_k».proof.Proof.ProjBlockRet
public import proofs.«01_k».proof.Proof.ProjBlockKv
public import proofs.«01_k».proof.Proof.ProjBlockT

@[expose] public section

set_option maxRecDepth 16384

noncomputable section

namespace Cert.ProjIdeal.Arrays

open Cert.ProjIdeal Cert.ProjIdeal.Gen Cert.ProjIdeal.Tile Cert.ProjIdeal.Args Cert.ProjSpec Idealize.ShloMosaic Idealize.ShloMosaic.TcCoe
open Idealize.ShloMosaic.Pipeline (Dat)

variable (m : (ℓ : Loc nD τ sig) → Buf (Elt Ideal) ℓ) (c : Dev nD)

/-- A row of a block among the rows of all batches. -/
def flat (t : Fin cfg0.N) (r : Fin 512) : Fin 32768 := ⟨512 * t.val + r.val, by have := tlt t; omega⟩

theorem bat_flat (t : Fin cfg0.N) (r : Fin 512) : bat (flat t r) = batch t := by
  refine Fin.ext ?_
  show (512 * t.val + r.val) / 2048 = t.val / 4
  omega

theorem pos_flat (t : Fin cfg0.N) (r : Fin 512) : pos (flat t r) = place t r := by
  refine Fin.ext ?_
  show (512 * t.val + r.val) % 2048 = 512 * (t.val % 4) + r.val
  omega

theorem of_flat (f : Fin 16 → Fin 2048 → EReal) (t : Fin cfg0.N) (r : Fin 512) :
    f (batch t) (place t r) = f (bat (flat t r)) (pos (flat t r)) := by rw [bat_flat, pos_flat]

theorem ret_block (t : Fin cfg0.N) (y : S512x1024.Idx) :
    ((outsAt0 m c t.val t.isLt).1 y : EReal) = (data m c).ret (batch t) (place t (y 0)) (y 1).val := by
  have hy : (y 1).val < 1024 := (y 1).isLt
  by_cases h0 : t.val % 4 = 3
  · rw [outsAt0_B m c t h0]
    dsimp only
    rw [Block.outB5]
    exact ret_eq m c t (y 0) (y 1)
  · rw [outsAt0_A m c t h0]
    dsimp only
    rw [Block.outA5]
    exact ret_eq m c t (y 0) (y 1)

/-- Result 0 after the run. -/
theorem result0 : (dats m 0 c).arrAt 5 cfg0.N = (data m c).retArr := by
  refine (dats m 0 c).arrAt_eq_of_covers 5 _ (by decide +kernel) fun t hf y => ?_
  blk_simp
  rw [after0_5]
  refine (ret_block m c t y).trans ((of_flat (fun b p => (data m c).ret b p (y 1).val) t (y 0)).trans ?_)
  show (data m c).retArr (ix2 (flat t (y 0)) (y 1)) = _
  refine congrArg (data m c).retArr ?_
  unfold flat
  blk_ext [idx t]

theorem q_block (t : Fin cfg0.N) (y : S512x512.Idx) :
    ((outsAt0 m c t.val t.isLt).2.1 y : EReal) = (data m c).u (batch t) (place t (y 0)) (1024 + (y 1).val) := by
  have hy : (y 1).val < 512 := (y 1).isLt
  by_cases h0 : t.val % 4 = 3
  · rw [outsAt0_B m c t h0]
    dsimp only
    rw [Block.outB6]
    exact (lin_eq m c t (y 0) (by omega)).trans (src_a _ (by omega))
  · rw [outsAt0_A m c t h0]
    dsimp only
    rw [Block.outA6]
    exact (lin_eq m c t (y 0) (by omega)).trans (src_a _ (by omega))

/-- Result 1 after the run. -/
theorem result1 : (dats m 0 c).arrAt 6 cfg0.N = (data m c).qArr := by
  refine (dats m 0 c).arrAt_eq_of_covers 6 _ (by decide +kernel) fun t hf y => ?_
  blk_simp
  rw [after0_6]
  refine (q_block m c t y).trans ((of_flat (fun b p => (data m c).u b p (1024 + (y 1).val)) t (y 0)).trans ?_)
  show (data m c).qArr (ix2 (flat t (y 0)) (y 1)) = _
  refine congrArg (data m c).qArr ?_
  unfold flat
  blk_ext [idx t]

theorem qr_block (t : Fin cfg0.N) (y : S512x512.Idx) :
    ((outsAt0 m c t.val t.isLt).2.2.1 y : EReal) = (data m c).turn (batch t) (place t (y 0)) (1024 + (y 1).val) := by
  have hy : (y 1).val < 512 := (y 1).isLt
  by_cases h0 : t.val % 4 = 3
  · rw [outsAt0_B m c t h0]
    dsimp only
    rw [Block.outB7]
    exact turned_eq m c t (y 0) (by omega)
  · rw [outsAt0_A m c t h0]
    dsimp only
    rw [Block.outA7]
    exact turned_eq m c t (y 0) (by omega)

/-- Result 2 after the run. -/
theorem result2 : (dats m 0 c).arrAt 7 cfg0.N = (data m c).qrArr := by
  refine (dats m 0 c).arrAt_eq_of_covers 7 _ (by decide +kernel) fun t hf y => ?_
  blk_simp
  rw [after0_7]
  refine (qr_block m c t y).trans ((of_flat (fun b p => (data m c).turn b p (1024 + (y 1).val)) t (y 0)).trans ?_)
  show (data m c).qrArr (ix2 (flat t (y 0)) (y 1)) = _
  refine congrArg (data m c).qrArr ?_
  unfold flat
  blk_ext [idx t]

theorem kv_block (t : Fin cfg0.N) (y : S512x512.Idx) :
    ((outsAt0 m c t.val t.isLt).2.2.2.1 y : EReal) = (data m c).kv (batch t) (place t (y 0)) (y 1).val := by
  have hy : (y 1).val < 512 := (y 1).isLt
  by_cases h0 : t.val % 4 = 3
  · rw [outsAt0_B m c t h0]
    dsimp only
    rw [Block.outB8]
    exact kv_eq m c t (y 0) (y 1)
  · rw [outsAt0_A m c t h0]
    dsimp only
    rw [Block.outA8]
    exact kv_eq m c t (y 0) (y 1)

/-- Result 3 after the run. -/
theorem result3 : (dats m 0 c).arrAt 8 cfg0.N = (data m c).kvArr := by
  refine (dats m 0 c).arrAt_eq_of_covers 8 _ (by decide +kernel) fun t hf y => ?_
  blk_simp
  rw [after0_8]
  refine (kv_block m c t y).trans ((of_flat (fun b p => (data m c).kv b p (y 1).val) t (y 0)).trans ?_)
  show (data m c).kvArr (ix2 (flat t (y 0)) (y 1)) = _
  refine congrArg (data m c).kvArr ?_
  unfold flat
  blk_ext [idx t]

theorem win_block (t : Fin cfg0.N) (y : S512x256.Idx) :
    ((outsAt0 m c t.val t.isLt).2.2.2.2.1 y : EReal) = (data m c).win (batch t) (place t (y 0)) (y 1).val := by
  have hy : (y 1).val < 256 := (y 1).isLt
  by_cases h0 : t.val % 4 = 3
  · rw [outsAt0_B m c t h0]
    dsimp only
    rw [Block.outB9]
    exact win_eq m c t (y 0) (y 1)
  · rw [outsAt0_A m c t h0]
    dsimp only
    rw [Block.outA9]
    exact win_eq m c t (y 0) (y 1)

/-- Result 4 after the run. -/
theorem result4 : (dats m 0 c).arrAt 9 cfg0.N = (data m c).winArr := by
  refine (dats m 0 c).arrAt_eq_of_covers 9 _ (by decide +kernel) fun t hf y => ?_
  blk_simp
  rw [after0_9]
  refine (win_block m c t y).trans ((of_flat (fun b p => (data m c).win b p (y 1).val) t (y 0)).trans ?_)
  show (data m c).winArr (ix2 (flat t (y 0)) (y 1)) = _
  refine congrArg (data m c).winArr ?_
  unfold flat
  blk_ext [idx t]

theorem ng_block (t : Fin cfg0.N) (y : S512x512.Idx) :
    ((outsAt0 m c t.val t.isLt).2.2.2.2.2.1 y : EReal) = (data m c).u (batch t) (place t (y 0)) (2328 + (y 1).val) := by
  have hy : (y 1).val < 512 := (y 1).isLt
  by_cases h0 : t.val % 4 = 3
  · rw [outsAt0_B m c t h0]
    dsimp only
    rw [Block.outB10]
    refine (lin_eq m c t (y 0) (by omega)).trans ((src_b _ (by omega) (by omega)).trans (congrArg _ (by omega)))
  · rw [outsAt0_A m c t h0]
    dsimp only
    rw [Block.outA10]
    refine (lin_eq m c t (y 0) (by omega)).trans ((src_b _ (by omega) (by omega)).trans (congrArg _ (by omega)))

/-- Result 5 after the run. -/
theorem result5 : (dats m 0 c).arrAt 10 cfg0.N = (data m c).ngArr := by
  refine (dats m 0 c).arrAt_eq_of_covers 10 _ (by decide +kernel) fun t hf y => ?_
  blk_simp
  rw [after0_10]
  refine (ng_block m c t y).trans ((of_flat (fun b p => (data m c).u b p (2328 + (y 1).val)) t (y 0)).trans ?_)
  show (data m c).ngArr (ix2 (flat t (y 0)) (y 1)) = _
  refine congrArg (data m c).ngArr ?_
  unfold flat
  blk_ext [idx t]

theorem gq_block (t : Fin cfg0.N) (y : S512x768.Idx) :
    ((outsAt0 m c t.val t.isLt).2.2.2.2.2.2.1 y : EReal) = (data m c).u (batch t) (place t (y 0)) (2840 + (y 1).val) := by
  have hy : (y 1).val < 768 := (y 1).isLt
  by_cases h0 : t.val % 4 = 3
  · rw [outsAt0_B m c t h0]
    dsimp only
    rw [Block.outB11]
    refine (lin_eq m c t (y 0) (by omega)).trans ((src_b _ (by omega) (by omega)).trans (congrArg _ (by omega)))
  · rw [outsAt0_A m c t h0]
    dsimp only
    rw [Block.outA11]
    refine (lin_eq m c t (y 0) (by omega)).trans ((src_b _ (by omega) (by omega)).trans (congrArg _ (by omega)))

/-- Result 6 after the run. -/
theorem result6 : (dats m 0 c).arrAt 11 cfg0.N = (data m c).gqArr := by
  refine (dats m 0 c).arrAt_eq_of_covers 11 _ (by decide +kernel) fun t hf y => ?_
  blk_simp
  rw [after0_11]
  refine (gq_block m c t y).trans ((of_flat (fun b p => (data m c).u b p (2840 + (y 1).val)) t (y 0)).trans ?_)
  show (data m c).gqArr (ix2 (flat t (y 0)) (y 1)) = _
  refine congrArg (data m c).gqArr ?_
  unfold flat
  blk_ext [idx t]

theorem gg_block (t : Fin cfg0.N) (y : S512x256.Idx) :
    ((outsAt0 m c t.val t.isLt).2.2.2.2.2.2.2.1 y : EReal) = (data m c).u (batch t) (place t (y 0)) (3616 + (y 1).val) := by
  have hy : (y 1).val < 256 := (y 1).isLt
  by_cases h0 : t.val % 4 = 3
  · rw [outsAt0_B m c t h0]
    dsimp only
    rw [Block.outB12]
    refine (lin_eq m c t (y 0) (by omega)).trans ((src_c _ (by omega) (by omega)).trans (congrArg _ (by omega)))
  · rw [outsAt0_A m c t h0]
    dsimp only
    rw [Block.outA12]
    refine (lin_eq m c t (y 0) (by omega)).trans ((src_c _ (by omega) (by omega)).trans (congrArg _ (by omega)))

/-- Result 7 after the run. -/
theorem result7 : (dats m 0 c).arrAt 12 cfg0.N = (data m c).ggArr := by
  refine (dats m 0 c).arrAt_eq_of_covers 12 _ (by decide +kernel) fun t hf y => ?_
  blk_simp
  rw [after0_12]
  refine (gg_block m c t y).trans ((of_flat (fun b p => (data m c).u b p (3616 + (y 1).val)) t (y 0)).trans ?_)
  show (data m c).ggArr (ix2 (flat t (y 0)) (y 1)) = _
  refine congrArg (data m c).ggArr ?_
  unfold flat
  blk_ext [idx t]

theorem small_block (t : Fin cfg0.N) (y : S512x128.Idx) :
    ((outsAt0 m c t.val t.isLt).2.2.2.2.2.2.2.2.1 y : EReal) = (data m c).small (batch t) (place t (y 0)) (y 1).val := by
  have hy : (y 1).val < 128 := (y 1).isLt
  by_cases h0 : t.val % 4 = 3
  · rw [outsAt0_B m c t h0]
    dsimp only
    rw [Block.outB13]
    exact small_eq m c t (y 0) (y 1)
  · rw [outsAt0_A m c t h0]
    dsimp only
    rw [Block.outA13]
    exact small_eq m c t (y 0) (y 1)

/-- Result 8 after the run. -/
theorem result8 : (dats m 0 c).arrAt 13 cfg0.N = (data m c).smallArr := by
  refine (dats m 0 c).arrAt_eq_of_covers 13 _ (by decide +kernel) fun t hf y => ?_
  blk_simp
  rw [after0_13]
  refine (small_block m c t y).trans ((of_flat (fun b p => (data m c).small b p (y 1).val) t (y 0)).trans ?_)
  show (data m c).smallArr (ix2 (flat t (y 0)) (y 1)) = _
  refine congrArg (data m c).smallArr ?_
  unfold flat
  blk_ext [idx t]

theorem kvNew_block (t : Fin cfg0.N) (y : S1x1x512x512.Idx) :
    ((outsAt0 m c t.val t.isLt).2.2.2.2.2.2.2.2.2.1 y : EReal) = (data m c).kv (batch t) (place t (y 3)) (y 2).val := by
  by_cases h0 : t.val % 4 = 3
  · rw [outsAt0_B m c t h0]
    dsimp only
    rw [Block.outB14]
    exact kv_eq m c t (y 3) (y 2)
  · rw [outsAt0_A m c t h0]
    dsimp only
    rw [Block.outA14]
    exact kv_eq m c t (y 3) (y 2)

/-- Result 9 after the run: the second layer is written, the first is as it came. -/
theorem result9 : (dats m 0 c).arrAt 14 cfg0.N = (data m c).kvNewArr := by
  refine (dats m 0 c).arrAt_eq_of_coversWhere_of_agree 14 _ (fun β => β (0 : Fin 4) = 1) (by decide +kernel) (fun t hf y => ?_) (fun j hj => ?_)
  · blk_simp
    rw [after0_14]
    refine (kvNew_block m c t y).trans ?_
    show (data m c).kvNewArr (ix4 1 (batch t) (y 2) (place t (y 3))) = _
    refine congrArg (data m c).kvNewArr ?_
    unfold batch place
    blk_ext [idx t]
  · rw [A_eq]
    blk_simp [Pipeline.Window.cell_apply] at hj
    have h0 : (j 0).val < 2 := (j 0).isLt
    have hz : @Eq (Fin 2) (j 0) 0 := Fin.ext (show (j 0).val = 0 by omega)
    have e : (cfg0.win 14).arr.view.emb j = (ix4 0 (j 1) (j 2) (j 3) : (⟨4, ![2, 16, 512, 2048]⟩ : Shape).Idx) :=
      (eq_ix4 _).trans ((ix4_inj _ _ _ _ _ _ _ _).mpr ⟨hz, rfl, rfl, rfl⟩)
    rw [e]
    show V m c main_v31_9 _ = m ((c : Thread nD τ).loc main_arg3) (ix4 0 (j 1) (j 2) (j 3))
    unfold V
    after_reads_at
    rfl

theorem winNew_block (t : Fin cfg0.N) (h : t.val % 4 = 3) (y : S1x1x256x512.Idx) :
    ((outsAt0 m c t.val t.isLt).2.2.2.2.2.2.2.2.2.2 y : EReal) = (data m c).win (batch t) (place t (y 3)) (y 2).val := by
  by_cases h0 : t.val % 4 = 3
  · rw [outsAt0_B m c t h0]
    dsimp only
    rw [Block.outB15]
    exact win_eq m c t (y 3) (y 2)
  · exact absurd h h0

/-- Result 10 after the run: the second layer is written, the first is as it came. -/
theorem result10 : (dats m 0 c).arrAt 15 cfg0.N = (data m c).winNewArr := by
  refine (dats m 0 c).arrAt_eq_of_coversWhere_of_agree 15 _ (fun β => β (0 : Fin 4) = 1) (by decide +kernel) (fun t hf y => ?_) (fun j hj => ?_)
  · blk_simp
    rw [after0_15]
    have h3 : t.val % 4 = 3 := (flush0_15 t).mp hf
    refine (winNew_block m c t h3 y).trans ?_
    have e : place t (y 3) = ⟨1536 + (y 3).val, by have h : (y 3).val < 512 := (y 3).isLt; omega⟩ := Fin.ext (by show 512 * (t.val % 4) + (y 3).val = 1536 + (y 3).val; omega)
    rw [e]
    show (data m c).winNewArr (ix4 1 (batch t) (y 2) (y 3)) = _
    refine congrArg (data m c).winNewArr ?_
    unfold batch
    blk_ext [idx t]
  · rw [A_eq]
    blk_simp [Pipeline.Window.cell_apply] at hj
    have h0 : (j 0).val < 2 := (j 0).isLt
    have hz : @Eq (Fin 2) (j 0) 0 := Fin.ext (show (j 0).val = 0 by omega)
    have e : (cfg0.win 15).arr.view.emb j = (ix4 0 (j 1) (j 2) (j 3) : (⟨4, ![2, 16, 256, 512]⟩ : Shape).Idx) :=
      (eq_ix4 _).trans ((ix4_inj _ _ _ _ _ _ _ _).mpr ⟨hz, rfl, rfl, rfl⟩)
    rw [e]
    show V m c main_v31_10 _ = m ((c : Thread nD τ).loc main_arg4) (ix4 0 (j 1) (j 2) (j 3))
    unfold V
    after_reads_at
    rfl

end Cert.ProjIdeal.Arrays

end
-- ==== Proof.ProjRefRow.lean ====
/- The reference's projection: the normalized rows times the weights, the rotations and the stacked rows. -/
module

public import proofs.«01_k».proof.Proof.ProjSpec
public import proofs.«01_k».proof.Proof.Gen.ProjRefIdeal.Run
public import Idealize.ShloMosaic.Lib.Tactic.CleanTypes

@[expose] public section

set_option maxRecDepth 16384

noncomputable section

namespace Cert.ProjRefIdeal.Row

open Cert.ProjRefIdeal Cert.ProjRefIdeal.Value Cert.ProjSpec Idealize.ShloMosaic Idealize.ShloMosaic.TcCoe

variable (V0 : Valuation τ sig (Elt Ideal))

abbrev aX : S16x2048x1024.Idx → EReal := V0 (Proc.devRef .tc main_arg0)
abbrev aG : S1x1024.Idx → EReal := V0 (Proc.devRef .tc main_arg1)
abbrev aW : S1024x3872.Idx → EReal := V0 (Proc.devRef .tc main_arg2)
abbrev aK : S2x16x512x2048.Idx → EReal := V0 (Proc.devRef .tc main_arg3)
abbrev aN : S2x16x256x512.Idx → EReal := V0 (Proc.devRef .tc main_arg4)

/-- What the arguments hold. -/
def data : Data where
  X b t k := aX V0 (ix3 b t k)
  gain k := aG V0 (ix2 0 k)
  W k j := aW V0 (ix2 k j)
  kvs l b j t := aK V0 (ix4 l b j t)
  wins l b j t := aN V0 (ix4 l b j t)

theorem u_eq (b : Fin 16) (t : Fin 2048) (j : Fin 3872) : res_main_v14 V0 (ix3 b t j) = (data V0).u b t j.val := by
  unfold Data.u
  rw [dif_pos j.isLt]
  unfold res_main_v14
  clean_types
  pointwise [res_main_v0]
  rfl

theorem cos1 (t : Fin 2048) (j : Fin 32) : res_main_v30 V0 (ix3 t 0 j) = cosAt t.val j.val := by
  unfold res_main_v30 res_main_v28
  clean_types
  pointwise [res_main_v0]
  rfl
theorem sin1 (t : Fin 2048) (j : Fin 32) : res_main_v32 V0 (ix3 t 0 j) = sinAt t.val j.val := by
  unfold res_main_v32 res_main_v28
  clean_types
  pointwise [res_main_v0]
  rfl
theorem cos2 (t : Fin 2048) (j : Fin 32) : res_main_v65 V0 (ix3 t 0 j) = cosAt t.val j.val := by
  unfold res_main_v65 res_main_v63
  clean_types
  pointwise [res_main_v0]
  rfl
theorem sin2 (t : Fin 2048) (j : Fin 32) : res_main_v67 V0 (ix3 t 0 j) = sinAt t.val j.val := by
  unfold res_main_v67 res_main_v63
  clean_types
  pointwise [res_main_v0]
  rfl
theorem cos3 (t : Fin 2048) (j : Fin 32) : res_main_v115 V0 (ix3 t 0 j) = cosAt t.val j.val := by
  unfold res_main_v115 res_main_v113
  clean_types
  pointwise [res_main_v0]
  rfl
theorem sin3 (t : Fin 2048) (j : Fin 32) : res_main_v117 V0 (ix3 t 0 j) = sinAt t.val j.val := by
  unfold res_main_v117 res_main_v113
  clean_types
  pointwise [res_main_v0]
  rfl
theorem cos4 (t : Fin 2048) (j : Fin 32) : res_main_v157 V0 (ix3 t 0 j) = cosAt t.val j.val := by
  unfold res_main_v157 res_main_v155
  clean_types
  pointwise [res_main_v0]
  rfl
theorem sin4 (t : Fin 2048) (j : Fin 32) : res_main_v159 V0 (ix3 t 0 j) = sinAt t.val j.val := by
  unfold res_main_v159 res_main_v155
  clean_types
  pointwise [res_main_v0]
  rfl
theorem cos5 (t : Fin 2048) (j : Fin 32) : res_main_v209 V0 (ix3 t 0 j) = cosAt t.val j.val := by
  unfold res_main_v209 res_main_v207
  clean_types
  pointwise [res_main_v0]
  rfl
theorem sin5 (t : Fin 2048) (j : Fin 32) : res_main_v211 V0 (ix3 t 0 j) = sinAt t.val j.val := by
  unfold res_main_v211 res_main_v207
  clean_types
  pointwise [res_main_v0]
  rfl

/-- The stacked rows kept for the whole sequence. -/
theorem rows_at (b : Fin 16) (t : Fin 2048) (i : Fin 4) (h : Fin 2) (j : Fin 64) :
    res_main_v141 V0 (ix5 b t i h j) = (data V0).kv b t (128 * i.val + 64 * h.val + j.val) := by
  unfold res_main_v141 res_main_v119 res_main_v118 res_main_v101 res_main_v95
  clean_types
  pointwise
  simp only [u_eq, cos3, sin3]
  unfold Data.kv
  split
  · rw [if_neg (by omega)]
    exact congrArg _ (by omega)
  · split
    · rw [if_neg (by omega)]
      exact congrArg _ (by omega)
    · split
      · rw [if_pos (by omega)]
        split
        · exact (data V0).turn_lo _ _ (by omega) (by omega) (by omega) rfl (by omega) (by omega)
        · exact (data V0).turn_hi _ _ (by omega) (by omega) (by omega) rfl (by omega) (by omega)
      · rw [if_neg (by omega)]
        exact congrArg _ (by omega)

/-- The stacked rows kept for the window. -/
theorem win_at (b : Fin 16) (t : Fin 2048) (i : Fin 2) (h : Fin 2) (j : Fin 64) :
    res_main_v181 V0 (ix5 b t i h j) = (data V0).win b t (128 * i.val + 64 * h.val + j.val) := by
  unfold res_main_v181 res_main_v161 res_main_v160 res_main_v143 res_main_v95
  clean_types
  pointwise
  simp only [u_eq, cos4, sin4]
  unfold Data.win
  split
  · rw [if_pos (by omega)]
    split
    · exact (data V0).turn_lo _ _ (by omega) (by omega) (by omega) rfl (by omega) (by omega)
    · exact (data V0).turn_hi _ _ (by omega) (by omega) (by omega) rfl (by omega) (by omega)
  · rw [if_neg (by omega)]
    exact congrArg _ (by omega)

end Cert.ProjRefIdeal.Row

end
-- ==== Proof.ProjRefArrays.lean ====
/- The reference's results, entry by entry.  -/
module

public import proofs.«01_k».proof.Proof.ProjRefRow

@[expose] public section

set_option maxRecDepth 16384

noncomputable section

namespace Cert.ProjRefIdeal.Arrays

open Cert.ProjRefIdeal Cert.ProjRefIdeal.Value Cert.ProjRefIdeal.Row Cert.ProjSpec Idealize.ShloMosaic Idealize.ShloMosaic.TcCoe

variable (V0 : Valuation τ sig (Elt Ideal))

theorem q_arr : val5 V0 (Proc.devRef .tc main_v195) = (data V0).qArr := by
  refine (val5_main_v195 V0).trans (funext fun y => ?_)
  idx_vars y
  unfold res_main_v93
  clean_types
  pointwise
  simp only [u_eq]
  rfl

theorem ng_arr : val5 V0 (Proc.devRef .tc main_v233) = (data V0).ngArr := by
  refine (val5_main_v233 V0).trans (funext fun y => ?_)
  idx_vars y
  clean_types
  pointwise
  simp only [u_eq]
  rfl

theorem gq_arr : val5 V0 (Proc.devRef .tc main_v235) = (data V0).gqArr := by
  refine (val5_main_v235 V0).trans (funext fun y => ?_)
  idx_vars y
  clean_types
  pointwise
  simp only [u_eq]
  rfl

theorem gg_arr : val5 V0 (Proc.devRef .tc main_v237) = (data V0).ggArr := by
  refine (val5_main_v237 V0).trans (funext fun y => ?_)
  idx_vars y
  clean_types
  pointwise
  simp only [u_eq]
  rfl

theorem qr_at (D : Data) (r : Fin 32768) (j : Fin 512) : D.turn (bat r) (pos r) (1024 + j.val) = D.qrArr (ix2 r j) := rfl
theorem ret_lo (D : Data) (r : Fin 32768) (j : Fin 1024) (h : j.val < 256) : D.turn (bat r) (pos r) j.val = D.retArr (ix2 r j) :=
  (if_pos h).symm
theorem ret_mid (D : Data) (r : Fin 32768) (j : Fin 1024) (h : ¬j.val < 256) (h' : j.val < 512) :
    D.turn (bat r) (pos r) j.val * Ideal.ofBits .f32 0x3E000000#32 = D.retArr (ix2 r j) := by
  show _ = D.ret (bat r) (pos r) j.val
  rw [Data.ret, if_neg h, if_pos h']
theorem ret_hi (D : Data) (r : Fin 32768) (j : Fin 1024) (h : ¬j.val < 256) (h' : ¬j.val < 512) :
    D.u (bat r) (pos r) j.val = D.retArr (ix2 r j) := by
  show _ = D.ret (bat r) (pos r) j.val
  rw [Data.ret, if_neg h, if_neg h']
theorem small_lo (D : Data) (r : Fin 32768) (j : Fin 128) (h : j.val < 24) : D.u (bat r) (pos r) (2304 + j.val) = D.smallArr (ix2 r j) :=
  (if_pos h).symm
theorem small_mid (D : Data) (r : Fin 32768) (j : Fin 128) (h : ¬j.val < 24) (h' : j.val < 32) :
    D.u (bat r) (pos r) (3584 + j.val) = D.smallArr (ix2 r j) := by
  show _ = D.small (bat r) (pos r) j.val
  rw [Data.small, if_neg h, if_pos h']
theorem small_hi (D : Data) (r : Fin 32768) (j : Fin 128) (h : ¬j.val < 32) : 0 = D.smallArr (ix2 r j) := by
  show _ = D.small (bat r) (pos r) j.val
  rw [Data.small, if_neg (by omega), if_neg h]

set_option maxHeartbeats 1000000 in
theorem qr_arr : val5 V0 (Proc.devRef .tc main_v229) = (data V0).qrArr := by
  refine (val5_main_v229 V0).trans (funext fun y => ?_)
  idx_vars y
  unfold res_main_v212 res_main_v213 res_main_v93
  clean_types
  pointwise
  simp only [u_eq, cos5, sin5]
  refine Eq.trans ?_ (qr_at (data V0) y0 y1)
  split
  · exact (data V0).turn_lo _ _ (by omega) (by omega) (by omega) rfl (by omega) (by omega)
  · exact (data V0).turn_hi _ _ (by omega) (by omega) (by omega) rfl (by omega) (by omega)

set_option maxHeartbeats 2000000 in
theorem ret_arr : val5 V0 (Proc.devRef .tc main_v91) = (data V0).retArr := by
  refine (val5_main_v91 V0).trans (funext fun y => ?_)
  idx_vars y
  unfold res_main_v33 res_main_v34 res_main_v16 res_main_v68 res_main_v69 res_main_v51
  clean_types
  pointwise
  simp only [u_eq, cos1, sin1, cos2, sin2]
  split
  · rename_i h
    refine Eq.trans ?_ (ret_lo (data V0) y0 y1 (by omega))
    split
    · exact (data V0).turn_lo _ _ (by omega) (by omega) (by omega) rfl (by omega) (by omega)
    · exact (data V0).turn_hi _ _ (by omega) (by omega) (by omega) rfl (by omega) (by omega)
  · rename_i h
    split
    · rename_i h'
      refine Eq.trans ?_ (ret_mid (data V0) y0 y1 (by omega) (by omega))
      refine congrArg (· * _) ?_
      split
      · exact (data V0).turn_lo _ _ (by omega) (by omega) (by omega) rfl (by omega) (by omega)
      · exact (data V0).turn_hi _ _ (by omega) (by omega) (by omega) rfl (by omega) (by omega)
    · rename_i h'
      refine Eq.trans ?_ (ret_hi (data V0) y0 y1 (by omega) (by omega))
      exact congrArg _ (by omega)

set_option maxHeartbeats 1000000 in
theorem small_arr : val5 V0 (Proc.devRef .tc main_v238) = (data V0).smallArr := by
  refine (val5_main_v238 V0).trans (funext fun y => ?_)
  idx_vars y
  clean_types
  pointwise
  simp only [u_eq]
  split
  · rename_i h
    split
    · exact small_lo (data V0) y0 y1 (by omega)
    · rename_i h'
      refine Eq.trans ?_ (small_mid (data V0) y0 y1 (by omega) (by omega))
      exact congrArg _ (by omega)
  · refine Eq.trans ?_ (small_hi (data V0) y0 y1 (by omega))
    show (((0#32 : BitVec 32).toInt : ℝ) : EReal) = 0
    simp

theorem kv_arr : val5 V0 (Proc.devRef .tc main_v230) = (data V0).kvArr := by
  refine (val5_main_v230 V0).trans (funext fun y => ?_)
  idx_vars y
  clean_types
  pointwise
  refine (rows_at V0 _ _ _ _ _).trans (congrArg ((data V0).kv _ _) ?_)
  show _ = y1.val
  simp only []
  omega

theorem win_arr : val5 V0 (Proc.devRef .tc main_v231) = (data V0).winArr := by
  refine (val5_main_v231 V0).trans (funext fun y => ?_)
  idx_vars y
  clean_types
  pointwise
  refine (win_at V0 _ _ _ _ _).trans (congrArg ((data V0).win _ _) ?_)
  show _ = y1.val
  simp only []
  omega

end Cert.ProjRefIdeal.Arrays

end
-- ==== Proof.ProjRefStacks.lean ====
/- The reference's two stacks, entry by entry. -/
module

public import proofs.«01_k».proof.Proof.ProjRefRow

@[expose] public section

set_option maxRecDepth 16384

noncomputable section

namespace Cert.ProjRefIdeal.Arrays

open Cert.ProjRefIdeal Cert.ProjRefIdeal.Gen Cert.ProjRefIdeal.Value Cert.ProjRefIdeal.Row Cert.ProjSpec Idealize.ShloMosaic Idealize.ShloMosaic.TcCoe

variable (V0 : Valuation τ sig (Elt Ideal))

/-- The rows stacked head by head, turned to columns. -/
theorem kv_turned (R : FVec Ideal S16x2048x4x2x64 .f32) (l : Fin 1) (b : Fin 16) (j : Fin 512) (t : Fin 2048) :
    transpose S1x16x512x2048 [0, 1, 3, 2] (shapeCast _ R shapeCasts_S16x2048x4x2x64_S1x16x2048x512) transposes_S1x16x2048x512_S1x16x512x2048_0_1_3_2 (ix4 l b j t)
      = R (ix5 b t ⟨j.val / 128, by omega⟩ ⟨j.val / 64 % 2, by omega⟩ ⟨j.val % 64, by omega⟩) := by
  pointwise

/-- The first layer of a stack before a new second one. -/
theorem kv_stack (K : FVec Ideal S2x16x512x2048 .f32) (R : FVec Ideal S1x16x512x2048 .f32) (l : Fin 2) (b : Fin 16) (j : Fin 512) (t : Fin 2048) :
    concatenate S2x16x512x2048 0 [⟨S1x16x512x2048, (extractStridedSlice S1x16x512x2048 ![0, 0, 0, 0] K slices_S2x16x512x2048_S1x16x512x2048_0_0_0_0)⟩, ⟨S1x16x512x2048, R⟩] concatenates_S1x16x512x2048_S1x16x512x2048_S2x16x512x2048_d0 (ix4 l b j t)
      = if h : l.val < 1 then K (ix4 l b j t) else R (ix4 ⟨l.val - 1, by omega⟩ b j t) := by
  pointwise

theorem kvNew_old (D : Data) {l : Fin 2} (h : l.val < 1) (b : Fin 16) (j : Fin 512) (t : Fin 2048) : D.kvNewArr (ix4 l b j t) = D.kvs l b j t := by
  have e : l = 0 := Fin.ext (by show l.val = 0; omega)
  subst e
  show D.kvNew 0 b j t = _
  rw [Data.kvNew, if_pos rfl]

theorem kvNew_new (D : Data) {l : Fin 2} (h : ¬l.val < 1) (b : Fin 16) (j : Fin 512) (t : Fin 2048) :
    D.kvNewArr (ix4 l b j t) = D.kv b t j.val :=
  if_neg fun e => h (by rw [show l = 0 from e]; decide)

theorem kvNew_at (l : Fin 2) (b : Fin 16) (j : Fin 512) (t : Fin 2048) :
    concatenate S2x16x512x2048 0 [⟨S1x16x512x2048, (extractStridedSlice S1x16x512x2048 ![0, 0, 0, 0] (V0 (Proc.devRef .tc main_arg3)) slices_S2x16x512x2048_S1x16x512x2048_0_0_0_0)⟩, ⟨S1x16x512x2048, (transpose S1x16x512x2048 [0, 1, 3, 2] (shapeCast _ (res_main_v141 V0) shapeCasts_S16x2048x4x2x64_S1x16x2048x512) transposes_S1x16x2048x512_S1x16x512x2048_0_1_3_2)⟩] concatenates_S1x16x512x2048_S1x16x512x2048_S2x16x512x2048_d0 (ix4 l b j t)
      = (data V0).kvNewArr (ix4 l b j t) := by
  refine (kv_stack _ _ l b j t).trans ?_
  split
  · rename_i h
    exact (kvNew_old (data V0) h b j t).symm
  · rename_i h
    refine Eq.trans ?_ (kvNew_new (data V0) h b j t).symm
    refine (kv_turned _ _ b j t).trans ?_
    refine (rows_at V0 b t _ _ _).trans (congrArg ((data V0).kv _ _) ?_)
    show _ = j.val
    simp only []
    omega

theorem kvNew_arr : val5 V0 (Proc.devRef .tc main_v190) = (data V0).kvNewArr := by
  refine (val5_main_v190 V0).trans (funext fun y => ?_)
  idx_vars y
  exact kvNew_at V0 y0 y1 y2 y3

/-- The rows stacked head by head, turned to columns. -/
theorem win_turned (R : FVec Ideal S16x512x2x2x64 .f32) (l : Fin 1) (b : Fin 16) (j : Fin 256) (t : Fin 512) :
    transpose S1x16x256x512 [0, 1, 3, 2] (shapeCast _ R shapeCasts_S16x512x2x2x64_S1x16x512x256) transposes_S1x16x512x256_S1x16x256x512_0_1_3_2 (ix4 l b j t)
      = R (ix5 b t ⟨j.val / 128, by omega⟩ ⟨j.val / 64 % 2, by omega⟩ ⟨j.val % 64, by omega⟩) := by
  pointwise

/-- The first layer of a stack before a new second one. -/
theorem win_stack (K : FVec Ideal S2x16x256x512 .f32) (R : FVec Ideal S1x16x256x512 .f32) (l : Fin 2) (b : Fin 16) (j : Fin 256) (t : Fin 512) :
    concatenate S2x16x256x512 0 [⟨S1x16x256x512, (extractStridedSlice S1x16x256x512 ![0, 0, 0, 0] K slices_S2x16x256x512_S1x16x256x512_0_0_0_0)⟩, ⟨S1x16x256x512, R⟩] concatenates_S1x16x256x512_S1x16x256x512_S2x16x256x512_d0 (ix4 l b j t)
      = if h : l.val < 1 then K (ix4 l b j t) else R (ix4 ⟨l.val - 1, by omega⟩ b j t) := by
  pointwise

theorem winNew_old (D : Data) {l : Fin 2} (h : l.val < 1) (b : Fin 16) (j : Fin 256) (t : Fin 512) : D.winNewArr (ix4 l b j t) = D.wins l b j t := by
  have e : l = 0 := Fin.ext (by show l.val = 0; omega)
  subst e
  show D.winNew 0 b j t = _
  rw [Data.winNew, if_pos rfl]

theorem winNew_new (D : Data) {l : Fin 2} (h : ¬l.val < 1) (b : Fin 16) (j : Fin 256) (t : Fin 512) :
    D.winNewArr (ix4 l b j t) = D.win b ⟨1536 + t.val, by omega⟩ j.val :=
  if_neg fun e => h (by rw [show l = 0 from e]; decide)

theorem winNew_at (l : Fin 2) (b : Fin 16) (j : Fin 256) (t : Fin 512) :
    concatenate S2x16x256x512 0 [⟨S1x16x256x512, (extractStridedSlice S1x16x256x512 ![0, 0, 0, 0] (V0 (Proc.devRef .tc main_arg4)) slices_S2x16x256x512_S1x16x256x512_0_0_0_0)⟩, ⟨S1x16x256x512, (transpose S1x16x256x512 [0, 1, 3, 2] (shapeCast _ (extractStridedSlice S16x512x2x2x64 ![0, 1536, 0, 0, 0] (res_main_v181 V0) slices_S16x2048x2x2x64_S16x512x2x2x64_0_1536_0_0_0) shapeCasts_S16x512x2x2x64_S1x16x512x256) transposes_S1x16x512x256_S1x16x256x512_0_1_3_2)⟩] concatenates_S1x16x256x512_S1x16x256x512_S2x16x256x512_d0 (ix4 l b j t)
      = (data V0).winNewArr (ix4 l b j t) := by
  refine (win_stack _ _ l b j t).trans ?_
  split
  · rename_i h
    exact (winNew_old (data V0) h b j t).symm
  · rename_i h
    refine Eq.trans ?_ (winNew_new (data V0) h b j t).symm
    refine (win_turned _ _ b j t).trans ?_
    refine Eq.trans (show extractStridedSlice S16x512x2x2x64 ![0, 1536, 0, 0, 0] (res_main_v181 V0) slices_S16x2048x2x2x64_S16x512x2x2x64_0_1536_0_0_0 (ix5 b t ⟨j.val / 128, by omega⟩ ⟨j.val / 64 % 2, by omega⟩ ⟨j.val % 64, by omega⟩) = res_main_v181 V0 (ix5 b ⟨1536 + t.val, by omega⟩ ⟨j.val / 128, by omega⟩ ⟨j.val / 64 % 2, by omega⟩ ⟨j.val % 64, by omega⟩) from (by pointwise)) ?_
    refine (win_at V0 b _ _ _ _).trans (congrArg ((data V0).win _ _) ?_)
    show _ = j.val
    simp only []
    omega

theorem winNew_arr : val5 V0 (Proc.devRef .tc main_v194) = (data V0).winNewArr := by
  refine (val5_main_v194 V0).trans (funext fun y => ?_)
  idx_vars y
  exact winNew_at V0 y0 y1 y2 y3

end Cert.ProjRefIdeal.Arrays

end
-- ==== Proof.ProjClaim.lean ====
/- The projection's claims: the reference's run, and the eleven results of the kernel and of the reference. -/
module

public import proofs.«01_k».proof.Defs
public import proofs.«01_k».proof.Proof.ProjArrays
public import proofs.«01_k».proof.Proof.ProjRefArrays
public import proofs.«01_k».proof.Proof.ProjRefStacks

@[expose] public section

noncomputable section

namespace Cert.Proof.Proj

open Idealize.ShloMosaic Idealize.SL.Sem

/-- The reference's run leaves every counter at zero. -/
theorem frame_ref : Cert.quiescent_ProjRefIdeal := fun m ρ _ =>
  (θ_run Cert.ProjRefIdeal.defs _ _).mono
    (fun r h => ⟨fun c => (h c).2.2.2.2.2.2.2.2.2.2.2, Idealize.ShloMosaic.sem_eq_zero_of_no_sems (by decide) r.2⟩)
    (Cert.ProjRefIdeal.Value.run (F := Ideal) m ρ)

/-- Over the reals the kernel's eleven results are the reference's. -/
theorem algebraic : Cert.algebraic_ProjIdeal_ProjRefIdeal := by
  intro m ρ m' ρ' _ hagree
  have e : ∀ c, Cert.ProjRefIdeal.Row.data (StableHlo.launchContents m' c) = Cert.ProjIdeal.Args.data m c := fun c => by
    obtain ⟨h0, h1, h2, h3, h4⟩ := hagree c
    unfold Cert.ProjIdeal.Args.data Cert.ProjIdeal.Args.aX Cert.ProjIdeal.Args.aG Cert.ProjIdeal.Args.aW Cert.ProjIdeal.Args.aK Cert.ProjIdeal.Args.aN
    rw [← h0, ← h1, ← h2, ← h3, ← h4]
    rfl
  refine ⟨_, _, _, _, _, _, _, _, _, _, _, (θ_run _ _ _).mono (fun _ h c => ⟨((h c).1).trans (Cert.ProjIdeal.Arrays.result0 m c),
    ((h c).2.1).trans (Cert.ProjIdeal.Arrays.result1 m c),
    ((h c).2.2.1).trans (Cert.ProjIdeal.Arrays.result2 m c),
    ((h c).2.2.2.1).trans (Cert.ProjIdeal.Arrays.result3 m c),
    ((h c).2.2.2.2.1).trans (Cert.ProjIdeal.Arrays.result4 m c),
    ((h c).2.2.2.2.2.1).trans (Cert.ProjIdeal.Arrays.result5 m c),
    ((h c).2.2.2.2.2.2.1).trans (Cert.ProjIdeal.Arrays.result6 m c),
    ((h c).2.2.2.2.2.2.2.1).trans (Cert.ProjIdeal.Arrays.result7 m c),
    ((h c).2.2.2.2.2.2.2.2.1).trans (Cert.ProjIdeal.Arrays.result8 m c),
    ((h c).2.2.2.2.2.2.2.2.2.1).trans (Cert.ProjIdeal.Arrays.result9 m c),
    ((h c).2.2.2.2.2.2.2.2.2.2.1).trans (Cert.ProjIdeal.Arrays.result10 m c),
    (h c).2.2.2.2.2.2.2.2.2.2.2⟩) (Cert.ProjIdeal.Value.run_blocks m ρ), ?_⟩
  exact (θ_run _ _ _).mono (fun _ h c => ⟨((h c).1).trans ((Cert.ProjRefIdeal.Value.val5_main_v91 _).symm.trans ((Cert.ProjRefIdeal.Arrays.ret_arr _).trans (congrArg Cert.ProjSpec.Data.retArr (e c)))),
    ((h c).2.1).trans ((Cert.ProjRefIdeal.Value.val5_main_v195 _).symm.trans ((Cert.ProjRefIdeal.Arrays.q_arr _).trans (congrArg Cert.ProjSpec.Data.qArr (e c)))),
    ((h c).2.2.1).trans ((Cert.ProjRefIdeal.Value.val5_main_v229 _).symm.trans ((Cert.ProjRefIdeal.Arrays.qr_arr _).trans (congrArg Cert.ProjSpec.Data.qrArr (e c)))),
    ((h c).2.2.2.1).trans ((Cert.ProjRefIdeal.Value.val5_main_v230 _).symm.trans ((Cert.ProjRefIdeal.Arrays.kv_arr _).trans (congrArg Cert.ProjSpec.Data.kvArr (e c)))),
    ((h c).2.2.2.2.1).trans ((Cert.ProjRefIdeal.Value.val5_main_v231 _).symm.trans ((Cert.ProjRefIdeal.Arrays.win_arr _).trans (congrArg Cert.ProjSpec.Data.winArr (e c)))),
    ((h c).2.2.2.2.2.1).trans ((Cert.ProjRefIdeal.Value.val5_main_v233 _).symm.trans ((Cert.ProjRefIdeal.Arrays.ng_arr _).trans (congrArg Cert.ProjSpec.Data.ngArr (e c)))),
    ((h c).2.2.2.2.2.2.1).trans ((Cert.ProjRefIdeal.Value.val5_main_v235 _).symm.trans ((Cert.ProjRefIdeal.Arrays.gq_arr _).trans (congrArg Cert.ProjSpec.Data.gqArr (e c)))),
    ((h c).2.2.2.2.2.2.2.1).trans ((Cert.ProjRefIdeal.Value.val5_main_v237 _).symm.trans ((Cert.ProjRefIdeal.Arrays.gg_arr _).trans (congrArg Cert.ProjSpec.Data.ggArr (e c)))),
    ((h c).2.2.2.2.2.2.2.2.1).trans ((Cert.ProjRefIdeal.Value.val5_main_v238 _).symm.trans ((Cert.ProjRefIdeal.Arrays.small_arr _).trans (congrArg Cert.ProjSpec.Data.smallArr (e c)))),
    ((h c).2.2.2.2.2.2.2.2.2.1).trans ((Cert.ProjRefIdeal.Value.val5_main_v190 _).symm.trans ((Cert.ProjRefIdeal.Arrays.kvNew_arr _).trans (congrArg Cert.ProjSpec.Data.kvNewArr (e c)))),
    ((h c).2.2.2.2.2.2.2.2.2.2.1).trans ((Cert.ProjRefIdeal.Value.val5_main_v194 _).symm.trans ((Cert.ProjRefIdeal.Arrays.winNew_arr _).trans (congrArg Cert.ProjSpec.Data.winNewArr (e c)))),
    (h c).2.2.2.2.2.2.2.2.2.2.2⟩) (Cert.ProjRefIdeal.Value.run m' ρ')

end Cert.Proof.Proj

end
-- ==== Proof.OutSpec.lean ====
/- The mathematics of the output projection: the three branches side by side, times the weights, normalized, and added to the
   layer's input. -/
module

public import Idealize.ShloMosaic.Lib.Pointwise

@[expose] public section

noncomputable section

namespace Cert.OutSpec

open Idealize.ShloMosaic

/-- The gate `x / (1 + exp (-x))`. -/
def silu (x : EReal) : EReal := x * Ideal.logistic x

/-- The arguments: the layer's input, the outputs of the three branches, the second one's gate, the weights and the
   gain, for `B` batches of `T` positions. -/
structure Data (B T : ℕ) where
  X : Fin B → Fin T → Fin 1024 → EReal
  ro : Fin B → Fin T → Fin 256 → EReal
  no : Fin B → Fin T → Fin 512 → EReal
  ng : Fin B → Fin T → Fin 512 → EReal
  go : Fin B → Fin T → Fin 256 → EReal
  W : Fin 1024 → Fin 1024 → EReal
  gain : Fin 1024 → EReal

/-- The batch and the position of a row of the flattened batch. -/
def bat (r : Fin 32768) : Fin 16 := ⟨r.val / 2048, by omega⟩
@[inherit_doc bat] def pos (r : Fin 32768) : Fin 2048 := ⟨r.val % 2048, Nat.mod_lt _ (by decide)⟩

/-- The row of a batch's position in the flattened batch. -/
def rowOf (b : Fin 16) (t : Fin 2048) : Fin 32768 := ⟨b.val * 2048 + t.val, by omega⟩

/-- The same for the sample's 32 batches of 8 positions. -/
def sbat (r : Fin 256) : Fin 32 := ⟨r.val / 8, by omega⟩
@[inherit_doc sbat] def spos (r : Fin 256) : Fin 8 := ⟨r.val % 8, Nat.mod_lt _ (by decide)⟩
@[inherit_doc sbat] def srow (b : Fin 32) (t : Fin 8) : Fin 256 := ⟨b.val * 8 + t.val, by omega⟩

/-- A sum over 1024 columns, those of the three branches in turn. -/
theorem sum_split (f : Fin 1024 → EReal) :
    ∑ k, f k = (∑ k : Fin 256, f ⟨k.val, by omega⟩) + (∑ k : Fin 512, f ⟨256 + k.val, by omega⟩) + ∑ k : Fin 256, f ⟨768 + k.val, by omega⟩ := by
  refine (Fin.sum_univ_add (a := 768) (b := 256) f).trans (congrArg (· + _) ?_)
  exact Fin.sum_univ_add (a := 256) (b := 512) fun k => f (Fin.castAdd 256 k)

/-- A row normalized, times the gain, added to `x`. -/
def joined (x : EReal) (z : Fin 1024 → EReal) (g : EReal) (j : Fin 1024) : EReal :=
  x + z j * Ideal.rsqrt (Ideal.div (∑ i, z i * z i) (Ideal.ofBits .f32 0x44800000#32) + Ideal.ofBits .f32 0x358637BD#32) * g

namespace Data

variable {B T : ℕ} (D : Data B T)

/-- The three branches of a position side by side. -/
def mix (b : Fin B) (t : Fin T) (k : Fin 1024) : EReal :=
  if h : k.val < 256 then D.ro b t ⟨k.val, h⟩
  else if h' : k.val < 768 then D.no b t ⟨k.val - 256, by omega⟩ * silu (D.ng b t ⟨k.val - 256, by omega⟩)
  else D.go b t ⟨k.val - 768, by omega⟩

/-- Their projection. -/
def z (b : Fin B) (t : Fin T) (j : Fin 1024) : EReal := ∑ k, D.mix b t k * D.W k j

/-- The layer's output. -/
def out (b : Fin B) (t : Fin T) (j : Fin 1024) : EReal := joined (D.X b t j) (D.z b t) (D.gain j) j

/-- It as an array, for the prompt and for the sample. -/
def outArr (D : Data 16 2048) : Shape.Idx ⟨2, ![32768, 1024]⟩ → EReal := fun y => D.out (bat (y 0)) (pos (y 0)) (y 1)
@[inherit_doc outArr] def outArrS (D : Data 32 8) : Shape.Idx ⟨2, ![256, 1024]⟩ → EReal := fun y => D.out (sbat (y 0)) (spos (y 0)) (y 1)

theorem z_split (b : Fin B) (t : Fin T) (j : Fin 1024) :
    D.z b t j = (∑ k : Fin 256, D.ro b t k * D.W ⟨k.val, by omega⟩ j)
      + (∑ k : Fin 512, D.no b t k * silu (D.ng b t k) * D.W ⟨256 + k.val, by omega⟩ j)
      + ∑ k : Fin 256, D.go b t k * D.W ⟨768 + k.val, by omega⟩ j := by
  unfold z
  rw [sum_split]
  refine congr (congrArg _ (congr (congrArg _ (Finset.sum_congr rfl fun k _ => ?_)) (Finset.sum_congr rfl fun k _ => ?_)))
    (Finset.sum_congr rfl fun k _ => ?_)
  · rw [mix, dif_pos (show k.val < 256 from k.isLt)]
  · rw [mix, dif_neg (show ¬256 + k.val < 256 by omega), dif_pos (show 256 + k.val < 768 by omega)]
    have e : ∀ h, (⟨256 + k.val - 256, h⟩ : Fin 512) = k := fun h => Fin.ext (by show 256 + k.val - 256 = k.val; omega)
    rw [e]
  · rw [mix, dif_neg (show ¬768 + k.val < 256 by omega), dif_neg (show ¬768 + k.val < 768 by omega)]
    have e : ∀ h, (⟨768 + k.val - 768, h⟩ : Fin 256) = k := fun h => Fin.ext (by show 768 + k.val - 768 = k.val; omega)
    rw [e]

end Data

end Cert.OutSpec

end
-- ==== Proof.OutTile.lean ====
/- The output projection's step of 512 rows: the block it stores, entry by entry. -/
module

public import proofs.«01_k».proof.Proof.OutSpec
public import proofs.«01_k».proof.Proof.Gen.OutIdeal.Value
public import Idealize.ShloMosaic.Lib.Pipeline.ValueKit

@[expose] public section

set_option maxRecDepth 16384

noncomputable section

namespace Cert.OutIdeal.Tile

open Cert.OutIdeal Cert.OutIdeal.Gen Cert.OutSpec Idealize.ShloMosaic

variable (x0 : Vec Ideal S512x1024 .f32) (x1 : Vec Ideal S512x256 .f32) (x2 x3 : Vec Ideal S512x512 .f32) (x4 : Vec Ideal S512x256 .f32)
  (x5 : Vec Ideal S1024x1024 .bf16) (x6 : Vec Ideal S1x1024 .f32)

/-- The tile's projected row. -/
def z (r : Fin 512) (j : Fin 1024) : EReal :=
  (∑ k : Fin 256, (x1 (ix2 r k) : EReal) * (x5 (ix2 ⟨k.val, by omega⟩ j) : EReal))
    + (∑ k : Fin 512, (x2 (ix2 r k) : EReal) * silu (x3 (ix2 r k)) * (x5 (ix2 ⟨256 + k.val, by omega⟩ j) : EReal))
    + ∑ k : Fin 256, (x4 (ix2 r k) : EReal) * (x5 (ix2 ⟨768 + k.val, by omega⟩ j) : EReal)

theorem pay_eq (r : Fin 512) (j : Fin 1024) :
    (k0_pay1 (k0_pay2 x0) (k0_pay3 x2 x3 x1 (View.ld x5 r0_2) (View.ld x5 r0_3) x4 (View.ld x5 r0_4)) x6 (ix2 r j) : EReal)
      = joined (x0 (ix2 r j)) (z x1 x2 x3 x4 x5 r) (x6 (ix2 0 j)) j := by
  pointwise [k0_pay1, k0_pay2, k0_pay3]
  rfl

theorem out_eq (y : S512x1024.Idx) :
    (out0_7 x0 x1 x2 x3 x4 x5 x6 y : EReal) = joined (x0 y) (z x1 x2 x3 x4 x5 (y 0)) (x6 (ix2 0 (y 1))) (y 1) := by
  unfold out0_7
  rw [View.ld_unit_lit _ x0 (by decide), View.ld_unit_lit _ x1 (by decide), View.ld_unit_lit _ x2 (by decide),
    View.ld_unit_lit _ x3 (by decide), View.ld_unit_lit _ x4 (by decide), View.ld_unit_lit _ x6 (by decide)]
  canon_tiles x h using (cover0_7 _ _)
  rw [eq_ix2 x]
  refine Eq.trans ?_ (congrArg (fun y : S512x1024.Idx => joined (x0 y) (z x1 x2 x3 x4 x5 (y 0)) (x6 (ix2 0 (y 1))) (y 1))
    (show ix2 (x 0) (x 1) = y from by rw [eq_ix2 y]; exact (ix2_inj _ _ _ _).mpr ⟨Fin.ext (by omega), Fin.ext (by omega)⟩))
  exact pay_eq x0 x1 x2 x3 x4 x5 x6 (x 0) (x 1)

end Cert.OutIdeal.Tile

end
-- ==== Proof.OutArrays.lean ====
/- The output projection's result array: that of `OutSpec`. -/
module

public import proofs.«01_k».proof.Proof.OutTile
public import Idealize.ShloMosaic.Lib.StableHlo.ReadAt
public import Idealize.ShloMosaic.Lib.Tactic.CleanTypes

@[expose] public section

set_option maxRecDepth 16384

noncomputable section

namespace Cert.OutIdeal.Arrays

open Cert.OutIdeal Cert.OutIdeal.Gen Cert.OutSpec Idealize.ShloMosaic Idealize.ShloMosaic.TcCoe
open Idealize.ShloMosaic.Pipeline (Dat)

variable (m : (ℓ : Loc nD τ sig) → Buf (Elt Ideal) ℓ) (c : Dev nD)

abbrev aX : S16x2048x1024.Idx → EReal := m ((c : Thread nD τ).loc main_arg0)
abbrev aR : S16x2048x256.Idx → EReal := m ((c : Thread nD τ).loc main_arg1)
abbrev aN : S16x2048x512.Idx → EReal := m ((c : Thread nD τ).loc main_arg2)
abbrev aG : S32768x512.Idx → EReal := m ((c : Thread nD τ).loc main_arg3)
abbrev aD : S16x2048x256.Idx → EReal := m ((c : Thread nD τ).loc main_arg4)
abbrev aW : S1024x1024.Idx → EReal := m ((c : Thread nD τ).loc main_arg5)
abbrev aS : S1x1024.Idx → EReal := m ((c : Thread nD τ).loc main_arg6)

/-- What the arguments hold. -/
def data : Data 16 2048 where
  X b t k := aX m c (ix3 b t k)
  ro b t k := aR m c (ix3 b t k)
  no b t k := aN m c (ix3 b t k)
  ng b t k := aG m c (ix2 (rowOf b t) k)
  go b t k := aD m c (ix3 b t k)
  W k j := aW m c (ix2 k j)
  gain j := aS m c (ix2 0 j)

/-- The blocks a grid point's windows stand at. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![0, 0] ∧ win0_7.index t = ![t.val, 0] := by decide +kernel

theorem tlt (t : Fin cfg0.N) : t.val < 64 := t.isLt.trans_eq (show cfg0.N = 64 from N_0)

/-- A row of a block among the rows of all batches. -/
def flat (t : Fin cfg0.N) (r : Fin 512) : Fin 32768 := ⟨512 * t.val + r.val, by have := tlt t; omega⟩

theorem x_at (t : Fin cfg0.N) (r : Fin 512) (k : Fin 1024) : iblk m c 0 t (ix2 r k) = (data m c).X (bat (flat t r)) (pos (flat t r)) k := by
  have e : iblk m c 0 t (ix2 r k) = V m c main_v0 (ix2 (flat t r) k) := by
    unfold flat
    blk_ext [iblk, idx t]
  rw [e]
  unfold V
  after_reads_at
  rfl

theorem ro_at (t : Fin cfg0.N) (r : Fin 512) (k : Fin 256) : iblk m c 1 t (ix2 r k) = (data m c).ro (bat (flat t r)) (pos (flat t r)) k := by
  have e : iblk m c 1 t (ix2 r k) = V m c main_v1 (ix2 (flat t r) k) := by
    unfold flat
    blk_ext [iblk, idx t]
  rw [e]
  unfold V
  after_reads_at
  rfl

theorem no_at (t : Fin cfg0.N) (r : Fin 512) (k : Fin 512) : iblk m c 2 t (ix2 r k) = (data m c).no (bat (flat t r)) (pos (flat t r)) k := by
  have e : iblk m c 2 t (ix2 r k) = V m c main_v2 (ix2 (flat t r) k) := by
    unfold flat
    blk_ext [iblk, idx t]
  rw [e]
  unfold V
  after_reads_at
  rfl

theorem go_at (t : Fin cfg0.N) (r : Fin 512) (k : Fin 256) : iblk m c 4 t (ix2 r k) = (data m c).go (bat (flat t r)) (pos (flat t r)) k := by
  have e : iblk m c 4 t (ix2 r k) = V m c main_v3 (ix2 (flat t r) k) := by
    unfold flat
    blk_ext [iblk, idx t]
  rw [e]
  unfold V
  after_reads_at
  rfl

theorem row_flat (r : Fin 32768) : rowOf (bat r) (pos r) = r := by
  refine Fin.ext ?_
  show r.val / 2048 * 2048 + r.val % 2048 = r.val
  omega

theorem ng_at (t : Fin cfg0.N) (r : Fin 512) (k : Fin 512) : iblk m c 3 t (ix2 r k) = (data m c).ng (bat (flat t r)) (pos (flat t r)) k := by
  show _ = aG m c (ix2 (rowOf _ _) k)
  rw [row_flat]
  show _ = m ((c : Thread nD τ).loc main_arg3) (ix2 (flat t r) k)
  unfold flat
  blk_ext [iblk, V, idx t]

theorem w_at (t : Fin cfg0.N) (k j : Fin 1024) : iblk m c 5 t (ix2 k j) = (data m c).W k j := by
  have e : iblk m c 5 t (ix2 k j) = V m c main_v4 (ix2 k j) := by blk_ext [iblk, idx t]
  rw [e]
  unfold V
  after_reads_at
  rfl

theorem g_at (t : Fin cfg0.N) (j : Fin 1024) : iblk m c 6 t (ix2 0 j) = (data m c).gain j := by
  show _ = m ((c : Thread nD τ).loc main_arg6) (ix2 0 j)
  blk_ext [iblk, V, idx t]

theorem block (t : Fin cfg0.N) (y : S512x1024.Idx) :
    (out0_7 (iblk m c 0 t) (iblk m c 1 t) (iblk m c 2 t) (iblk m c 3 t) (iblk m c 4 t) (iblk m c 5 t) (iblk m c 6 t) y : EReal)
      = (data m c).outArr (ix2 (flat t (y 0)) (y 1)) := by
  rw [Tile.out_eq]
  show _ = (data m c).out (bat (flat t (y 0))) (pos (flat t (y 0))) (y 1)
  unfold Data.out
  have hz : ∀ j, Tile.z (iblk m c 1 t) (iblk m c 2 t) (iblk m c 3 t) (iblk m c 4 t) (iblk m c 5 t) (y 0) j
      = (data m c).z (bat (flat t (y 0))) (pos (flat t (y 0))) j := fun j => by
    rw [Data.z_split]
    unfold Tile.z
    refine congr (congrArg _ (congr (congrArg _ (Finset.sum_congr rfl fun k _ => ?_)) (Finset.sum_congr rfl fun k _ => ?_)))
      (Finset.sum_congr rfl fun k _ => ?_)
    · exact congr (congrArg _ (ro_at m c t (y 0) k)) (w_at m c t _ j)
    · exact congr (congrArg _ (congr (congrArg _ (no_at m c t (y 0) k)) (congrArg silu (ng_at m c t (y 0) k)))) (w_at m c t _ j)
    · exact congr (congrArg _ (go_at m c t (y 0) k)) (w_at m c t _ j)
  rw [← x_at m c t (y 0) (y 1), ← g_at m c t (y 1), funext hz]
  conv_lhs => rw [eq_ix2 y]
  rfl

/-- The result after the run. -/
theorem result : (dats m 0 c).arrAt 7 cfg0.N = (data m c).outArr := by
  refine (dats m 0 c).arrAt_eq_of_covers 7 _ (by decide +kernel) fun t hf y => ?_
  blk_simp
  rw [after0_7]
  refine (block m c t y).trans ?_
  refine congrArg (data m c).outArr ?_
  unfold flat
  blk_ext [idx t]

end Cert.OutIdeal.Arrays

end
-- ==== Proof.OutRef.lean ====
/- The output projection's reference, in the terms of `OutSpec`. -/
module

public import proofs.«01_k».proof.Proof.OutSpec
public import proofs.«01_k».proof.Proof.Gen.OutRefIdeal.Run
public import Idealize.ShloMosaic.Lib.Tactic.CleanTypes

@[expose] public section

set_option maxRecDepth 16384

noncomputable section

namespace Cert.OutRefIdeal.Ref

open Cert.OutRefIdeal Cert.OutRefIdeal.Gen Cert.OutSpec Idealize.ShloMosaic

variable (X : FVec Ideal S16x2048x1024 .f32) (ro : FVec Ideal S16x2048x256 .f32) (no : FVec Ideal S16x2048x512 .f32)
  (ng : FVec Ideal S32768x512 .f32) (go : FVec Ideal S16x2048x256 .f32) (W : FVec Ideal S1024x1024 .f32) (g : FVec Ideal S1x1024 .f32)

/-- What the arguments hold. -/
def data : Data 16 2048 where
  X b t k := X (ix3 b t k)
  ro b t k := ro (ix3 b t k)
  no b t k := no (ix3 b t k)
  ng b t k := ng (ix2 (rowOf b t) k)
  go b t k := go (ix3 b t k)
  W k j := W (ix2 k j)
  gain j := g (ix2 0 j)

/-- The second branch, gated. -/
def gated : FVec Ideal S16x2048x512 .f32 :=
  mulf no (mulf (shapeCast _ ng shapeCasts_S32768x512_S16x2048x512) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (shapeCast _ ng shapeCasts_S32768x512_S16x2048x512))))))

/-- The three branches side by side. -/
def mix (no : FVec Ideal S16x2048x512 .f32) : FVec Ideal S16x2048x1024 .f32 :=
  concatenate S16x2048x1024 2 [⟨S16x2048x256, ro⟩, ⟨S16x2048x512, no⟩, ⟨S16x2048x256, go⟩] concatenates_S16x2048x256_S16x2048x512_S16x2048x256_S16x2048x1024_d2

/-- Their projection. -/
def proj (M : FVec Ideal S16x2048x1024 .f32) : FVec Ideal S16x2048x1024 .f32 :=
  Host.dotGeneral dot_S16x2048x1024_S1024x1024_S16x2048x1024_2_0_01_1_n_n none M W

/-- It normalized and added to the input. -/
def result (Z : FVec Ideal S16x2048x1024 .f32) : FVec Ideal S32768x1024 .f32 :=
  shapeCast _ (addf X (mulf (mulf Z (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf Z Z) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![1, 2] bcast_S1x1024_S1x1x1024_1_2 g)))) shapeCasts_S16x2048x1024_S32768x1024

theorem gated_at (b : Fin 16) (t : Fin 2048) (k : Fin 512) :
    (gated no ng (ix3 b t k) : EReal) = no (ix3 b t k) * silu (ng (ix2 (rowOf b t) k)) := by
  unfold silu Ideal.logistic
  pointwise [gated]
  rfl

theorem mix_at (b : Fin 16) (t : Fin 2048) (k : Fin 1024) :
    (mix ro go (gated no ng) (ix3 b t k) : EReal) = (data X ro no ng go W g).mix b t k := by
  unfold Data.mix
  pointwise [mix]
  by_cases h : k.val < 256
  · rw [dif_pos h, dif_pos h]
    rfl
  rw [dif_neg h, dif_neg h]
  by_cases h' : k.val < 768
  · rw [dif_pos h', dif_pos (show k.val - 256 < 512 by omega)]
    exact gated_at no ng b t _
  · rw [dif_neg h', dif_neg (show ¬k.val - 256 < 512 by omega)]
    exact congrArg go ((ix3_inj _ _ _ _ _ _).mpr ⟨rfl, rfl, Fin.ext (by show k.val - 256 - 512 = k.val - 768; omega)⟩)

theorem proj_at (b : Fin 16) (t : Fin 2048) (j : Fin 1024) :
    (proj W (mix ro go (gated no ng)) (ix3 b t j) : EReal) = (data X ro no ng go W g).z b t j := by
  unfold Data.z
  have e := mix_at X ro no ng go W g b t
  generalize mix ro go (gated no ng) = M at e ⊢
  pointwise [proj]
  exact Finset.sum_congr rfl fun k _ => congrArg (· * _) (e k)

theorem result_at (Z : FVec Ideal S16x2048x1024 .f32) (r : Fin 32768) (j : Fin 1024) :
    (result X g Z (ix2 r j) : EReal) = joined (X (ix3 (bat r) (pos r) j)) (fun i => Z (ix3 (bat r) (pos r) i)) (g (ix2 0 j)) j := by
  pointwise [result]
  rfl

theorem result_eq : result X g (proj W (mix ro go (gated no ng))) = (data X ro no ng go W g).outArr := by
  funext y
  rw [eq_ix2 y]
  refine (result_at X g _ (y 0) (y 1)).trans ?_
  exact congrArg (fun z => joined _ z _ _) (funext fun i => proj_at X ro no ng go W g _ _ i)

end Cert.OutRefIdeal.Ref

end
-- ==== Proof.OutClaim.lean ====
/- The output projection's claims: the reference's run, and the result of the kernel and of the reference. -/
module

public import proofs.«01_k».proof.Defs
public import proofs.«01_k».proof.Proof.OutArrays
public import proofs.«01_k».proof.Proof.OutRef

@[expose] public section

noncomputable section

namespace Cert.Proof.Out

open Idealize.ShloMosaic Idealize.SL.Sem

/-- The reference's run leaves every counter at zero. -/
theorem frame_ref : Cert.quiescent_OutRefIdeal := fun m ρ _ =>
  (θ_run Cert.OutRefIdeal.defs _ _).mono
    (fun r h => ⟨fun c => (h c).2, Idealize.ShloMosaic.sem_eq_zero_of_no_sems (by decide) r.2⟩)
    (Cert.OutRefIdeal.Value.run (F := Ideal) m ρ)

/-- Over the reals the kernel's result is the reference's. -/
theorem algebraic : Cert.algebraic_OutIdeal_OutRefIdeal := by
  intro m ρ m' ρ' _ hagree
  have e : ∀ c : Dev Cert.OutIdeal.nD, Cert.OutRefIdeal.Ref.data (m' ((c.tc : Thread Cert.OutRefIdeal.nD Cert.OutRefIdeal.τ).loc Cert.OutRefIdeal.main_arg0))
      (m' ((c.tc : Thread Cert.OutRefIdeal.nD Cert.OutRefIdeal.τ).loc Cert.OutRefIdeal.main_arg1))
      (m' ((c.tc : Thread Cert.OutRefIdeal.nD Cert.OutRefIdeal.τ).loc Cert.OutRefIdeal.main_arg2))
      (m' ((c.tc : Thread Cert.OutRefIdeal.nD Cert.OutRefIdeal.τ).loc Cert.OutRefIdeal.main_arg3))
      (m' ((c.tc : Thread Cert.OutRefIdeal.nD Cert.OutRefIdeal.τ).loc Cert.OutRefIdeal.main_arg4))
      (m' ((c.tc : Thread Cert.OutRefIdeal.nD Cert.OutRefIdeal.τ).loc Cert.OutRefIdeal.main_arg5))
      (m' ((c.tc : Thread Cert.OutRefIdeal.nD Cert.OutRefIdeal.τ).loc Cert.OutRefIdeal.main_arg6)) = Cert.OutIdeal.Arrays.data m c := fun c => by
    obtain ⟨h0, h1, h2, h3, h4, h5, h6⟩ := hagree c
    unfold Cert.OutIdeal.Arrays.data Cert.OutIdeal.Arrays.aX Cert.OutIdeal.Arrays.aR Cert.OutIdeal.Arrays.aN Cert.OutIdeal.Arrays.aG
      Cert.OutIdeal.Arrays.aD Cert.OutIdeal.Arrays.aW Cert.OutIdeal.Arrays.aS
    rw [← h0, ← h1, ← h2, ← h3, ← h4, ← h5, ← h6]
    rfl
  refine ⟨_, (θ_run _ _ _).mono (fun _ h c => ⟨((h c).1).trans (Cert.OutIdeal.Arrays.result m c), (h c).2⟩)
    (Cert.OutIdeal.Value.run_blocks m ρ), ?_⟩
  exact (θ_run _ _ _).mono (fun _ h c => ⟨((h c).1).trans
    ((Cert.OutRefIdeal.Ref.result_eq _ _ _ _ _ _ _).trans (congrArg Cert.OutSpec.Data.outArr (e c))), (h c).2⟩)
    (Cert.OutRefIdeal.Value.run m' ρ')

end Cert.Proof.Out

end
-- ==== Proof.OutSTile.lean ====
/- The output projection of the sample's step of 512 rows: the block it stores, entry by entry. -/
module

public import proofs.«01_k».proof.Proof.OutSpec
public import proofs.«01_k».proof.Proof.Gen.OutSIdeal.Value
public import Idealize.ShloMosaic.Lib.Pipeline.ValueKit

@[expose] public section

set_option maxRecDepth 16384

noncomputable section

namespace Cert.OutSIdeal.Tile

open Cert.OutSIdeal Cert.OutSIdeal.Gen Cert.OutSpec Idealize.ShloMosaic

variable (x0 : Vec Ideal S256x1024 .f32) (x1 : Vec Ideal S256x256 .f32) (x2 x3 : Vec Ideal S256x512 .f32) (x4 : Vec Ideal S256x256 .f32)
  (x5 : Vec Ideal S1024x1024 .bf16) (x6 : Vec Ideal S1x1024 .f32)

/-- The tile's projected row. -/
def z (r : Fin 256) (j : Fin 1024) : EReal :=
  (∑ k : Fin 256, (x1 (ix2 r k) : EReal) * (x5 (ix2 ⟨k.val, by omega⟩ j) : EReal))
    + (∑ k : Fin 512, (x2 (ix2 r k) : EReal) * silu (x3 (ix2 r k)) * (x5 (ix2 ⟨256 + k.val, by omega⟩ j) : EReal))
    + ∑ k : Fin 256, (x4 (ix2 r k) : EReal) * (x5 (ix2 ⟨768 + k.val, by omega⟩ j) : EReal)

theorem pay_eq (r : Fin 256) (j : Fin 1024) :
    (k0_pay1 (k0_pay2 x0) (k0_pay3 x2 x3 x1 (View.ld x5 r0_2) (View.ld x5 r0_3) x4 (View.ld x5 r0_4)) x6 (ix2 r j) : EReal)
      = joined (x0 (ix2 r j)) (z x1 x2 x3 x4 x5 r) (x6 (ix2 0 j)) j := by
  pointwise [k0_pay1, k0_pay2, k0_pay3]
  rfl

theorem out_eq (y : S256x1024.Idx) :
    (out0_7 x0 x1 x2 x3 x4 x5 x6 y : EReal) = joined (x0 y) (z x1 x2 x3 x4 x5 (y 0)) (x6 (ix2 0 (y 1))) (y 1) := by
  unfold out0_7
  rw [View.ld_unit_lit _ x0 (by decide), View.ld_unit_lit _ x1 (by decide), View.ld_unit_lit _ x2 (by decide),
    View.ld_unit_lit _ x3 (by decide), View.ld_unit_lit _ x4 (by decide), View.ld_unit_lit _ x6 (by decide)]
  canon_tiles x h using (cover0_7 _ _)
  rw [eq_ix2 x]
  refine Eq.trans ?_ (congrArg (fun y : S256x1024.Idx => joined (x0 y) (z x1 x2 x3 x4 x5 (y 0)) (x6 (ix2 0 (y 1))) (y 1))
    (show ix2 (x 0) (x 1) = y from by rw [eq_ix2 y]; exact (ix2_inj _ _ _ _).mpr ⟨Fin.ext (by omega), Fin.ext (by omega)⟩))
  exact pay_eq x0 x1 x2 x3 x4 x5 x6 (x 0) (x 1)

end Cert.OutSIdeal.Tile

end
-- ==== Proof.OutSArrays.lean ====
/- The output projection of the sample's result array: that of `OutSpec`. -/
module

public import proofs.«01_k».proof.Proof.OutSTile
public import Idealize.ShloMosaic.Lib.StableHlo.ReadAt
public import Idealize.ShloMosaic.Lib.Tactic.CleanTypes

@[expose] public section

set_option maxRecDepth 16384

noncomputable section

namespace Cert.OutSIdeal.Arrays

open Cert.OutSIdeal Cert.OutSIdeal.Gen Cert.OutSpec Idealize.ShloMosaic Idealize.ShloMosaic.TcCoe
open Idealize.ShloMosaic.Pipeline (Dat)

variable (m : (ℓ : Loc nD τ sig) → Buf (Elt Ideal) ℓ) (c : Dev nD)

abbrev aX : S32x8x1024.Idx → EReal := m ((c : Thread nD τ).loc main_arg0)
abbrev aR : S32x8x256.Idx → EReal := m ((c : Thread nD τ).loc main_arg1)
abbrev aN : S32x8x512.Idx → EReal := m ((c : Thread nD τ).loc main_arg2)
abbrev aG : S256x512.Idx → EReal := m ((c : Thread nD τ).loc main_arg3)
abbrev aD : S32x8x256.Idx → EReal := m ((c : Thread nD τ).loc main_arg4)
abbrev aW : S1024x1024.Idx → EReal := m ((c : Thread nD τ).loc main_arg5)
abbrev aS : S1x1024.Idx → EReal := m ((c : Thread nD τ).loc main_arg6)

/-- What the arguments hold. -/
def data : Data 32 8 where
  X b t k := aX m c (ix3 b t k)
  ro b t k := aR m c (ix3 b t k)
  no b t k := aN m c (ix3 b t k)
  ng b t k := aG m c (ix2 (srow b t) k)
  go b t k := aD m c (ix3 b t k)
  W k j := aW m c (ix2 k j)
  gain j := aS m c (ix2 0 j)

/-- The blocks a grid point's windows stand at. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0] := by decide +kernel

/-- A row of the block among the rows of all batches. -/
def flat (t : Fin cfg0.N) (r : Fin 256) : Fin 256 := r

theorem x_at (t : Fin cfg0.N) (r : Fin 256) (k : Fin 1024) : iblk m c 0 t (ix2 r k) = (data m c).X (sbat (flat t r)) (spos (flat t r)) k := by
  have e : iblk m c 0 t (ix2 r k) = V m c main_v0 (ix2 (flat t r) k) := by
    unfold flat
    blk_ext [iblk, idx t]
  rw [e]
  unfold V
  after_reads_at
  rfl

theorem ro_at (t : Fin cfg0.N) (r : Fin 256) (k : Fin 256) : iblk m c 1 t (ix2 r k) = (data m c).ro (sbat (flat t r)) (spos (flat t r)) k := by
  have e : iblk m c 1 t (ix2 r k) = V m c main_v1 (ix2 (flat t r) k) := by
    unfold flat
    blk_ext [iblk, idx t]
  rw [e]
  unfold V
  after_reads_at
  rfl

theorem no_at (t : Fin cfg0.N) (r : Fin 256) (k : Fin 512) : iblk m c 2 t (ix2 r k) = (data m c).no (sbat (flat t r)) (spos (flat t r)) k := by
  have e : iblk m c 2 t (ix2 r k) = V m c main_v2 (ix2 (flat t r) k) := by
    unfold flat
    blk_ext [iblk, idx t]
  rw [e]
  unfold V
  after_reads_at
  rfl

theorem go_at (t : Fin cfg0.N) (r : Fin 256) (k : Fin 256) : iblk m c 4 t (ix2 r k) = (data m c).go (sbat (flat t r)) (spos (flat t r)) k := by
  have e : iblk m c 4 t (ix2 r k) = V m c main_v3 (ix2 (flat t r) k) := by
    unfold flat
    blk_ext [iblk, idx t]
  rw [e]
  unfold V
  after_reads_at
  rfl

theorem row_flat (r : Fin 256) : srow (sbat r) (spos r) = r := by
  refine Fin.ext ?_
  show r.val / 8 * 8 + r.val % 8 = r.val
  omega

theorem ng_at (t : Fin cfg0.N) (r : Fin 256) (k : Fin 512) : iblk m c 3 t (ix2 r k) = (data m c).ng (sbat (flat t r)) (spos (flat t r)) k := by
  show _ = aG m c (ix2 (srow _ _) k)
  rw [row_flat]
  show _ = m ((c : Thread nD τ).loc main_arg3) (ix2 (flat t r) k)
  unfold flat
  blk_ext [iblk, V, idx t]

theorem w_at (t : Fin cfg0.N) (k j : Fin 1024) : iblk m c 5 t (ix2 k j) = (data m c).W k j := by
  have e : iblk m c 5 t (ix2 k j) = V m c main_v4 (ix2 k j) := by blk_ext [iblk, idx t]
  rw [e]
  unfold V
  after_reads_at
  rfl

theorem g_at (t : Fin cfg0.N) (j : Fin 1024) : iblk m c 6 t (ix2 0 j) = (data m c).gain j := by
  show _ = m ((c : Thread nD τ).loc main_arg6) (ix2 0 j)
  blk_ext [iblk, V, idx t]

theorem block (t : Fin cfg0.N) (y : S256x1024.Idx) :
    (out0_7 (iblk m c 0 t) (iblk m c 1 t) (iblk m c 2 t) (iblk m c 3 t) (iblk m c 4 t) (iblk m c 5 t) (iblk m c 6 t) y : EReal)
      = (data m c).outArrS (ix2 (flat t (y 0)) (y 1)) := by
  rw [Tile.out_eq]
  show _ = (data m c).out (sbat (flat t (y 0))) (spos (flat t (y 0))) (y 1)
  unfold Data.out
  have hz : ∀ j, Tile.z (iblk m c 1 t) (iblk m c 2 t) (iblk m c 3 t) (iblk m c 4 t) (iblk m c 5 t) (y 0) j
      = (data m c).z (sbat (flat t (y 0))) (spos (flat t (y 0))) j := fun j => by
    rw [Data.z_split]
    unfold Tile.z
    refine congr (congrArg _ (congr (congrArg _ (Finset.sum_congr rfl fun k _ => ?_)) (Finset.sum_congr rfl fun k _ => ?_)))
      (Finset.sum_congr rfl fun k _ => ?_)
    · exact congr (congrArg _ (ro_at m c t (y 0) k)) (w_at m c t _ j)
    · exact congr (congrArg _ (congr (congrArg _ (no_at m c t (y 0) k)) (congrArg silu (ng_at m c t (y 0) k)))) (w_at m c t _ j)
    · exact congr (congrArg _ (go_at m c t (y 0) k)) (w_at m c t _ j)
  rw [← x_at m c t (y 0) (y 1), ← g_at m c t (y 1), funext hz]
  conv_lhs => rw [eq_ix2 y]
  rfl

/-- The result after the run. -/
theorem result : (dats m 0 c).arrAt 7 cfg0.N = (data m c).outArrS := by
  refine (dats m 0 c).arrAt_eq_of_covers 7 _ (by decide +kernel) fun t hf y => ?_
  blk_simp
  rw [after0_7]
  refine (block m c t y).trans ?_
  refine congrArg (data m c).outArrS ?_
  unfold flat
  blk_ext [idx t]

end Cert.OutSIdeal.Arrays

end
-- ==== Proof.OutSRef.lean ====
/- The output projection of the sample's reference, in the terms of `OutSpec`. -/
module

public import proofs.«01_k».proof.Proof.OutSpec
public import proofs.«01_k».proof.Proof.Gen.OutSRefIdeal.Run
public import Idealize.ShloMosaic.Lib.Tactic.CleanTypes

@[expose] public section

set_option maxRecDepth 16384

noncomputable section

namespace Cert.OutSRefIdeal.Ref

open Cert.OutSRefIdeal Cert.OutSRefIdeal.Gen Cert.OutSpec Idealize.ShloMosaic

variable (X : FVec Ideal S32x8x1024 .f32) (ro : FVec Ideal S32x8x256 .f32) (no : FVec Ideal S32x8x512 .f32)
  (ng : FVec Ideal S256x512 .f32) (go : FVec Ideal S32x8x256 .f32) (W : FVec Ideal S1024x1024 .f32) (g : FVec Ideal S1x1024 .f32)

/-- What the arguments hold. -/
def data : Data 32 8 where
  X b t k := X (ix3 b t k)
  ro b t k := ro (ix3 b t k)
  no b t k := no (ix3 b t k)
  ng b t k := ng (ix2 (srow b t) k)
  go b t k := go (ix3 b t k)
  W k j := W (ix2 k j)
  gain j := g (ix2 0 j)

/-- The second branch, gated. -/
def gated : FVec Ideal S32x8x512 .f32 :=
  mulf no (mulf (shapeCast _ ng shapeCasts_S256x512_S32x8x512) (Host.divf (broadcastInDim S32x8x512 ![] bcast_S_S32x8x512 (constant S_ .f32 0x3F800000#32)) (addf (broadcastInDim S32x8x512 ![] bcast_S_S32x8x512 (constant S_ .f32 0x3F800000#32)) (Host.exp (Host.negf (shapeCast _ ng shapeCasts_S256x512_S32x8x512))))))

/-- The three branches side by side. -/
def mix (no : FVec Ideal S32x8x512 .f32) : FVec Ideal S32x8x1024 .f32 :=
  concatenate S32x8x1024 2 [⟨S32x8x256, ro⟩, ⟨S32x8x512, no⟩, ⟨S32x8x256, go⟩] concatenates_S32x8x256_S32x8x512_S32x8x256_S32x8x1024_d2

/-- Their projection. -/
def proj (M : FVec Ideal S32x8x1024 .f32) : FVec Ideal S32x8x1024 .f32 :=
  Host.dotGeneral dot_S32x8x1024_S1024x1024_S32x8x1024_2_0_01_1_n_n none M W

/-- It normalized and added to the input. -/
def result (Z : FVec Ideal S32x8x1024 .f32) : FVec Ideal S256x1024 .f32 :=
  shapeCast _ (addf X (mulf (mulf Z (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf Z Z) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![1, 2] bcast_S1x1024_S1x1x1024_1_2 g)))) shapeCasts_S32x8x1024_S256x1024

theorem gated_at (b : Fin 32) (t : Fin 8) (k : Fin 512) :
    (gated no ng (ix3 b t k) : EReal) = no (ix3 b t k) * silu (ng (ix2 (srow b t) k)) := by
  unfold silu Ideal.logistic
  pointwise [gated]
  rfl

theorem mix_at (b : Fin 32) (t : Fin 8) (k : Fin 1024) :
    (mix ro go (gated no ng) (ix3 b t k) : EReal) = (data X ro no ng go W g).mix b t k := by
  unfold Data.mix
  pointwise [mix]
  by_cases h : k.val < 256
  · rw [dif_pos h, dif_pos h]
    rfl
  rw [dif_neg h, dif_neg h]
  by_cases h' : k.val < 768
  · rw [dif_pos h', dif_pos (show k.val - 256 < 512 by omega)]
    exact gated_at no ng b t _
  · rw [dif_neg h', dif_neg (show ¬k.val - 256 < 512 by omega)]
    exact congrArg go ((ix3_inj _ _ _ _ _ _).mpr ⟨rfl, rfl, Fin.ext (by show k.val - 256 - 512 = k.val - 768; omega)⟩)

theorem proj_at (b : Fin 32) (t : Fin 8) (j : Fin 1024) :
    (proj W (mix ro go (gated no ng)) (ix3 b t j) : EReal) = (data X ro no ng go W g).z b t j := by
  unfold Data.z
  have e := mix_at X ro no ng go W g b t
  generalize mix ro go (gated no ng) = M at e ⊢
  pointwise [proj]
  exact Finset.sum_congr rfl fun k _ => congrArg (· * _) (e k)

theorem result_at (Z : FVec Ideal S32x8x1024 .f32) (r : Fin 256) (j : Fin 1024) :
    (result X g Z (ix2 r j) : EReal) = joined (X (ix3 (sbat r) (spos r) j)) (fun i => Z (ix3 (sbat r) (spos r) i)) (g (ix2 0 j)) j := by
  pointwise [result]
  rfl

theorem result_eq : result X g (proj W (mix ro go (gated no ng))) = (data X ro no ng go W g).outArrS := by
  funext y
  rw [eq_ix2 y]
  refine (result_at X g _ (y 0) (y 1)).trans ?_
  exact congrArg (fun z => joined _ z _ _) (funext fun i => proj_at X ro no ng go W g _ _ i)

end Cert.OutSRefIdeal.Ref

end
-- ==== Proof.OutSClaim.lean ====
/- The output projection of the sample's claims: the reference's run, and the result of the kernel and of the reference. -/
module

public import proofs.«01_k».proof.Defs
public import proofs.«01_k».proof.Proof.OutSArrays
public import proofs.«01_k».proof.Proof.OutSRef

@[expose] public section

noncomputable section

namespace Cert.Proof.OutS

open Idealize.ShloMosaic Idealize.SL.Sem

/-- The reference's run leaves every counter at zero. -/
theorem frame_ref : Cert.quiescent_OutSRefIdeal := fun m ρ _ =>
  (θ_run Cert.OutSRefIdeal.defs _ _).mono
    (fun r h => ⟨fun c => (h c).2, Idealize.ShloMosaic.sem_eq_zero_of_no_sems (by decide) r.2⟩)
    (Cert.OutSRefIdeal.Value.run (F := Ideal) m ρ)

/-- Over the reals the kernel's result is the reference's. -/
theorem algebraic : Cert.algebraic_OutSIdeal_OutSRefIdeal := by
  intro m ρ m' ρ' _ hagree
  have e : ∀ c : Dev Cert.OutSIdeal.nD, Cert.OutSRefIdeal.Ref.data (m' ((c.tc : Thread Cert.OutSRefIdeal.nD Cert.OutSRefIdeal.τ).loc Cert.OutSRefIdeal.main_arg0))
      (m' ((c.tc : Thread Cert.OutSRefIdeal.nD Cert.OutSRefIdeal.τ).loc Cert.OutSRefIdeal.main_arg1))
      (m' ((c.tc : Thread Cert.OutSRefIdeal.nD Cert.OutSRefIdeal.τ).loc Cert.OutSRefIdeal.main_arg2))
      (m' ((c.tc : Thread Cert.OutSRefIdeal.nD Cert.OutSRefIdeal.τ).loc Cert.OutSRefIdeal.main_arg3))
      (m' ((c.tc : Thread Cert.OutSRefIdeal.nD Cert.OutSRefIdeal.τ).loc Cert.OutSRefIdeal.main_arg4))
      (m' ((c.tc : Thread Cert.OutSRefIdeal.nD Cert.OutSRefIdeal.τ).loc Cert.OutSRefIdeal.main_arg5))
      (m' ((c.tc : Thread Cert.OutSRefIdeal.nD Cert.OutSRefIdeal.τ).loc Cert.OutSRefIdeal.main_arg6)) = Cert.OutSIdeal.Arrays.data m c := fun c => by
    obtain ⟨h0, h1, h2, h3, h4, h5, h6⟩ := hagree c
    unfold Cert.OutSIdeal.Arrays.data Cert.OutSIdeal.Arrays.aX Cert.OutSIdeal.Arrays.aR Cert.OutSIdeal.Arrays.aN Cert.OutSIdeal.Arrays.aG
      Cert.OutSIdeal.Arrays.aD Cert.OutSIdeal.Arrays.aW Cert.OutSIdeal.Arrays.aS
    rw [← h0, ← h1, ← h2, ← h3, ← h4, ← h5, ← h6]
    rfl
  refine ⟨_, (θ_run _ _ _).mono (fun _ h c => ⟨((h c).1).trans (Cert.OutSIdeal.Arrays.result m c), (h c).2⟩)
    (Cert.OutSIdeal.Value.run_blocks m ρ), ?_⟩
  exact (θ_run _ _ _).mono (fun _ h c => ⟨((h c).1).trans
    ((Cert.OutSRefIdeal.Ref.result_eq _ _ _ _ _ _ _).trans (congrArg Cert.OutSpec.Data.outArrS (e c))), (h c).2⟩)
    (Cert.OutSRefIdeal.Value.run m' ρ')

end Cert.Proof.OutS

end
-- ==== Proof.ProjSSpec.lean ====
/- The mathematics of the input projection of the sample: each position's normalized row times the weights, the rotated parts. -/
module

public import Idealize.ShloMosaic.Lib.Pointwise

@[expose] public section

noncomputable section

namespace Cert.ProjSSpec

open Idealize.ShloMosaic

/-- The cosine and sine of the position `t` places after the 16384 past ones, at frequency `j` of 32. -/
def angle (t j : ℕ) : EReal :=
  FloatOps.sitofp (F := Ideal) .f32 (16384#32 + BitVec.ofNat 32 t)
    * Ideal.pow (Ideal.ofBits .f32 0x461C4000#32)
        (Ideal.div (-FloatOps.sitofp (F := Ideal) .f32 (BitVec.ofNat 32 j)) (Ideal.ofBits .f32 0x42000000#32))
@[inherit_doc angle] def cosAt (t j : ℕ) : EReal := Ideal.cos (angle t j)
@[inherit_doc angle] def sinAt (t j : ℕ) : EReal := Ideal.sin (angle t j)

/-- The arguments: the layer's input, the norm's gain and the weights. -/
structure Data where
  X : Fin 32 → Fin 8 → Fin 1024 → EReal
  gain : Fin 1024 → EReal
  W : Fin 1024 → Fin 3872 → EReal

/-- The batch and the position of a row of the flattened batch. -/
def bat (r : Fin 256) : Fin 32 := ⟨r.val / 8, by omega⟩
@[inherit_doc bat] def pos (r : Fin 256) : Fin 8 := ⟨r.val % 8, Nat.mod_lt _ (by decide)⟩

namespace Data

variable (D : Data)

/-- The normalized row of a position. -/
def row (b : Fin 32) (t : Fin 8) (k : Fin 1024) : EReal :=
  D.X b t k * Ideal.rsqrt (Ideal.div (∑ i, D.X b t i * D.X b t i) (Ideal.ofBits .f32 0x44800000#32) + Ideal.ofBits .f32 0x358637BD#32) * D.gain k

/-- Its projection to a column. -/
def u (b : Fin 32) (t : Fin 8) (j : ℕ) : EReal := if h : j < 3872 then ∑ k, D.row b t k * D.W k ⟨j, h⟩ else 0

/-- A column of a head of 64 rotated by its position. -/
def turn (b : Fin 32) (t : Fin 8) (j : ℕ) : EReal :=
  if j % 64 < 32 then D.u b t j * cosAt t.val (j % 64) - D.u b t (j + 32) * sinAt t.val (j % 64)
  else D.u b t j * cosAt t.val (j % 64 - 32) + D.u b t (j - 32) * sinAt t.val (j % 64 - 32)

theorem turn_lo (b : Fin 32) (t : Fin 8) {j j0 j1 p p0 p1 : ℕ} (h : j % 64 < 32) (h0 : j0 = j) (h1 : j1 = j + 32) (hp : p = t.val)
    (hp0 : p0 = j % 64) (hp1 : p1 = j % 64) : D.u b t j0 * cosAt p p0 - D.u b t j1 * sinAt p p1 = D.turn b t j := by
  subst h0 h1 hp hp0 hp1
  rw [turn, if_pos h]

theorem turn_hi (b : Fin 32) (t : Fin 8) {j j0 j1 p p0 p1 : ℕ} (h : ¬j % 64 < 32) (h0 : j0 = j) (h1 : j1 = j - 32) (hp : p = t.val)
    (hp0 : p0 = j % 64 - 32) (hp1 : p1 = j % 64 - 32) : D.u b t j0 * cosAt p p0 + D.u b t j1 * sinAt p p1 = D.turn b t j := by
  subst h0 h1 hp hp0 hp1
  rw [turn, if_neg h]

/-- The retention part: rotated queries, rotated and scaled keys, values and gates. -/
def ret (b : Fin 32) (t : Fin 8) (j : ℕ) : EReal :=
  if j < 256 then D.turn b t j else if j < 512 then D.turn b t j * Ideal.ofBits .f32 0x3E000000#32 else D.u b t j

/-- The keys and values kept for the whole sequence; the selected keys are rotated. -/
def kv (b : Fin 32) (t : Fin 8) (j : ℕ) : EReal :=
  if 256 ≤ j ∧ j < 384 then D.turn b t (1536 + j) else D.u b t (1536 + j)

/-- The keys and values kept for the window; the keys are rotated. -/
def win (b : Fin 32) (t : Fin 8) (j : ℕ) : EReal := if j < 128 then D.turn b t (2048 + j) else D.u b t (2048 + j)

/-- The narrow gates, padded by zeros. -/
def small (b : Fin 32) (t : Fin 8) (j : ℕ) : EReal :=
  if j < 24 then D.u b t (2304 + j) else if j < 32 then D.u b t (3584 + j) else 0

/-! The results as arrays, the rows of all batches one after another. -/

def retArr : (⟨2, ![256, 1024]⟩ : Shape).Idx → EReal := fun y => D.ret (bat (y 0)) (pos (y 0)) (y 1).val
def qArr : (⟨2, ![256, 512]⟩ : Shape).Idx → EReal := fun y => D.u (bat (y 0)) (pos (y 0)) (1024 + (y 1).val)
def qrArr : (⟨2, ![256, 512]⟩ : Shape).Idx → EReal := fun y => D.turn (bat (y 0)) (pos (y 0)) (1024 + (y 1).val)
def kvArr : (⟨2, ![256, 512]⟩ : Shape).Idx → EReal := fun y => D.kv (bat (y 0)) (pos (y 0)) (y 1).val
def winArr : (⟨2, ![256, 256]⟩ : Shape).Idx → EReal := fun y => D.win (bat (y 0)) (pos (y 0)) (y 1).val
def ngArr : (⟨2, ![256, 512]⟩ : Shape).Idx → EReal := fun y => D.u (bat (y 0)) (pos (y 0)) (2328 + (y 1).val)
def gqArr : (⟨2, ![256, 768]⟩ : Shape).Idx → EReal := fun y => D.u (bat (y 0)) (pos (y 0)) (2840 + (y 1).val)
def ggArr : (⟨2, ![256, 256]⟩ : Shape).Idx → EReal := fun y => D.u (bat (y 0)) (pos (y 0)) (3616 + (y 1).val)
def smallArr : (⟨2, ![256, 128]⟩ : Shape).Idx → EReal := fun y => D.small (bat (y 0)) (pos (y 0)) (y 1).val

end Data

end Cert.ProjSSpec

end
-- ==== Proof.ProjSTile.lean ====
/- The input projection of the sample's step of 256 rows: the values it stores, entry by entry. -/
module

public import proofs.«01_k».proof.Proof.Gen.ProjSIdeal.Skeleton
public import Idealize.ShloMosaic.Lib.Pointwise

@[expose] public section

set_option maxRecDepth 16384

noncomputable section

namespace Cert.ProjSIdeal.Tile

open Cert.ProjSIdeal Cert.ProjSIdeal.Gen Idealize.ShloMosaic

variable (x0 : Vec Ideal S256x1024 .f32) (x1 : Vec Ideal S1x1024 .f32) (x2 : Vec Ideal S1024x3968 .bf16) (x3 x4 : Vec Ideal S256x128 .f32)

/-- A normalized row of the tile projected to a column of the padded weights. -/
def lin (r : Fin 256) (j : ℕ) : EReal :=
  if h : j < 3968 then ∑ k : Fin 1024, (k0_pay5 x0 x1 (ix2 r k) : EReal) * (x2 (ix2 k ⟨j, h⟩) : EReal) else 0

/-- The column of the other half of a head of 64. -/
def mate (j : ℕ) : ℕ := if j % 64 < 32 then j + 32 else j - 32

/-- A projected column turned by its row's position. -/
def turned (r : Fin 256) (j : ℕ) : EReal :=
  lin x0 x1 x2 r j * x3 (ix2 r ⟨j % 128, Nat.mod_lt _ (by decide)⟩)
    + lin x0 x1 x2 r (mate j) * x4 (ix2 r ⟨j % 128, Nat.mod_lt _ (by decide)⟩)

/-- The mask of the first halves of the heads. -/
theorem half_eq (r : Fin 256) (l : Fin 128) : k0_pay8 (ix2 r l) = if l.val % 64 < 32 then 1#1 else 0#1 := by
  pointwise [k0_pay8]
  revert l
  decide

/-- The rotation of 128 columns, two heads. -/
def rot (V : FVec Ideal S256x128 .f32) : FVec Ideal S256x128 .f32 :=
  addf (mulf V (k0_pay6 x3))
    (mulf (select k0_pay8 (dynamicRotate 1 96#32 none V rotates_S256x128_d1) (dynamicRotate 1 32#32 none V rotates_S256x128_d1)) (k0_pay7 x4))

theorem rot_eq (V : FVec Ideal S256x128 .f32) (n : ℕ) (hV : ∀ (r : Fin 256) (l : Fin 128), (V (ix2 r l) : EReal) = lin x0 x1 x2 r (128 * n + l.val))
    (r : Fin 256) (l : Fin 128) : (rot x3 x4 V (ix2 r l) : EReal) = turned x0 x1 x2 x3 x4 r (128 * n + l.val) := by
  have hl : (128 * n + l.val) % 128 = l.val := by omega
  have hm : (128 * n + l.val) % 64 = l.val % 64 := by omega
  unfold turned mate
  simp only [hl, hm, ← hV]
  pointwise [rot, k0_pay6, k0_pay7]
  rw [half_eq]
  split
  · rw [ValueIdx.select_one, hV r ⟨(l.val + 128 - 96) % 128, _⟩]
    refine congrArg (_ + · * _) (congrArg (lin x0 x1 x2 r) ?_)
    show 128 * n + (l.val + 128 - 96) % 128 = _
    omega
  · rw [ValueIdx.select_zero, hV r ⟨(l.val + 128 - 32) % 128, _⟩]
    refine congrArg (_ + · * _) (congrArg (lin x0 x1 x2 r) ?_)
    show 128 * n + (l.val + 128 - 32) % 128 = _
    omega

/-- The scale of the keys of the retention heads. -/
def eighth : EReal := Ideal.ofBits .f32 0x3E000000#32

/-- The weights' columns for the four retention parts, the queries, the keys and values, and the rest. -/
def wRet : Vec Ideal S1024x1024 .bf16 := View.ld x2 (Rect.unit ![0, 0] ![1024, 1024] inb_S1024x3968_S1024x1024_0_0)
@[inherit_doc wRet] def wQ : Vec Ideal S1024x512 .bf16 := View.ld x2 (Rect.unit ![0, 1024] ![1024, 512] inb_S1024x3968_S1024x512_0_1024)
@[inherit_doc wRet] def wKv : Vec Ideal S1024x768 .bf16 := View.ld x2 (Rect.unit ![0, 1536] ![1024, 768] inb_S1024x3968_S1024x768_0_1536)

theorem ret_eq (r : Fin 256) (j : Fin 1024) : (k0_pay9 (k0_pay5 x0 x1) (wRet x2) (ix2 r j) : EReal) = lin x0 x1 x2 r j.val := by
  unfold lin
  rw [dif_pos (by omega)]
  pointwise [k0_pay9, wRet]

theorem q_eq (r : Fin 256) (j : Fin 512) : (k0_pay15 (k0_pay5 x0 x1) (wQ x2) (ix2 r j) : EReal) = lin x0 x1 x2 r (1024 + j.val) := by
  unfold lin
  rw [dif_pos (by omega)]
  pointwise [k0_pay15, wQ]

theorem kv_eq (r : Fin 256) (j : Fin 768) : (k0_pay22 (k0_pay5 x0 x1) (wKv x2) (ix2 r j) : EReal) = lin x0 x1 x2 r (1536 + j.val) := by
  unfold lin
  rw [dif_pos (by omega)]
  pointwise [k0_pay22, wKv]

theorem ng_eq (r : Fin 256) (j : Fin 512) :
    (k0_pay1 (k0_pay5 x0 x1) (k0_pay28 (View.ld x2 (Rect.unit ![0, 2304] ![1024, 512] inb_S1024x3968_S1024x512_0_2304))) (ix2 r j) : EReal)
      = lin x0 x1 x2 r (2304 + j.val) := by
  unfold lin
  rw [dif_pos (by omega)]
  pointwise [k0_pay1, k0_pay28]

theorem gq_eq (r : Fin 256) (j : Fin 768) :
    (k0_pay2 (k0_pay5 x0 x1) (View.ld x2 (Rect.unit ![0, 2816] ![1024, 768] inb_S1024x3968_S1024x768_0_2816)) (ix2 r j) : EReal)
      = lin x0 x1 x2 r (2816 + j.val) := by
  unfold lin
  rw [dif_pos (by omega)]
  pointwise [k0_pay2]

theorem gg_eq (r : Fin 256) (j : Fin 256) :
    (k0_pay3 (k0_pay5 x0 x1) (View.ld x2 (Rect.unit ![0, 3584] ![1024, 256] inb_S1024x3968_S1024x256_0_3584)) (ix2 r j) : EReal)
      = lin x0 x1 x2 r (3584 + j.val) := by
  unfold lin
  rw [dif_pos (by omega)]
  pointwise [k0_pay3]

theorem sm_eq (r : Fin 256) (j : Fin 128) :
    (k0_pay4 (k0_pay5 x0 x1) (View.ld x2 (Rect.unit ![0, 3840] ![1024, 128] inb_S1024x3968_S1024x128_0_3840)) (ix2 r j) : EReal)
      = lin x0 x1 x2 r (3840 + j.val) := by
  unfold lin
  rw [dif_pos (by omega)]
  pointwise [k0_pay4]

/-! The stored pieces of the retention part. -/

theorem ret0 (r : Fin 256) (l : Fin 128) :
    (k0_pay10 (k0_pay5 x0 x1) (k0_pay6 x3) (k0_pay7 x4) k0_pay8 (wRet x2) (ix2 r l) : EReal) = turned x0 x1 x2 x3 x4 r (128 * 0 + l.val) := by
  have e : k0_pay10 (k0_pay5 x0 x1) (k0_pay6 x3) (k0_pay7 x4) k0_pay8 (wRet x2) = rot x3 x4 (extractStridedSlice S256x128 ![0, 0] (k0_pay9 (k0_pay5 x0 x1) (wRet x2)) slices_S256x1024_o0_0_S256x128) := rfl
  rw [e]
  exact rot_eq x0 x1 x2 x3 x4 _ 0 (fun r l => by pointwise; rw [ret_eq]) r l

theorem ret1 (r : Fin 256) (l : Fin 128) :
    (k0_pay11 (k0_pay5 x0 x1) (k0_pay6 x3) (k0_pay7 x4) k0_pay8 (wRet x2) (ix2 r l) : EReal) = turned x0 x1 x2 x3 x4 r (128 * 1 + l.val) := by
  have e : k0_pay11 (k0_pay5 x0 x1) (k0_pay6 x3) (k0_pay7 x4) k0_pay8 (wRet x2) = rot x3 x4 (extractStridedSlice S256x128 ![0, 128] (k0_pay9 (k0_pay5 x0 x1) (wRet x2)) slices_S256x1024_o0_128_S256x128) := rfl
  rw [e]
  exact rot_eq x0 x1 x2 x3 x4 _ 1 (fun r l => by pointwise; rw [ret_eq]) r l

theorem ret2 (r : Fin 256) (l : Fin 128) :
    (k0_pay12 (k0_pay5 x0 x1) (k0_pay6 x3) (k0_pay7 x4) k0_pay8 (wRet x2) (ix2 r l) : EReal) = turned x0 x1 x2 x3 x4 r (128 * 2 + l.val) * eighth := by
  have e : k0_pay12 (k0_pay5 x0 x1) (k0_pay6 x3) (k0_pay7 x4) k0_pay8 (wRet x2) = mulf (rot x3 x4 (extractStridedSlice S256x128 ![0, 256] (k0_pay9 (k0_pay5 x0 x1) (wRet x2)) slices_S256x1024_o0_256_S256x128)) (broadcast S256x128 (Scalar.ofBits .f32 0x3E000000#32)) := rfl
  rw [e]
  exact congrArg (· * eighth) (rot_eq x0 x1 x2 x3 x4 _ 2 (fun r l => by pointwise; rw [ret_eq]) r l)

theorem ret3 (r : Fin 256) (l : Fin 128) :
    (k0_pay13 (k0_pay5 x0 x1) (k0_pay6 x3) (k0_pay7 x4) k0_pay8 (wRet x2) (ix2 r l) : EReal) = turned x0 x1 x2 x3 x4 r (128 * 3 + l.val) * eighth := by
  have e : k0_pay13 (k0_pay5 x0 x1) (k0_pay6 x3) (k0_pay7 x4) k0_pay8 (wRet x2) = mulf (rot x3 x4 (extractStridedSlice S256x128 ![0, 384] (k0_pay9 (k0_pay5 x0 x1) (wRet x2)) slices_S256x1024_o0_384_S256x128)) (broadcast S256x128 (Scalar.ofBits .f32 0x3E000000#32)) := rfl
  rw [e]
  exact congrArg (· * eighth) (rot_eq x0 x1 x2 x3 x4 _ 3 (fun r l => by pointwise; rw [ret_eq]) r l)

theorem ret4 (r : Fin 256) (l : Fin 512) : (k0_pay14 (k0_pay9 (k0_pay5 x0 x1) (wRet x2)) (ix2 r l) : EReal) = lin x0 x1 x2 r (512 + l.val) := by
  pointwise [k0_pay14]
  rw [ret_eq]

/-! The stored pieces of the turned queries. -/

theorem qr0 (r : Fin 256) (l : Fin 128) :
    (k0_pay16 (k0_pay5 x0 x1) (k0_pay6 x3) (k0_pay7 x4) k0_pay8 (wQ x2) (ix2 r l) : EReal) = turned x0 x1 x2 x3 x4 r (128 * 8 + l.val) := by
  have e : k0_pay16 (k0_pay5 x0 x1) (k0_pay6 x3) (k0_pay7 x4) k0_pay8 (wQ x2) = rot x3 x4 (extractStridedSlice S256x128 ![0, 0] (k0_pay15 (k0_pay5 x0 x1) (wQ x2)) slices_S256x512_o0_0_S256x128) := rfl
  rw [e]
  exact rot_eq x0 x1 x2 x3 x4 _ 8 (fun r l => by pointwise; rw [q_eq]) r l

theorem qr1 (r : Fin 256) (l : Fin 128) :
    (k0_pay17 (k0_pay5 x0 x1) (k0_pay6 x3) (k0_pay7 x4) k0_pay8 (wQ x2) (ix2 r l) : EReal) = turned x0 x1 x2 x3 x4 r (128 * 9 + l.val) := by
  have e : k0_pay17 (k0_pay5 x0 x1) (k0_pay6 x3) (k0_pay7 x4) k0_pay8 (wQ x2) = rot x3 x4 (extractStridedSlice S256x128 ![0, 128] (k0_pay15 (k0_pay5 x0 x1) (wQ x2)) slices_S256x512_o0_128_S256x128) := rfl
  rw [e]
  exact rot_eq x0 x1 x2 x3 x4 _ 9 (fun r l => by pointwise; rw [q_eq]; exact congrArg _ (by simp only []; omega)) r l

theorem qr2 (r : Fin 256) (l : Fin 128) :
    (k0_pay18 (k0_pay5 x0 x1) (k0_pay6 x3) (k0_pay7 x4) k0_pay8 (wQ x2) (ix2 r l) : EReal) = turned x0 x1 x2 x3 x4 r (128 * 10 + l.val) := by
  have e : k0_pay18 (k0_pay5 x0 x1) (k0_pay6 x3) (k0_pay7 x4) k0_pay8 (wQ x2) = rot x3 x4 (extractStridedSlice S256x128 ![0, 256] (k0_pay15 (k0_pay5 x0 x1) (wQ x2)) slices_S256x512_o0_256_S256x128) := rfl
  rw [e]
  exact rot_eq x0 x1 x2 x3 x4 _ 10 (fun r l => by pointwise; rw [q_eq]; exact congrArg _ (by simp only []; omega)) r l

theorem qr3 (r : Fin 256) (l : Fin 128) :
    (k0_pay21 (k0_pay6 x3) (k0_pay7 x4) k0_pay8 (k0_pay19 (k0_pay5 x0 x1) (wQ x2)) (k0_pay20 (k0_pay5 x0 x1) (wQ x2)) 32#32 (ix2 r l) : EReal)
      = turned x0 x1 x2 x3 x4 r (128 * 11 + l.val) := by
  have e : k0_pay21 (k0_pay6 x3) (k0_pay7 x4) k0_pay8 (k0_pay19 (k0_pay5 x0 x1) (wQ x2)) (k0_pay20 (k0_pay5 x0 x1) (wQ x2)) 32#32 = rot x3 x4 (extractStridedSlice S256x128 ![0, 384] (k0_pay15 (k0_pay5 x0 x1) (wQ x2)) slices_S256x512_o0_384_S256x128) := rfl
  rw [e]
  exact rot_eq x0 x1 x2 x3 x4 _ 11 (fun r l => by pointwise; rw [q_eq]; exact congrArg _ (by simp only []; omega)) r l

/-! The stored pieces of the keys and values. -/

theorem kv0 (r : Fin 256) (l : Fin 256) : (k0_pay23 (k0_pay5 x0 x1) (wKv x2) (ix2 r l) : EReal) = lin x0 x1 x2 r (1536 + l.val) := by
  pointwise [k0_pay23]
  rw [kv_eq]

theorem kv1 (r : Fin 256) (l : Fin 128) :
    (k0_pay24 (k0_pay5 x0 x1) (k0_pay6 x3) (k0_pay7 x4) k0_pay8 (wKv x2) (ix2 r l) : EReal) = turned x0 x1 x2 x3 x4 r (128 * 14 + l.val) := by
  have e : k0_pay24 (k0_pay5 x0 x1) (k0_pay6 x3) (k0_pay7 x4) k0_pay8 (wKv x2) = rot x3 x4 (extractStridedSlice S256x128 ![0, 256] (k0_pay22 (k0_pay5 x0 x1) (wKv x2)) slices_S256x768_o0_256_S256x128) := rfl
  rw [e]
  exact rot_eq x0 x1 x2 x3 x4 _ 14 (fun r l => by pointwise; rw [kv_eq]; exact congrArg _ (by simp only []; omega)) r l

theorem kv2 (r : Fin 256) (l : Fin 128) : (k0_pay25 (k0_pay5 x0 x1) (wKv x2) (ix2 r l) : EReal) = lin x0 x1 x2 r (1920 + l.val) := by
  pointwise [k0_pay25]
  rw [kv_eq]
  exact congrArg _ (by simp only []; omega)

theorem wn0 (r : Fin 256) (l : Fin 128) :
    (k0_pay26 (k0_pay5 x0 x1) (k0_pay6 x3) (k0_pay7 x4) k0_pay8 (wKv x2) (ix2 r l) : EReal) = turned x0 x1 x2 x3 x4 r (128 * 16 + l.val) := by
  have e : k0_pay26 (k0_pay5 x0 x1) (k0_pay6 x3) (k0_pay7 x4) k0_pay8 (wKv x2) = rot x3 x4 (extractStridedSlice S256x128 ![0, 512] (k0_pay22 (k0_pay5 x0 x1) (wKv x2)) slices_S256x768_o0_512_S256x128) := rfl
  rw [e]
  exact rot_eq x0 x1 x2 x3 x4 _ 16 (fun r l => by pointwise; rw [kv_eq]; exact congrArg _ (by simp only []; omega)) r l

theorem wn1 (r : Fin 256) (l : Fin 128) : (k0_pay27 (k0_pay5 x0 x1) (wKv x2) (ix2 r l) : EReal) = lin x0 x1 x2 r (2176 + l.val) := by
  pointwise [k0_pay27]
  rw [kv_eq]
  exact congrArg _ (by simp only []; omega)

/-! What a step leaves in each of its blocks. -/

/-- The retention part. -/
def bRet (r : Fin 256) (j : ℕ) : EReal :=
  if j < 256 then turned x0 x1 x2 x3 x4 r j else if j < 512 then turned x0 x1 x2 x3 x4 r j * eighth else lin x0 x1 x2 r j

/-- The keys and values kept for the whole sequence. -/
def bKv (r : Fin 256) (j : ℕ) : EReal :=
  if 256 ≤ j ∧ j < 384 then turned x0 x1 x2 x3 x4 r (1536 + j) else lin x0 x1 x2 r (1536 + j)

/-- The keys and values kept for the window. -/
def bWin (r : Fin 256) (j : ℕ) : EReal :=
  if j < 128 then turned x0 x1 x2 x3 x4 r (2048 + j) else lin x0 x1 x2 r (2048 + j)

end Cert.ProjSIdeal.Tile

end
-- ==== Proof.ProjSArgs.lean ====
/- What the projection of the sample's blocks read: rows of the input, the gain, the reordered weights and the tables of cosines and sines. -/
module

public import proofs.«01_k».proof.Proof.ProjSSpec
public import proofs.«01_k».proof.Proof.ProjSTile
public import proofs.«01_k».proof.Proof.Gen.ProjSIdeal.Value
public import Idealize.ShloMosaic.Lib.Pipeline.ValueKit
public import Idealize.ShloMosaic.Lib.StableHlo.ReadAt
public import Idealize.ShloMosaic.Lib.Tactic.CleanTypes

@[expose] public section

set_option maxRecDepth 16384

noncomputable section

namespace Cert.ProjSIdeal.Args

open Cert.ProjSIdeal Cert.ProjSIdeal.Gen Cert.ProjSIdeal.Tile Cert.ProjSSpec Idealize.ShloMosaic Idealize.ShloMosaic.TcCoe

variable (m : (ℓ : Loc nD τ sig) → Buf (Elt Ideal) ℓ) (c : Dev nD)

abbrev aX : S32x8x1024.Idx → EReal := m ((c : Thread nD τ).loc main_arg0)
abbrev aG : S1x1024.Idx → EReal := m ((c : Thread nD τ).loc main_arg1)
abbrev aW : S1024x3872.Idx → EReal := m ((c : Thread nD τ).loc main_arg2)

/-- What the arguments hold. -/
def data : Data where
  X b t k := aX m c (ix3 b t k)
  gain k := aG m c (ix2 0 k)
  W k j := aW m c (ix2 k j)

/-- The blocks a grid point's windows stand at. -/
theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] := by decide +kernel

theorem x_at (t : Fin cfg0.N) (r : Fin 256) (k : Fin 1024) : iblk m c 0 t (ix2 r k) = (data m c).X (bat r) (pos r) k := by
  have e : iblk m c 0 t (ix2 r k) = V m c main_v27 (ix2 r k) := by blk_ext [iblk, idx t]
  rw [e]
  unfold V
  after_reads_at
  rfl

theorem g_at (t : Fin cfg0.N) (k : Fin 1024) : iblk m c 1 t (ix2 0 k) = (data m c).gain k := by
  show _ = m ((c : Thread nD τ).loc main_arg1) (ix2 0 k)
  blk_ext [iblk, V, idx t]

/-- The weights' column a padded column holds. -/
def src (w : ℕ → EReal) (j : ℕ) : EReal :=
  if j < 2304 then w j else if j < 3584 then w (j + 24) else if j < 3840 then w (j + 32) else if j < 3864 then w (j - 1536)
  else if j < 3872 then w (j - 256) else 0

theorem src_a (w : ℕ → EReal) {j : ℕ} (h : j < 2304) : src w j = w j := if_pos h
theorem src_b (w : ℕ → EReal) {j : ℕ} (h : 2304 ≤ j) (h' : j < 3584) : src w j = w (j + 24) := by
  rw [src, if_neg (by omega), if_pos h']
theorem src_c (w : ℕ → EReal) {j : ℕ} (h : 3584 ≤ j) (h' : j < 3840) : src w j = w (j + 32) := by
  rw [src, if_neg (by omega), if_neg (by omega), if_pos h']
theorem src_d (w : ℕ → EReal) {j : ℕ} (h : 3840 ≤ j) (h' : j < 3864) : src w j = w (j - 1536) := by
  rw [src, if_neg (by omega), if_neg (by omega), if_neg (by omega), if_pos h']
theorem src_e (w : ℕ → EReal) {j : ℕ} (h : 3864 ≤ j) (h' : j < 3872) : src w j = w (j - 256) := by
  rw [src, if_neg (by omega), if_neg (by omega), if_neg (by omega), if_neg (by omega), if_pos h']
theorem src_z (w : ℕ → EReal) {j : ℕ} (h : 3872 ≤ j) : src w j = 0 := by
  rw [src, if_neg (by omega), if_neg (by omega), if_neg (by omega), if_neg (by omega), if_neg (by omega)]

/-- A column of the weights by its number. -/
def wcol (k : Fin 1024) (j : ℕ) : EReal := if h : j < 3872 then (data m c).W k ⟨j, h⟩ else 0

set_option maxHeartbeats 2000000 in
theorem w_at (t : Fin cfg0.N) (k : Fin 1024) (j : Fin 3968) : iblk m c 2 t (ix2 k j) = src (wcol m c k) j.val := by
  have e : iblk m c 2 t (ix2 k j) = V m c main_v38 (ix2 k j) := by blk_ext [iblk, idx t]
  rw [e]
  unfold V
  after_reads_at
  have W : ∀ (n : ℕ) (h : n < 3872), m (c, Proc.tc.devRef main_arg2) (ix2 k ⟨n, h⟩) = wcol m c k n := fun n h => by
    unfold wcol
    rw [dif_pos h]
    rfl
  split
  · refine Eq.trans ?_ (src_a _ (by omega) ).symm
    after_reads_at
    exact (W _ _).trans (congrArg _ (by omega))
  split
  · refine Eq.trans ?_ (src_a _ (by omega) ).symm
    after_reads_at
    exact (W _ _).trans (congrArg _ (by omega))
  split
  · refine Eq.trans ?_ (src_a _ (by omega) ).symm
    after_reads_at
    exact (W _ _).trans (congrArg _ (by omega))
  split
  · refine Eq.trans ?_ (src_b _ (by omega) (by omega) ).symm
    after_reads_at
    exact (W _ _).trans (congrArg _ (by omega))
  split
  · refine Eq.trans ?_ (src_b _ (by omega) (by omega) ).symm
    after_reads_at
    exact (W _ _).trans (congrArg _ (by omega))
  split
  · refine Eq.trans ?_ (src_c _ (by omega) (by omega) ).symm
    after_reads_at
    exact (W _ _).trans (congrArg _ (by omega))
  split
  · refine Eq.trans ?_ (src_d _ (by omega) (by omega) ).symm
    after_reads_at
    exact (W _ _).trans (congrArg _ (by omega))
  split
  · refine Eq.trans ?_ (src_e _ (by omega) (by omega) ).symm
    after_reads_at
    exact (W _ _).trans (congrArg _ (by omega))
  · refine Eq.trans ?_ (src_z _ (by omega)).symm
    after_reads_at

theorem cos_at (t : Fin cfg0.N) (r : Fin 256) (j : Fin 128) : iblk m c 3 t (ix2 r j) = cosAt (pos r).val (j.val % 32) := by
  have e : iblk m c 3 t (ix2 r j) = V m c main_v23 (ix2 r j) := by blk_ext [iblk, idx t]
  rw [e]
  unfold V
  after_reads_at
  split
  · refine Eq.trans (b := cosAt (pos r).val j.val) ?_ (congrArg _ (by omega))
    after_reads_at
    rfl
  split
  · refine Eq.trans (b := cosAt (pos r).val (j.val - 32)) ?_ (congrArg _ (by omega))
    after_reads_at
    rfl
  split
  · refine Eq.trans (b := cosAt (pos r).val (j.val - 32 - 32)) ?_ (congrArg _ (by omega))
    after_reads_at
    rfl
  · refine Eq.trans (b := cosAt (pos r).val (j.val - 32 - 32 - 32)) ?_ (congrArg _ (by omega))
    after_reads_at
    rfl

theorem sin_at (t : Fin cfg0.N) (r : Fin 256) (j : Fin 128) :
    iblk m c 4 t (ix2 r j) = if j.val % 64 < 32 then -sinAt (pos r).val (j.val % 32) else sinAt (pos r).val (j.val % 32) := by
  have e : iblk m c 4 t (ix2 r j) = V m c main_v26 (ix2 r j) := by blk_ext [iblk, idx t]
  rw [e]
  unfold V
  after_reads_at
  split
  · refine Eq.trans (b := -sinAt (pos r).val j.val) ?_ (Eq.trans (congrArg (fun n => -sinAt _ n) (by omega)) (if_pos (by omega)).symm)
    after_reads_at
    rfl
  split
  · refine Eq.trans (b := sinAt (pos r).val (j.val - 32)) ?_ (Eq.trans (congrArg _ (by omega)) (if_neg (by omega)).symm)
    after_reads_at
    rfl
  split
  · refine Eq.trans (b := -sinAt (pos r).val (j.val - 32 - 32)) ?_ (Eq.trans (congrArg (fun n => -sinAt _ n) (by omega)) (if_pos (by omega)).symm)
    after_reads_at
    rfl
  · refine Eq.trans (b := sinAt (pos r).val (j.val - 32 - 32 - 32)) ?_ (Eq.trans (congrArg _ (by omega)) (if_neg (by omega)).symm)
    after_reads_at
    rfl

end Cert.ProjSIdeal.Args

end
-- ==== Proof.ProjSTiles.lean ====
/- The projection of the sample's steps in the terms of `ProjSSpec`: each block's entries are the projected and turned columns of its positions. -/
module

public import proofs.«01_k».proof.Proof.ProjSArgs

@[expose] public section

set_option maxRecDepth 16384

noncomputable section

namespace Cert.ProjSIdeal.Args

open Cert.ProjSIdeal Cert.ProjSIdeal.Gen Cert.ProjSIdeal.Tile Cert.ProjSSpec Idealize.ShloMosaic Idealize.ShloMosaic.TcCoe

variable (m : (ℓ : Loc nD τ sig) → Buf (Elt Ideal) ℓ) (c : Dev nD)

theorem row_at (t : Fin cfg0.N) (r : Fin 256) (k : Fin 1024) :
    (k0_pay5 (iblk m c 0 t) (iblk m c 1 t) (ix2 r k) : EReal) = (data m c).row (bat r) (pos r) k := by
  pointwise [k0_pay5]
  simp only [x_at, g_at]
  rfl

theorem src_sum (D : Data) (w : Fin 1024 → ℕ → EReal) (hw : ∀ k j, w k j = if h : j < 3872 then D.W k ⟨j, h⟩ else 0)
    (b : Fin 32) (p : Fin 8) (j : ℕ) : ∑ k, D.row b p k * src (w k) j = src (D.u b p) j := by
  have hu : ∀ n, n < 3872 → ∑ k, D.row b p k * w k n = D.u b p n := fun n hn => by
    rw [Data.u, dif_pos hn]
    refine Finset.sum_congr rfl fun k _ => ?_
    rw [hw, dif_pos hn]
  by_cases h1 : j < 2304
  · rw [src_a _ h1, ← hu _ (by omega)]
    exact Finset.sum_congr rfl fun k _ => by rw [src_a _ h1]
  by_cases h2 : j < 3584
  · rw [src_b _ (by omega) h2, ← hu _ (by omega)]
    exact Finset.sum_congr rfl fun k _ => by rw [src_b _ (by omega) h2]
  by_cases h3 : j < 3840
  · rw [src_c _ (by omega) h3, ← hu _ (by omega)]
    exact Finset.sum_congr rfl fun k _ => by rw [src_c _ (by omega) h3]
  by_cases h4 : j < 3864
  · rw [src_d _ (by omega) h4, ← hu _ (by omega)]
    exact Finset.sum_congr rfl fun k _ => by rw [src_d _ (by omega) h4]
  by_cases h5 : j < 3872
  · rw [src_e _ (by omega) h5, ← hu _ (by omega)]
    exact Finset.sum_congr rfl fun k _ => by rw [src_e _ (by omega) h5]
  · rw [src_z _ (by omega)]
    exact Finset.sum_eq_zero fun k _ => by rw [src_z _ (by omega), mul_zero]

/-- The projected columns of a block. -/
abbrev linAt (t : Fin cfg0.N) : Fin 256 → ℕ → EReal := lin (iblk m c 0 t) (iblk m c 1 t) (iblk m c 2 t)
/-- The turned columns of a block. -/
abbrev turnedAt (t : Fin cfg0.N) : Fin 256 → ℕ → EReal :=
  turned (iblk m c 0 t) (iblk m c 1 t) (iblk m c 2 t) (iblk m c 3 t) (iblk m c 4 t)

theorem lin_eq (t : Fin cfg0.N) (r : Fin 256) {j : ℕ} (hj : j < 3968) :
    linAt m c t r j = src ((data m c).u (bat r) (pos r)) j := by
  unfold linAt lin
  rw [dif_pos hj]
  refine Eq.trans (Finset.sum_congr rfl fun k _ => ?_) (src_sum (data m c) (wcol m c) (fun k j => rfl) (bat r) (pos r) j)
  rw [row_at, w_at]

theorem turned_eq (t : Fin cfg0.N) (r : Fin 256) {j : ℕ} (hj : j < 2304) :
    turnedAt m c t r j = (data m c).turn (bat r) (pos r) j := by
  unfold turnedAt turned mate Data.turn
  rw [cos_at, sin_at]
  have e1 := lin_eq m c t r (j := j) (by omega)
  rw [src_a _ hj] at e1
  unfold linAt at e1
  rw [e1]
  simp only []
  by_cases h : j % 64 < 32
  · have e2 := lin_eq m c t r (j := j + 32) (by omega)
    rw [src_a _ (by omega)] at e2
    unfold linAt at e2
    rw [if_pos h, if_pos h, if_pos (show j % 128 % 64 < 32 by omega), e2, mul_neg, ← sub_eq_add_neg,
      show j % 128 % 32 = j % 64 by omega]
  · have e2 := lin_eq m c t r (j := j - 32) (by omega)
    rw [src_a _ (by omega)] at e2
    unfold linAt at e2
    rw [if_neg h, if_neg h, if_neg (show ¬j % 128 % 64 < 32 by omega), e2, show j % 128 % 32 = j % 64 - 32 by omega]

theorem ret_eq (t : Fin cfg0.N) (r : Fin 256) (j : Fin 1024) :
    bRet (iblk m c 0 t) (iblk m c 1 t) (iblk m c 2 t) (iblk m c 3 t) (iblk m c 4 t) r j.val = (data m c).ret (bat r) (pos r) j.val := by
  have e1 := lin_eq m c t r (j := j.val) (by omega)
  have e2 := turned_eq m c t r (j := j.val) (by omega)
  rw [src_a _ (by omega)] at e1
  unfold bRet Data.ret
  rw [← e1, ← e2]
  rfl

theorem kv_eq (t : Fin cfg0.N) (r : Fin 256) (j : Fin 512) :
    bKv (iblk m c 0 t) (iblk m c 1 t) (iblk m c 2 t) (iblk m c 3 t) (iblk m c 4 t) r j.val = (data m c).kv (bat r) (pos r) j.val := by
  have e1 := lin_eq m c t r (j := 1536 + j.val) (by omega)
  have e2 := turned_eq m c t r (j := 1536 + j.val) (by omega)
  rw [src_a _ (by omega)] at e1
  unfold bKv Data.kv
  rw [← e1, ← e2]

theorem win_eq (t : Fin cfg0.N) (r : Fin 256) (j : Fin 256) :
    bWin (iblk m c 0 t) (iblk m c 1 t) (iblk m c 2 t) (iblk m c 3 t) (iblk m c 4 t) r j.val = (data m c).win (bat r) (pos r) j.val := by
  have e1 := lin_eq m c t r (j := 2048 + j.val) (by omega)
  have e2 := turned_eq m c t r (j := 2048 + j.val) (by omega)
  rw [src_a _ (by omega)] at e1
  unfold bWin Data.win
  rw [← e1, ← e2]

theorem small_eq (t : Fin cfg0.N) (r : Fin 256) (j : Fin 128) :
    linAt m c t r (3840 + j.val) = (data m c).small (bat r) (pos r) j.val := by
  rw [lin_eq m c t r (by omega)]
  unfold Data.small
  by_cases h1 : j.val < 24
  · rw [src_d _ (by omega) (by omega), if_pos h1]
    exact congrArg _ (by omega)
  by_cases h2 : j.val < 32
  · rw [src_e _ (by omega) (by omega), if_neg h1, if_pos h2]
    exact congrArg _ (by omega)
  · rw [src_z _ (by omega), if_neg h1, if_neg h2]

end Cert.ProjSIdeal.Args

end
-- ==== Proof.ProjSBlockRet.lean ====
/- What a step of the input projection of the sample leaves in each of its blocks. The retention part and the parts stored in one piece. -/
module

public import proofs.«01_k».proof.Proof.ProjSTile
public import proofs.«01_k».proof.Proof.Gen.ProjSIdeal.Frame
public import Idealize.ShloMosaic.Lib.Pipeline.ValueKit
public import Idealize.ShloMosaic.Lib.Pipeline.ReadBack

@[expose] public section

set_option maxRecDepth 16384

noncomputable section

namespace Cert.ProjSIdeal.Block

open Cert.ProjSIdeal Cert.ProjSIdeal.Gen Cert.ProjSIdeal.Tile Idealize.ShloMosaic

set_option maxHeartbeats 1000000 in
theorem outA5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (arg12 : Memref sig .tc .vmem S256x768 .f32) (harg12 : arg12.IsWhole) (arg13 : Memref sig .tc .vmem S256x256 .f32) (harg13 : arg13.IsWhole) (arg14 : Memref sig .tc .vmem S256x128 .f32) (harg14 : arg14.IsWhole)
    (x0 : Vec Ideal S256x1024 .f32) (x1 : Vec Ideal S1x1024 .f32) (x2 : Vec Ideal S1024x3968 .bf16) (x3 : Vec Ideal S256x128 .f32) (x4 : Vec Ideal S256x128 .f32) (y : S256x1024.Idx) :
    (out0_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y : EReal) = bRet x0 x1 x2 x3 x4 (y 0) (y 1).val := by
  frame_open
  frame_out
  try rw [harg1.read_unread x0]
  try rw [harg2.read_unread x1]
  try rw [harg3.read_unread x2]
  try rw [harg4.read_unread x3]
  try rw [harg5.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S256x1024) _ ![256, 128] (by sl_kernel_rfl) _)
  case piece0 =>
    rw [eq_ix2 x]
    refine (ret4 x0 x1 x2 (x 0) (x 1)).trans ?_
    unfold bRet
    rw [if_neg (by omega), if_neg (by omega)]
    exact congrArg₂ (lin x0 x1 x2) (Fin.ext (by omega)) (by omega)
  case piece1 =>
    rw [eq_ix2 x]
    refine (ret3 x0 x1 x2 x3 x4 (x 0) (x 1)).trans ?_
    unfold bRet
    rw [if_neg (by omega), if_pos (by omega)]
    exact congrArg (· * eighth) (congrArg₂ (turned x0 x1 x2 x3 x4) (Fin.ext (by omega)) (by omega))
  case piece2 =>
    rw [eq_ix2 x]
    refine (ret2 x0 x1 x2 x3 x4 (x 0) (x 1)).trans ?_
    unfold bRet
    rw [if_neg (by omega), if_pos (by omega)]
    exact congrArg (· * eighth) (congrArg₂ (turned x0 x1 x2 x3 x4) (Fin.ext (by omega)) (by omega))
  case piece3 =>
    rw [eq_ix2 x]
    refine (ret1 x0 x1 x2 x3 x4 (x 0) (x 1)).trans ?_
    unfold bRet
    rw [if_pos (by omega)]
    exact congrArg₂ (turned x0 x1 x2 x3 x4) (Fin.ext (by omega)) (by omega)
  case piece4 =>
    rw [eq_ix2 x]
    refine (ret0 x0 x1 x2 x3 x4 (x 0) (x 1)).trans ?_
    unfold bRet
    rw [if_pos (by omega)]
    exact congrArg₂ (turned x0 x1 x2 x3 x4) (Fin.ext (by omega)) (by omega)

theorem outA6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (arg12 : Memref sig .tc .vmem S256x768 .f32) (harg12 : arg12.IsWhole) (arg13 : Memref sig .tc .vmem S256x256 .f32) (harg13 : arg13.IsWhole) (arg14 : Memref sig .tc .vmem S256x128 .f32) (harg14 : arg14.IsWhole)
    (x0 : Vec Ideal S256x1024 .f32) (x1 : Vec Ideal S1x1024 .f32) (x2 : Vec Ideal S1024x3968 .bf16) (x3 : Vec Ideal S256x128 .f32) (x4 : Vec Ideal S256x128 .f32) (y : S256x512.Idx) :
    (out0_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y : EReal) = lin x0 x1 x2 (y 0) (1024 + (y 1).val) := by
  frame_open
  frame_out
  try rw [harg1.read_unread x0]
  try rw [harg2.read_unread x1]
  try rw [harg3.read_unread x2]
  try rw [harg4.read_unread x3]
  try rw [harg5.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact q_eq x0 x1 x2 (y 0) (y 1)

theorem outA10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (arg12 : Memref sig .tc .vmem S256x768 .f32) (harg12 : arg12.IsWhole) (arg13 : Memref sig .tc .vmem S256x256 .f32) (harg13 : arg13.IsWhole) (arg14 : Memref sig .tc .vmem S256x128 .f32) (harg14 : arg14.IsWhole)
    (x0 : Vec Ideal S256x1024 .f32) (x1 : Vec Ideal S1x1024 .f32) (x2 : Vec Ideal S1024x3968 .bf16) (x3 : Vec Ideal S256x128 .f32) (x4 : Vec Ideal S256x128 .f32) (y : S256x512.Idx) :
    (out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y : EReal) = lin x0 x1 x2 (y 0) (2304 + (y 1).val) := by
  frame_open
  frame_out
  try rw [harg1.read_unread x0]
  try rw [harg2.read_unread x1]
  try rw [harg3.read_unread x2]
  try rw [harg4.read_unread x3]
  try rw [harg5.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact ng_eq x0 x1 x2 (y 0) (y 1)

theorem outA11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (arg12 : Memref sig .tc .vmem S256x768 .f32) (harg12 : arg12.IsWhole) (arg13 : Memref sig .tc .vmem S256x256 .f32) (harg13 : arg13.IsWhole) (arg14 : Memref sig .tc .vmem S256x128 .f32) (harg14 : arg14.IsWhole)
    (x0 : Vec Ideal S256x1024 .f32) (x1 : Vec Ideal S1x1024 .f32) (x2 : Vec Ideal S1024x3968 .bf16) (x3 : Vec Ideal S256x128 .f32) (x4 : Vec Ideal S256x128 .f32) (y : S256x768.Idx) :
    (out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y : EReal) = lin x0 x1 x2 (y 0) (2816 + (y 1).val) := by
  frame_open
  frame_out
  try rw [harg1.read_unread x0]
  try rw [harg2.read_unread x1]
  try rw [harg3.read_unread x2]
  try rw [harg4.read_unread x3]
  try rw [harg5.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact gq_eq x0 x1 x2 (y 0) (y 1)

theorem outA12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (arg12 : Memref sig .tc .vmem S256x768 .f32) (harg12 : arg12.IsWhole) (arg13 : Memref sig .tc .vmem S256x256 .f32) (harg13 : arg13.IsWhole) (arg14 : Memref sig .tc .vmem S256x128 .f32) (harg14 : arg14.IsWhole)
    (x0 : Vec Ideal S256x1024 .f32) (x1 : Vec Ideal S1x1024 .f32) (x2 : Vec Ideal S1024x3968 .bf16) (x3 : Vec Ideal S256x128 .f32) (x4 : Vec Ideal S256x128 .f32) (y : S256x256.Idx) :
    (out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y : EReal) = lin x0 x1 x2 (y 0) (3584 + (y 1).val) := by
  frame_open
  frame_out
  try rw [harg1.read_unread x0]
  try rw [harg2.read_unread x1]
  try rw [harg3.read_unread x2]
  try rw [harg4.read_unread x3]
  try rw [harg5.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact gg_eq x0 x1 x2 (y 0) (y 1)

theorem outA13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (arg12 : Memref sig .tc .vmem S256x768 .f32) (harg12 : arg12.IsWhole) (arg13 : Memref sig .tc .vmem S256x256 .f32) (harg13 : arg13.IsWhole) (arg14 : Memref sig .tc .vmem S256x128 .f32) (harg14 : arg14.IsWhole)
    (x0 : Vec Ideal S256x1024 .f32) (x1 : Vec Ideal S1x1024 .f32) (x2 : Vec Ideal S1024x3968 .bf16) (x3 : Vec Ideal S256x128 .f32) (x4 : Vec Ideal S256x128 .f32) (y : S256x128.Idx) :
    (out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y : EReal) = lin x0 x1 x2 (y 0) (3840 + (y 1).val) := by
  frame_open
  frame_out
  try rw [harg1.read_unread x0]
  try rw [harg2.read_unread x1]
  try rw [harg3.read_unread x2]
  try rw [harg4.read_unread x3]
  try rw [harg5.read_unread x4]
  try rw [View.ld_unit_lit _ x0 (by decide)]
  try rw [View.ld_unit_lit _ x1 (by decide)]
  try rw [View.ld_unit_lit _ x3 (by decide)]
  try rw [View.ld_unit_lit _ x4 (by decide)]
  rw [eq_ix2 y]
  exact sm_eq x0 x1 x2 (y 0) (y 1)

end Cert.ProjSIdeal.Block

end
-- ==== Proof.ProjSBlockKv.lean ====
/- What a step of the input projection of the sample leaves in each of its blocks. The turned queries and the keys and values. -/
module

public import proofs.«01_k».proof.Proof.ProjSTile
public import proofs.«01_k».proof.Proof.Gen.ProjSIdeal.Frame
public import Idealize.ShloMosaic.Lib.Pipeline.ValueKit
public import Idealize.ShloMosaic.Lib.Pipeline.ReadBack

@[expose] public section

set_option maxRecDepth 16384

noncomputable section

namespace Cert.ProjSIdeal.Block

open Cert.ProjSIdeal Cert.ProjSIdeal.Gen Cert.ProjSIdeal.Tile Idealize.ShloMosaic

set_option maxHeartbeats 1000000 in
theorem outA7 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (arg12 : Memref sig .tc .vmem S256x768 .f32) (harg12 : arg12.IsWhole) (arg13 : Memref sig .tc .vmem S256x256 .f32) (harg13 : arg13.IsWhole) (arg14 : Memref sig .tc .vmem S256x128 .f32) (harg14 : arg14.IsWhole)
    (x0 : Vec Ideal S256x1024 .f32) (x1 : Vec Ideal S1x1024 .f32) (x2 : Vec Ideal S1024x3968 .bf16) (x3 : Vec Ideal S256x128 .f32) (x4 : Vec Ideal S256x128 .f32) (y : S256x512.Idx) :
    (out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y : EReal) = turned x0 x1 x2 x3 x4 (y 0) (1024 + (y 1).val) := by
  frame_open
  frame_out
  try rw [harg1.read_unread x0]
  try rw [harg2.read_unread x1]
  try rw [harg3.read_unread x2]
  try rw [harg4.read_unread x3]
  try rw [harg5.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S256x512) _ ![256, 128] (by sl_kernel_rfl) _)
  case piece0 =>
    rw [eq_ix2 x]
    refine (qr3 x0 x1 x2 x3 x4 (x 0) (x 1)).trans ?_
    exact congrArg₂ (turned x0 x1 x2 x3 x4) (Fin.ext (by omega)) (by omega)
  case piece1 =>
    rw [eq_ix2 x]
    refine (qr2 x0 x1 x2 x3 x4 (x 0) (x 1)).trans ?_
    exact congrArg₂ (turned x0 x1 x2 x3 x4) (Fin.ext (by omega)) (by omega)
  case piece2 =>
    rw [eq_ix2 x]
    refine (qr1 x0 x1 x2 x3 x4 (x 0) (x 1)).trans ?_
    exact congrArg₂ (turned x0 x1 x2 x3 x4) (Fin.ext (by omega)) (by omega)
  case piece3 =>
    rw [eq_ix2 x]
    refine (qr0 x0 x1 x2 x3 x4 (x 0) (x 1)).trans ?_
    exact congrArg₂ (turned x0 x1 x2 x3 x4) (Fin.ext (by omega)) (by omega)

theorem outA8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (arg12 : Memref sig .tc .vmem S256x768 .f32) (harg12 : arg12.IsWhole) (arg13 : Memref sig .tc .vmem S256x256 .f32) (harg13 : arg13.IsWhole) (arg14 : Memref sig .tc .vmem S256x128 .f32) (harg14 : arg14.IsWhole)
    (x0 : Vec Ideal S256x1024 .f32) (x1 : Vec Ideal S1x1024 .f32) (x2 : Vec Ideal S1024x3968 .bf16) (x3 : Vec Ideal S256x128 .f32) (x4 : Vec Ideal S256x128 .f32) (y : S256x512.Idx) :
    (out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y : EReal) = bKv x0 x1 x2 x3 x4 (y 0) (y 1).val := by
  frame_open
  frame_out
  try rw [harg1.read_unread x0]
  try rw [harg2.read_unread x1]
  try rw [harg3.read_unread x2]
  try rw [harg4.read_unread x3]
  try rw [harg5.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S256x512) _ ![256, 128] (by sl_kernel_rfl) _)
  case piece0 =>
    rw [eq_ix2 x]
    refine (kv2 x0 x1 x2 (x 0) (x 1)).trans ?_
    unfold bKv
    rw [if_neg (by omega)]
    exact congrArg₂ (lin x0 x1 x2) (Fin.ext (by omega)) (by omega)
  case piece1 =>
    rw [eq_ix2 x]
    refine (kv1 x0 x1 x2 x3 x4 (x 0) (x 1)).trans ?_
    unfold bKv
    rw [if_pos (by omega)]
    exact congrArg₂ (turned x0 x1 x2 x3 x4) (Fin.ext (by omega)) (by omega)
  case piece2 =>
    rw [eq_ix2 x]
    refine (kv0 x0 x1 x2 (x 0) (x 1)).trans ?_
    unfold bKv
    rw [if_neg (by omega)]
    exact congrArg₂ (lin x0 x1 x2) (Fin.ext (by omega)) (by omega)

theorem outA9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3968 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x1024 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x256 .f32) (harg10 : arg10.IsWhole) (arg11 : Memref sig .tc .vmem S256x512 .f32) (harg11 : arg11.IsWhole) (arg12 : Memref sig .tc .vmem S256x768 .f32) (harg12 : arg12.IsWhole) (arg13 : Memref sig .tc .vmem S256x256 .f32) (harg13 : arg13.IsWhole) (arg14 : Memref sig .tc .vmem S256x128 .f32) (harg14 : arg14.IsWhole)
    (x0 : Vec Ideal S256x1024 .f32) (x1 : Vec Ideal S1x1024 .f32) (x2 : Vec Ideal S1024x3968 .bf16) (x3 : Vec Ideal S256x128 .f32) (x4 : Vec Ideal S256x128 .f32) (y : S256x256.Idx) :
    (out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 y : EReal) = bWin x0 x1 x2 x3 x4 (y 0) (y 1).val := by
  frame_open
  frame_out
  try rw [harg1.read_unread x0]
  try rw [harg2.read_unread x1]
  try rw [harg3.read_unread x2]
  try rw [harg4.read_unread x3]
  try rw [harg5.read_unread x4]
  try rw [View.ld_unit_lit _ x0 (by decide)]
  try rw [View.ld_unit_lit _ x1 (by decide)]
  try rw [View.ld_unit_lit _ x3 (by decide)]
  try rw [View.ld_unit_lit _ x4 (by decide)]
  canon_tiles x h using (View.cover_of_tiledBy (s := S256x256) _ ![256, 128] (by sl_kernel_rfl) _)
  case piece0 =>
    rw [eq_ix2 x]
    refine (wn1 x0 x1 x2 (x 0) (x 1)).trans ?_
    unfold bWin
    rw [if_neg (by omega)]
    exact congrArg₂ (lin x0 x1 x2) (Fin.ext (by omega)) (by omega)
  case piece1 =>
    rw [eq_ix2 x]
    refine (wn0 x0 x1 x2 x3 x4 (x 0) (x 1)).trans ?_
    unfold bWin
    rw [if_pos (by omega)]
    exact congrArg₂ (turned x0 x1 x2 x3 x4) (Fin.ext (by omega)) (by omega)

end Cert.ProjSIdeal.Block

end
-- ==== Proof.ProjSArrays.lean ====
/- The projection of the sample kernel's nine result arrays: those of `ProjSSpec`. -/
module

public import proofs.«01_k».proof.Proof.ProjSTiles
public import proofs.«01_k».proof.Proof.ProjSBlockRet
public import proofs.«01_k».proof.Proof.ProjSBlockKv

@[expose] public section

set_option maxRecDepth 16384

noncomputable section

namespace Cert.ProjSIdeal.Arrays

open Cert.ProjSIdeal Cert.ProjSIdeal.Gen Cert.ProjSIdeal.Tile Cert.ProjSIdeal.Args Cert.ProjSSpec Idealize.ShloMosaic Idealize.ShloMosaic.TcCoe
open Idealize.ShloMosaic.Pipeline (Dat)

variable (m : (ℓ : Loc nD τ sig) → Buf (Elt Ideal) ℓ) (c : Dev nD)

/-- A row of the block among the rows of all batches. -/
def flat (t : Fin cfg0.N) (r : Fin 256) : Fin 256 := r

theorem ret_block (t : Fin cfg0.N) (y : S256x1024.Idx) :
    ((outsAt0 m c t).1 y : EReal) = (data m c).ret (bat (y 0)) (pos (y 0)) (y 1).val := by
  have hy : (y 1).val < 1024 := (y 1).isLt
  unfold outsAt0
  dsimp only
  rw [Block.outA5]
  exact ret_eq m c t (y 0) (y 1)

/-- Result 0 after the run. -/
theorem result0 : (dats m 0 c).arrAt 5 cfg0.N = (data m c).retArr := by
  refine (dats m 0 c).arrAt_eq_of_covers 5 _ (by decide +kernel) fun t hf y => ?_
  blk_simp
  rw [after0_5]
  refine (ret_block m c t y).trans ?_
  show (data m c).retArr (ix2 (flat t (y 0)) (y 1)) = _
  refine congrArg (data m c).retArr ?_
  unfold flat
  blk_ext [idx t]

theorem q_block (t : Fin cfg0.N) (y : S256x512.Idx) :
    ((outsAt0 m c t).2.1 y : EReal) = (data m c).u (bat (y 0)) (pos (y 0)) (1024 + (y 1).val) := by
  have hy : (y 1).val < 512 := (y 1).isLt
  unfold outsAt0
  dsimp only
  rw [Block.outA6]
  exact (lin_eq m c t (y 0) (by omega)).trans (src_a _ (by omega))

/-- Result 1 after the run. -/
theorem result1 : (dats m 0 c).arrAt 6 cfg0.N = (data m c).qArr := by
  refine (dats m 0 c).arrAt_eq_of_covers 6 _ (by decide +kernel) fun t hf y => ?_
  blk_simp
  rw [after0_6]
  refine (q_block m c t y).trans ?_
  show (data m c).qArr (ix2 (flat t (y 0)) (y 1)) = _
  refine congrArg (data m c).qArr ?_
  unfold flat
  blk_ext [idx t]

theorem qr_block (t : Fin cfg0.N) (y : S256x512.Idx) :
    ((outsAt0 m c t).2.2.1 y : EReal) = (data m c).turn (bat (y 0)) (pos (y 0)) (1024 + (y 1).val) := by
  have hy : (y 1).val < 512 := (y 1).isLt
  unfold outsAt0
  dsimp only
  rw [Block.outA7]
  exact turned_eq m c t (y 0) (by omega)

/-- Result 2 after the run. -/
theorem result2 : (dats m 0 c).arrAt 7 cfg0.N = (data m c).qrArr := by
  refine (dats m 0 c).arrAt_eq_of_covers 7 _ (by decide +kernel) fun t hf y => ?_
  blk_simp
  rw [after0_7]
  refine (qr_block m c t y).trans ?_
  show (data m c).qrArr (ix2 (flat t (y 0)) (y 1)) = _
  refine congrArg (data m c).qrArr ?_
  unfold flat
  blk_ext [idx t]

theorem kv_block (t : Fin cfg0.N) (y : S256x512.Idx) :
    ((outsAt0 m c t).2.2.2.1 y : EReal) = (data m c).kv (bat (y 0)) (pos (y 0)) (y 1).val := by
  have hy : (y 1).val < 512 := (y 1).isLt
  unfold outsAt0
  dsimp only
  rw [Block.outA8]
  exact kv_eq m c t (y 0) (y 1)

/-- Result 3 after the run. -/
theorem result3 : (dats m 0 c).arrAt 8 cfg0.N = (data m c).kvArr := by
  refine (dats m 0 c).arrAt_eq_of_covers 8 _ (by decide +kernel) fun t hf y => ?_
  blk_simp
  rw [after0_8]
  refine (kv_block m c t y).trans ?_
  show (data m c).kvArr (ix2 (flat t (y 0)) (y 1)) = _
  refine congrArg (data m c).kvArr ?_
  unfold flat
  blk_ext [idx t]

theorem win_block (t : Fin cfg0.N) (y : S256x256.Idx) :
    ((outsAt0 m c t).2.2.2.2.1 y : EReal) = (data m c).win (bat (y 0)) (pos (y 0)) (y 1).val := by
  have hy : (y 1).val < 256 := (y 1).isLt
  unfold outsAt0
  dsimp only
  rw [Block.outA9]
  exact win_eq m c t (y 0) (y 1)

/-- Result 4 after the run. -/
theorem result4 : (dats m 0 c).arrAt 9 cfg0.N = (data m c).winArr := by
  refine (dats m 0 c).arrAt_eq_of_covers 9 _ (by decide +kernel) fun t hf y => ?_
  blk_simp
  rw [after0_9]
  refine (win_block m c t y).trans ?_
  show (data m c).winArr (ix2 (flat t (y 0)) (y 1)) = _
  refine congrArg (data m c).winArr ?_
  unfold flat
  blk_ext [idx t]

theorem ng_block (t : Fin cfg0.N) (y : S256x512.Idx) :
    ((outsAt0 m c t).2.2.2.2.2.1 y : EReal) = (data m c).u (bat (y 0)) (pos (y 0)) (2328 + (y 1).val) := by
  have hy : (y 1).val < 512 := (y 1).isLt
  unfold outsAt0
  dsimp only
  rw [Block.outA10]
  refine (lin_eq m c t (y 0) (by omega)).trans ((src_b _ (by omega) (by omega)).trans (congrArg _ (by omega)))

/-- Result 5 after the run. -/
theorem result5 : (dats m 0 c).arrAt 10 cfg0.N = (data m c).ngArr := by
  refine (dats m 0 c).arrAt_eq_of_covers 10 _ (by decide +kernel) fun t hf y => ?_
  blk_simp
  rw [after0_10]
  refine (ng_block m c t y).trans ?_
  show (data m c).ngArr (ix2 (flat t (y 0)) (y 1)) = _
  refine congrArg (data m c).ngArr ?_
  unfold flat
  blk_ext [idx t]

theorem gq_block (t : Fin cfg0.N) (y : S256x768.Idx) :
    ((outsAt0 m c t).2.2.2.2.2.2.1 y : EReal) = (data m c).u (bat (y 0)) (pos (y 0)) (2840 + (y 1).val) := by
  have hy : (y 1).val < 768 := (y 1).isLt
  unfold outsAt0
  dsimp only
  rw [Block.outA11]
  refine (lin_eq m c t (y 0) (by omega)).trans ((src_b _ (by omega) (by omega)).trans (congrArg _ (by omega)))

/-- Result 6 after the run. -/
theorem result6 : (dats m 0 c).arrAt 11 cfg0.N = (data m c).gqArr := by
  refine (dats m 0 c).arrAt_eq_of_covers 11 _ (by decide +kernel) fun t hf y => ?_
  blk_simp
  rw [after0_11]
  refine (gq_block m c t y).trans ?_
  show (data m c).gqArr (ix2 (flat t (y 0)) (y 1)) = _
  refine congrArg (data m c).gqArr ?_
  unfold flat
  blk_ext [idx t]

theorem gg_block (t : Fin cfg0.N) (y : S256x256.Idx) :
    ((outsAt0 m c t).2.2.2.2.2.2.2.1 y : EReal) = (data m c).u (bat (y 0)) (pos (y 0)) (3616 + (y 1).val) := by
  have hy : (y 1).val < 256 := (y 1).isLt
  unfold outsAt0
  dsimp only
  rw [Block.outA12]
  refine (lin_eq m c t (y 0) (by omega)).trans ((src_c _ (by omega) (by omega)).trans (congrArg _ (by omega)))

/-- Result 7 after the run. -/
theorem result7 : (dats m 0 c).arrAt 12 cfg0.N = (data m c).ggArr := by
  refine (dats m 0 c).arrAt_eq_of_covers 12 _ (by decide +kernel) fun t hf y => ?_
  blk_simp
  rw [after0_12]
  refine (gg_block m c t y).trans ?_
  show (data m c).ggArr (ix2 (flat t (y 0)) (y 1)) = _
  refine congrArg (data m c).ggArr ?_
  unfold flat
  blk_ext [idx t]

theorem small_block (t : Fin cfg0.N) (y : S256x128.Idx) :
    ((outsAt0 m c t).2.2.2.2.2.2.2.2 y : EReal) = (data m c).small (bat (y 0)) (pos (y 0)) (y 1).val := by
  have hy : (y 1).val < 128 := (y 1).isLt
  unfold outsAt0
  dsimp only
  rw [Block.outA13]
  exact small_eq m c t (y 0) (y 1)

/-- Result 8 after the run. -/
theorem result8 : (dats m 0 c).arrAt 13 cfg0.N = (data m c).smallArr := by
  refine (dats m 0 c).arrAt_eq_of_covers 13 _ (by decide +kernel) fun t hf y => ?_
  blk_simp
  rw [after0_13]
  refine (small_block m c t y).trans ?_
  show (data m c).smallArr (ix2 (flat t (y 0)) (y 1)) = _
  refine congrArg (data m c).smallArr ?_
  unfold flat
  blk_ext [idx t]

end Cert.ProjSIdeal.Arrays

end
-- ==== Proof.ProjSRefRow.lean ====
/- The reference's projection of the sample: the normalized rows times the weights and the rotations. -/
module

public import proofs.«01_k».proof.Proof.ProjSSpec
public import proofs.«01_k».proof.Proof.Gen.ProjSRefIdeal.Run
public import Idealize.ShloMosaic.Lib.Tactic.CleanTypes

@[expose] public section

set_option maxRecDepth 16384

noncomputable section

namespace Cert.ProjSRefIdeal.Row

open Cert.ProjSRefIdeal Cert.ProjSRefIdeal.Value Cert.ProjSSpec Idealize.ShloMosaic Idealize.ShloMosaic.TcCoe

variable (V0 : Valuation τ sig (Elt Ideal))

abbrev aX : S32x8x1024.Idx → EReal := V0 (Proc.devRef .tc main_arg0)
abbrev aG : S1x1024.Idx → EReal := V0 (Proc.devRef .tc main_arg1)
abbrev aW : S1024x3872.Idx → EReal := V0 (Proc.devRef .tc main_arg2)

/-- What the arguments hold. -/
def data : Data where
  X b t k := aX V0 (ix3 b t k)
  gain k := aG V0 (ix2 0 k)
  W k j := aW V0 (ix2 k j)

theorem u_eq (b : Fin 32) (t : Fin 8) (j : Fin 3872) : res_main_v16 V0 (ix3 b t j) = (data V0).u b t j.val := by
  unfold Data.u
  rw [dif_pos j.isLt]
  unfold res_main_v16
  clean_types
  pointwise [res_main_v2]
  rfl

theorem cos1 (t : Fin 8) (j : Fin 32) : res_main_v32 V0 (ix3 t 0 j) = cosAt t.val j.val := by
  unfold res_main_v32 res_main_v30
  clean_types
  pointwise [res_main_v2]
  rfl
theorem sin1 (t : Fin 8) (j : Fin 32) : res_main_v34 V0 (ix3 t 0 j) = sinAt t.val j.val := by
  unfold res_main_v34 res_main_v30
  clean_types
  pointwise [res_main_v2]
  rfl
theorem cos2 (t : Fin 8) (j : Fin 32) : res_main_v67 V0 (ix3 t 0 j) = cosAt t.val j.val := by
  unfold res_main_v67 res_main_v65
  clean_types
  pointwise [res_main_v2]
  rfl
theorem sin2 (t : Fin 8) (j : Fin 32) : res_main_v69 V0 (ix3 t 0 j) = sinAt t.val j.val := by
  unfold res_main_v69 res_main_v65
  clean_types
  pointwise [res_main_v2]
  rfl
theorem cos3 (t : Fin 8) (j : Fin 32) : res_main_v117 V0 (ix3 t 0 j) = cosAt t.val j.val := by
  unfold res_main_v117 res_main_v115
  clean_types
  pointwise [res_main_v2]
  rfl
theorem sin3 (t : Fin 8) (j : Fin 32) : res_main_v119 V0 (ix3 t 0 j) = sinAt t.val j.val := by
  unfold res_main_v119 res_main_v115
  clean_types
  pointwise [res_main_v2]
  rfl
theorem cos4 (t : Fin 8) (j : Fin 32) : res_main_v159 V0 (ix3 t 0 j) = cosAt t.val j.val := by
  unfold res_main_v159 res_main_v157
  clean_types
  pointwise [res_main_v2]
  rfl
theorem sin4 (t : Fin 8) (j : Fin 32) : res_main_v161 V0 (ix3 t 0 j) = sinAt t.val j.val := by
  unfold res_main_v161 res_main_v157
  clean_types
  pointwise [res_main_v2]
  rfl
theorem cos5 (t : Fin 8) (j : Fin 32) : res_main_v202 V0 (ix3 t 0 j) = cosAt t.val j.val := by
  unfold res_main_v202 res_main_v200
  clean_types
  pointwise [res_main_v2]
  rfl
theorem sin5 (t : Fin 8) (j : Fin 32) : res_main_v204 V0 (ix3 t 0 j) = sinAt t.val j.val := by
  unfold res_main_v204 res_main_v200
  clean_types
  pointwise [res_main_v2]
  rfl

end Cert.ProjSRefIdeal.Row

end
-- ==== Proof.ProjSRefArrays.lean ====
/- The reference's results, entry by entry.  -/
module

public import proofs.«01_k».proof.Proof.ProjSRefRow

@[expose] public section

set_option maxRecDepth 16384

noncomputable section

namespace Cert.ProjSRefIdeal.Arrays

open Cert.ProjSRefIdeal Cert.ProjSRefIdeal.Value Cert.ProjSRefIdeal.Row Cert.ProjSSpec Idealize.ShloMosaic Idealize.ShloMosaic.TcCoe

variable (V0 : Valuation τ sig (Elt Ideal))

theorem q_arr : val5 V0 (Proc.devRef .tc main_v188) = (data V0).qArr := by
  refine (val5_main_v188 V0).trans (funext fun y => ?_)
  idx_vars y
  unfold res_main_v95
  clean_types
  pointwise
  simp only [u_eq]
  rfl

theorem ng_arr : val5 V0 (Proc.devRef .tc main_v226) = (data V0).ngArr := by
  refine (val5_main_v226 V0).trans (funext fun y => ?_)
  idx_vars y
  clean_types
  pointwise
  simp only [u_eq]
  rfl

theorem gq_arr : val5 V0 (Proc.devRef .tc main_v228) = (data V0).gqArr := by
  refine (val5_main_v228 V0).trans (funext fun y => ?_)
  idx_vars y
  clean_types
  pointwise
  simp only [u_eq]
  rfl

theorem gg_arr : val5 V0 (Proc.devRef .tc main_v230) = (data V0).ggArr := by
  refine (val5_main_v230 V0).trans (funext fun y => ?_)
  idx_vars y
  clean_types
  pointwise
  simp only [u_eq]
  rfl

theorem small_lo (D : Data) (r : Fin 256) (j : Fin 128) (h : j.val < 24) : D.u (bat r) (pos r) (2304 + j.val) = D.smallArr (ix2 r j) :=
  (if_pos h).symm

theorem small_mid (D : Data) (r : Fin 256) (j : Fin 128) (h : ¬j.val < 24) (h' : j.val < 32) :
    D.u (bat r) (pos r) (3584 + j.val) = D.smallArr (ix2 r j) := by
  show _ = D.small (bat r) (pos r) j.val
  rw [Data.small, if_neg h, if_pos h']

theorem small_hi (D : Data) (r : Fin 256) (j : Fin 128) (h : ¬j.val < 32) : 0 = D.smallArr (ix2 r j) := by
  show _ = D.small (bat r) (pos r) j.val
  rw [Data.small, if_neg (by omega), if_neg h]

set_option maxHeartbeats 1000000 in
theorem small_arr : val5 V0 (Proc.devRef .tc main_v231) = (data V0).smallArr := by
  refine (val5_main_v231 V0).trans (funext fun y => ?_)
  idx_vars y
  clean_types
  pointwise
  simp only [u_eq]
  split
  · rename_i h
    split
    · exact small_lo (data V0) y0 y1 (by omega)
    · rename_i h'
      refine Eq.trans ?_ (small_mid (data V0) y0 y1 (by omega) (by omega))
      exact congrArg _ (by omega)
  · refine Eq.trans ?_ (small_hi (data V0) y0 y1 (by omega))
    show (((0#32 : BitVec 32).toInt : ℝ) : EReal) = 0
    simp

end Cert.ProjSRefIdeal.Arrays

end
-- ==== Proof.ProjSRefTurn.lean ====
/- The reference's turned results, entry by entry.  -/
module

public import proofs.«01_k».proof.Proof.ProjSRefRow

@[expose] public section

set_option maxRecDepth 16384

noncomputable section

namespace Cert.ProjSRefIdeal.Arrays

open Cert.ProjSRefIdeal Cert.ProjSRefIdeal.Value Cert.ProjSRefIdeal.Row Cert.ProjSSpec Idealize.ShloMosaic Idealize.ShloMosaic.TcCoe

variable (V0 : Valuation τ sig (Elt Ideal))

theorem qr_at (D : Data) (r : Fin 256) (j : Fin 512) : D.turn (bat r) (pos r) (1024 + j.val) = D.qrArr (ix2 r j) := rfl

set_option maxHeartbeats 1000000 in
theorem qr_arr : val5 V0 (Proc.devRef .tc main_v222) = (data V0).qrArr := by
  refine (val5_main_v222 V0).trans (funext fun y => ?_)
  idx_vars y
  unfold res_main_v205 res_main_v206 res_main_v95
  clean_types
  pointwise
  simp only [u_eq, cos5, sin5]
  refine Eq.trans ?_ (qr_at (data V0) y0 y1)
  split
  · exact (data V0).turn_lo _ _ (by omega) (by omega) (by omega) rfl (by omega) (by omega)
  · exact (data V0).turn_hi _ _ (by omega) (by omega) (by omega) rfl (by omega) (by omega)

theorem ret_lo (D : Data) (r : Fin 256) (j : Fin 1024) (h : j.val < 256) : D.turn (bat r) (pos r) j.val = D.retArr (ix2 r j) :=
  (if_pos h).symm

theorem ret_mid (D : Data) (r : Fin 256) (j : Fin 1024) (h : ¬j.val < 256) (h' : j.val < 512) :
    D.turn (bat r) (pos r) j.val * Ideal.ofBits .f32 0x3E000000#32 = D.retArr (ix2 r j) := by
  show _ = D.ret (bat r) (pos r) j.val
  rw [Data.ret, if_neg h, if_pos h']

theorem ret_hi (D : Data) (r : Fin 256) (j : Fin 1024) (h : ¬j.val < 256) (h' : ¬j.val < 512) :
    D.u (bat r) (pos r) j.val = D.retArr (ix2 r j) := by
  show _ = D.ret (bat r) (pos r) j.val
  rw [Data.ret, if_neg h, if_neg h']

set_option maxHeartbeats 2000000 in
theorem ret_arr : val5 V0 (Proc.devRef .tc main_v93) = (data V0).retArr := by
  refine (val5_main_v93 V0).trans (funext fun y => ?_)
  idx_vars y
  unfold res_main_v35 res_main_v36 res_main_v18 res_main_v70 res_main_v71 res_main_v53
  clean_types
  pointwise
  simp only [u_eq, cos1, sin1, cos2, sin2]
  split
  · rename_i h
    refine Eq.trans ?_ (ret_lo (data V0) y0 y1 (by omega))
    split
    · exact (data V0).turn_lo _ _ (by omega) (by omega) (by omega) rfl (by omega) (by omega)
    · exact (data V0).turn_hi _ _ (by omega) (by omega) (by omega) rfl (by omega) (by omega)
  · rename_i h
    split
    · rename_i h'
      refine Eq.trans ?_ (ret_mid (data V0) y0 y1 (by omega) (by omega))
      refine congrArg (· * _) ?_
      split
      · exact (data V0).turn_lo _ _ (by omega) (by omega) (by omega) rfl (by omega) (by omega)
      · exact (data V0).turn_hi _ _ (by omega) (by omega) (by omega) rfl (by omega) (by omega)
    · rename_i h'
      refine Eq.trans ?_ (ret_hi (data V0) y0 y1 (by omega) (by omega))
      exact congrArg _ (by omega)

end Cert.ProjSRefIdeal.Arrays

end
-- ==== Proof.ProjSRefKv.lean ====
/- The reference's keys and values, entry by entry.  -/
module

public import proofs.«01_k».proof.Proof.ProjSRefRow

@[expose] public section

set_option maxRecDepth 16384

noncomputable section

namespace Cert.ProjSRefIdeal.Arrays

open Cert.ProjSRefIdeal Cert.ProjSRefIdeal.Gen Cert.ProjSRefIdeal.Value Cert.ProjSRefIdeal.Row Cert.ProjSSpec Idealize.ShloMosaic Idealize.ShloMosaic.TcCoe

variable (V0 : Valuation τ sig (Elt Ideal))

theorem kv_flat (R : FVec Ideal S32x8x4x2x64 .f32) (r : Fin 256) (j : Fin 512) :
    shapeCast S256x512 R shapeCasts_S32x8x4x2x64_S256x512 (ix2 r j)
      = R (ix5 (bat r) (pos r) ⟨j.val / 128, by omega⟩ ⟨j.val / 64 % 2, by omega⟩ ⟨j.val % 64, by omega⟩) := by
  pointwise
  rfl

theorem win_flat (R : FVec Ideal S32x8x2x2x64 .f32) (r : Fin 256) (j : Fin 256) :
    shapeCast S256x256 R shapeCasts_S32x8x2x2x64_S256x256 (ix2 r j)
      = R (ix5 (bat r) (pos r) ⟨j.val / 128, by omega⟩ ⟨j.val / 64 % 2, by omega⟩ ⟨j.val % 64, by omega⟩) := by
  pointwise
  rfl

/-- The flattened rows, from the rows head by head. -/
theorem kv_of (R : FVec Ideal S32x8x4x2x64 .f32) (D : Data)
    (hR : ∀ (b : Fin 32) (t : Fin 8) (i : Fin 4) (h : Fin 2) (j : Fin 64), R (ix5 b t i h j) = D.kv b t (128 * i.val + 64 * h.val + j.val)) :
    shapeCast S256x512 R shapeCasts_S32x8x4x2x64_S256x512 = D.kvArr := by
  funext y
  rw [eq_ix2 y]
  refine (kv_flat R (y 0) (y 1)).trans ((hR _ _ _ _ _).trans (congrArg (D.kv _ _) ?_))
  show 128 * ((y 1).val / 128) + 64 * ((y 1).val / 64 % 2) + (y 1).val % 64 = (y 1).val
  omega

@[inherit_doc kv_of] theorem win_of (R : FVec Ideal S32x8x2x2x64 .f32) (D : Data)
    (hR : ∀ (b : Fin 32) (t : Fin 8) (i : Fin 2) (h : Fin 2) (j : Fin 64), R (ix5 b t i h j) = D.win b t (128 * i.val + 64 * h.val + j.val)) :
    shapeCast S256x256 R shapeCasts_S32x8x2x2x64_S256x256 = D.winArr := by
  funext y
  rw [eq_ix2 y]
  refine (win_flat R (y 0) (y 1)).trans ((hR _ _ _ _ _).trans (congrArg (D.win _ _) ?_))
  show 128 * ((y 1).val / 128) + 64 * ((y 1).val / 64 % 2) + (y 1).val % 64 = (y 1).val
  omega

theorem kv_arr : val5 V0 (Proc.devRef .tc main_v223) = (data V0).kvArr := by
  refine (val5_main_v223 V0).trans (kv_of _ (data V0) fun b t i h j => ?_)
  unfold res_main_v121 res_main_v120 res_main_v103 res_main_v97
  clean_types
  pointwise
  simp only [u_eq, cos3, sin3]
  unfold Data.kv
  split
  · rw [if_neg (by omega)]
    exact congrArg _ (by omega)
  · split
    · rw [if_neg (by omega)]
      exact congrArg _ (by omega)
    · split
      · rw [if_pos (by omega)]
        split
        · exact (data V0).turn_lo _ _ (by omega) (by omega) (by omega) rfl (by omega) (by omega)
        · exact (data V0).turn_hi _ _ (by omega) (by omega) (by omega) rfl (by omega) (by omega)
      · rw [if_neg (by omega)]
        exact congrArg _ (by omega)

theorem win_arr : val5 V0 (Proc.devRef .tc main_v224) = (data V0).winArr := by
  refine (val5_main_v224 V0).trans (win_of _ (data V0) fun b t i h j => ?_)
  unfold res_main_v163 res_main_v162 res_main_v145 res_main_v97
  clean_types
  pointwise
  simp only [u_eq, cos4, sin4]
  unfold Data.win
  split
  · rw [if_pos (by omega)]
    split
    · exact (data V0).turn_lo _ _ (by omega) (by omega) (by omega) rfl (by omega) (by omega)
    · exact (data V0).turn_hi _ _ (by omega) (by omega) (by omega) rfl (by omega) (by omega)
  · rw [if_neg (by omega)]
    exact congrArg _ (by omega)

end Cert.ProjSRefIdeal.Arrays

end
-- ==== Proof.ProjSClaim.lean ====
/- The projection of the sample's claims: the reference's run, and the nine results of the kernel and of the reference. -/
module

public import proofs.«01_k».proof.Defs
public import proofs.«01_k».proof.Proof.ProjSArrays
public import proofs.«01_k».proof.Proof.ProjSRefArrays
public import proofs.«01_k».proof.Proof.ProjSRefTurn
public import proofs.«01_k».proof.Proof.ProjSRefKv

@[expose] public section

noncomputable section

namespace Cert.Proof.ProjS

open Idealize.ShloMosaic Idealize.SL.Sem

/-- The reference's run leaves every counter at zero. -/
theorem frame_ref : Cert.quiescent_ProjSRefIdeal := fun m ρ _ =>
  (θ_run Cert.ProjSRefIdeal.defs _ _).mono
    (fun r h => ⟨fun c => (h c).2.2.2.2.2.2.2.2.2, Idealize.ShloMosaic.sem_eq_zero_of_no_sems (by decide) r.2⟩)
    (Cert.ProjSRefIdeal.Value.run (F := Ideal) m ρ)

/-- Over the reals the kernel's nine results are the reference's. -/
theorem algebraic : Cert.algebraic_ProjSIdeal_ProjSRefIdeal := by
  intro m ρ m' ρ' _ hagree
  have e : ∀ c, Cert.ProjSRefIdeal.Row.data (StableHlo.launchContents m' c) = Cert.ProjSIdeal.Args.data m c := fun c => by
    obtain ⟨h0, h1, h2⟩ := hagree c
    unfold Cert.ProjSIdeal.Args.data Cert.ProjSIdeal.Args.aX Cert.ProjSIdeal.Args.aG Cert.ProjSIdeal.Args.aW
    rw [← h0, ← h1, ← h2]
    rfl
  refine ⟨_, _, _, _, _, _, _, _, _, (θ_run _ _ _).mono (fun _ h c => ⟨((h c).1).trans (Cert.ProjSIdeal.Arrays.result0 m c),
    ((h c).2.1).trans (Cert.ProjSIdeal.Arrays.result1 m c),
    ((h c).2.2.1).trans (Cert.ProjSIdeal.Arrays.result2 m c),
    ((h c).2.2.2.1).trans (Cert.ProjSIdeal.Arrays.result3 m c),
    ((h c).2.2.2.2.1).trans (Cert.ProjSIdeal.Arrays.result4 m c),
    ((h c).2.2.2.2.2.1).trans (Cert.ProjSIdeal.Arrays.result5 m c),
    ((h c).2.2.2.2.2.2.1).trans (Cert.ProjSIdeal.Arrays.result6 m c),
    ((h c).2.2.2.2.2.2.2.1).trans (Cert.ProjSIdeal.Arrays.result7 m c),
    ((h c).2.2.2.2.2.2.2.2.1).trans (Cert.ProjSIdeal.Arrays.result8 m c),
    (h c).2.2.2.2.2.2.2.2.2⟩) (Cert.ProjSIdeal.Value.run_blocks m ρ), ?_⟩
  exact (θ_run _ _ _).mono (fun _ h c => ⟨((h c).1).trans ((Cert.ProjSRefIdeal.Value.val5_main_v93 _).symm.trans ((Cert.ProjSRefIdeal.Arrays.ret_arr _).trans (congrArg Cert.ProjSSpec.Data.retArr (e c)))),
    ((h c).2.1).trans ((Cert.ProjSRefIdeal.Value.val5_main_v188 _).symm.trans ((Cert.ProjSRefIdeal.Arrays.q_arr _).trans (congrArg Cert.ProjSSpec.Data.qArr (e c)))),
    ((h c).2.2.1).trans ((Cert.ProjSRefIdeal.Value.val5_main_v222 _).symm.trans ((Cert.ProjSRefIdeal.Arrays.qr_arr _).trans (congrArg Cert.ProjSSpec.Data.qrArr (e c)))),
    ((h c).2.2.2.1).trans ((Cert.ProjSRefIdeal.Value.val5_main_v223 _).symm.trans ((Cert.ProjSRefIdeal.Arrays.kv_arr _).trans (congrArg Cert.ProjSSpec.Data.kvArr (e c)))),
    ((h c).2.2.2.2.1).trans ((Cert.ProjSRefIdeal.Value.val5_main_v224 _).symm.trans ((Cert.ProjSRefIdeal.Arrays.win_arr _).trans (congrArg Cert.ProjSSpec.Data.winArr (e c)))),
    ((h c).2.2.2.2.2.1).trans ((Cert.ProjSRefIdeal.Value.val5_main_v226 _).symm.trans ((Cert.ProjSRefIdeal.Arrays.ng_arr _).trans (congrArg Cert.ProjSSpec.Data.ngArr (e c)))),
    ((h c).2.2.2.2.2.2.1).trans ((Cert.ProjSRefIdeal.Value.val5_main_v228 _).symm.trans ((Cert.ProjSRefIdeal.Arrays.gq_arr _).trans (congrArg Cert.ProjSSpec.Data.gqArr (e c)))),
    ((h c).2.2.2.2.2.2.2.1).trans ((Cert.ProjSRefIdeal.Value.val5_main_v230 _).symm.trans ((Cert.ProjSRefIdeal.Arrays.gg_arr _).trans (congrArg Cert.ProjSSpec.Data.ggArr (e c)))),
    ((h c).2.2.2.2.2.2.2.2.1).trans ((Cert.ProjSRefIdeal.Value.val5_main_v231 _).symm.trans ((Cert.ProjSRefIdeal.Arrays.small_arr _).trans (congrArg Cert.ProjSSpec.Data.smallArr (e c)))),
    (h c).2.2.2.2.2.2.2.2.2⟩) (Cert.ProjSRefIdeal.Value.run m' ρ')

end Cert.Proof.ProjS

end
-- ==== Proof.lean ====
module

public import proofs.«01_k».proof.Proof.Gen.ProjIdeal.Value
public import proofs.«01_k».proof.Proof.Gen.ProjRefIdeal.Run
public import proofs.«01_k».proof.Proof.Gen.RetIdeal.Value
public import proofs.«01_k».proof.Proof.Gen.RetRefIdeal.Run
public import proofs.«01_k».proof.Proof.KernelArrays
public import proofs.«01_k».proof.Proof.RefArrays
public import proofs.«01_k».proof.Proof.ProjClaim
public import proofs.«01_k».proof.Proof.OutClaim
public import proofs.«01_k».proof.Proof.OutSClaim
public import proofs.«01_k».proof.Proof.ProjSClaim
public import proofs.«01_k».proof.Proof.Gen.ProjS
public import proofs.«01_k».proof.Proof.Gen.ProjS.Frame
public import proofs.«01_k».proof.Proof.Gen.ProjSIdeal.Value
public import proofs.«01_k».proof.Proof.Gen.ProjSRefIdeal.Run
public import proofs.«01_k».proof.Proof.Gen.Out
public import proofs.«01_k».proof.Proof.Gen.Out.Frame
public import proofs.«01_k».proof.Proof.Gen.OutIdeal.Value
public import proofs.«01_k».proof.Proof.Gen.OutRefIdeal.Run
public import proofs.«01_k».proof.Proof.Gen.OutS
public import proofs.«01_k».proof.Proof.Gen.OutS.Frame
public import proofs.«01_k».proof.Proof.Gen.OutSIdeal.Value
public import proofs.«01_k».proof.Proof.Gen.OutSRefIdeal.Run
public import proofs.«01_k».proof.Proof.Gen.Proj
public import proofs.«01_k».proof.Proof.Gen.Proj.Frame
public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import Idealize.ShloMosaic.Adequacy
public import Idealize.ShloMosaic.Init

@[expose] public section

noncomputable section

namespace Cert.Proof

open Idealize.ShloMosaic Idealize.SL.Sem Cert.Ret

/-- The kernel's four constants are named within their rounding. -/
theorem preserves : Cert.preserves_Ret_RetIdeal :=
  ⟨IdealRules.named_const.statement _ _ _ _ _ rfl, IdealRules.named_const.statement _ _ _ _ _ rfl,
    IdealRules.named_const.statement _ _ _ _ _ rfl, IdealRules.named_const.statement _ _ _ _ _ rfl⟩

/-- The reference's run leaves every counter at zero. -/
theorem frame_ref : Cert.quiescent_RetRefIdeal := fun m ρ _ =>
  (θ_run Cert.RetRefIdeal.defs _ _).mono
    (fun r h => ⟨fun c => (h c).2.2, Idealize.ShloMosaic.sem_eq_zero_of_no_sems (by decide) r.2⟩)
    (Cert.RetRefIdeal.Value.run (F := Ideal) m ρ)

/-- Over the reals the kernel's outputs and last states are the reference's. -/
theorem algebraic : Cert.algebraic_RetIdeal_RetRefIdeal := by
  intro m ρ m' ρ' _ hagree
  have e : ∀ c, Cert.RetRefIdeal.Arrays.data m' c = Cert.RetIdeal.Tile.data m c := fun c => by
    obtain ⟨h0, h1, h2⟩ := hagree c
    unfold Cert.RetRefIdeal.Arrays.data Cert.RetIdeal.Tile.data
    rw [h0, h1, h2]
  refine ⟨_, _, (θ_run _ _ _).mono (fun _ h c => ⟨(h c).1.trans (Cert.RetIdeal.Arrays.out_eq m c),
    (h c).2.1.trans (Cert.RetIdeal.Arrays.state_eq m c), (h c).2.2⟩) (Cert.RetIdeal.Value.run_blocks m ρ), ?_⟩
  refine (θ_run _ _ _).mono (fun _ h c => ⟨(h c).1.trans ?_, (h c).2.1.trans ?_, (h c).2.2⟩) (Cert.RetRefIdeal.Value.run m' ρ')
  · exact (Cert.RetRefIdeal.Arrays.out_eq m' c).trans (congrArg _ (e c))
  · exact (Cert.RetRefIdeal.Arrays.state_eq m' c).trans (congrArg _ (e c))

theorem claim : Cert.Claim := ⟨Cert.Ret.Gen.facts, Cert.RetIdeal.Gen.facts, Cert.RetRefIdeal.Gen.facts,
  Cert.Proj.Gen.facts, Cert.ProjIdeal.Gen.facts, Cert.ProjRefIdeal.Gen.facts,
  Cert.Out.Gen.facts, Cert.OutIdeal.Gen.facts, Cert.OutRefIdeal.Gen.facts,
  Cert.OutS.Gen.facts, Cert.OutSIdeal.Gen.facts, Cert.OutSRefIdeal.Gen.facts,
  Cert.ProjS.Gen.facts, Cert.ProjSIdeal.Gen.facts, Cert.ProjSRefIdeal.Gen.facts,
  fun m ρ _ => Cert.Ret.Gen.frame m ρ, fun m ρ _ => Cert.RetIdeal.Gen.frame m ρ, frame_ref,
  fun m ρ _ => Cert.Proj.Gen.frame m ρ, fun m ρ _ => Cert.ProjIdeal.Gen.frame m ρ, Proj.frame_ref,
  fun m ρ _ => Cert.Out.Gen.frame m ρ, fun m ρ _ => Cert.OutIdeal.Gen.frame m ρ, Out.frame_ref,
  fun m ρ _ => Cert.OutS.Gen.frame m ρ, fun m ρ _ => Cert.OutSIdeal.Gen.frame m ρ, OutS.frame_ref,
  fun m ρ _ => Cert.ProjS.Gen.frame m ρ, fun m ρ _ => Cert.ProjSIdeal.Gen.frame m ρ, ProjS.frame_ref,
  preserves, algebraic, trivial, Proj.algebraic, trivial, Out.algebraic,
  trivial, OutS.algebraic, trivial, ProjS.algebraic⟩

end Cert.Proof

end
